-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8)
      ∧ r.2.mem ((c.tc : Thread Cert.Kernel28.nD Cert.Kernel28.τ).loc Cert.Kernel28.main_arg9) = m ((c.tc : Thread Cert.Kernel28.nD Cert.Kernel28.τ).loc Cert.Kernel28.main_arg9)
      ∧ r.2.mem ((c.tc : Thread Cert.Kernel28.nD Cert.Kernel28.τ).loc Cert.Kernel28.main_arg10) = m ((c.tc : Thread Cert.Kernel28.nD Cert.Kernel28.τ).loc Cert.Kernel28.main_arg10)
      ∧ r.2.mem ((c.tc : Thread Cert.Kernel28.nD Cert.Kernel28.τ).loc Cert.Kernel28.main_arg11) = m ((c.tc : Thread Cert.Kernel28.nD Cert.Kernel28.τ).loc Cert.Kernel28.main_arg11)
      ∧ r.2.mem ((c.tc : Thread Cert.Kernel28.nD Cert.Kernel28.τ).loc Cert.Kernel28.main_arg12) = m ((c.tc : Thread Cert.Kernel28.nD Cert.Kernel28.τ).loc Cert.Kernel28.main_arg12)
      ∧ r.2.mem ((c.tc : Thread Cert.Kernel28.nD Cert.Kernel28.τ).loc Cert.Kernel28.main_arg13) = m ((c.tc : Thread Cert.Kernel28.nD Cert.Kernel28.τ).loc Cert.Kernel28.main_arg13)
      ∧ r.2.mem ((c.tc : Thread Cert.Kernel28.nD Cert.Kernel28.τ).loc Cert.Kernel28.main_arg14) = m ((c.tc : Thread Cert.Kernel28.nD Cert.Kernel28.τ).loc Cert.Kernel28.main_arg14))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
      ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
      ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
      ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
      ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
      ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
      ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9)
      ∧ r.2.mem ((c.tc : Thread Cert.Reference28Ideal.nD Cert.Reference28Ideal.τ).loc Cert.Reference28Ideal.main_arg10) = m ((c.tc : Thread Cert.Reference28Ideal.nD Cert.Reference28Ideal.τ).loc Cert.Reference28Ideal.main_arg10)
      ∧ r.2.mem ((c.tc : Thread Cert.Reference28Ideal.nD Cert.Reference28Ideal.τ).loc Cert.Reference28Ideal.main_arg11) = m ((c.tc : Thread Cert.Reference28Ideal.nD Cert.Reference28Ideal.τ).loc Cert.Reference28Ideal.main_arg11)
      ∧ r.2.mem ((c.tc : Thread Cert.Reference28Ideal.nD Cert.Reference28Ideal.τ).loc Cert.Reference28Ideal.main_arg12) = m ((c.tc : Thread Cert.Reference28Ideal.nD Cert.Reference28Ideal.τ).loc Cert.Reference28Ideal.main_arg12)
      ∧ r.2.mem ((c.tc : Thread Cert.Reference28Ideal.nD Cert.Reference28Ideal.τ).loc Cert.Reference28Ideal.main_arg13) = m ((c.tc : Thread Cert.Reference28Ideal.nD Cert.Reference28Ideal.τ).loc Cert.Reference28Ideal.main_arg13)
      ∧ r.2.mem ((c.tc : Thread Cert.Reference28Ideal.nD Cert.Reference28Ideal.τ).loc Cert.Reference28Ideal.main_arg14) = m ((c.tc : Thread Cert.Reference28Ideal.nD Cert.Reference28Ideal.τ).loc Cert.Reference28Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_3)) (v4 : (c : Dev Cert.KernelIdeal.nD) → Buf (Elt Ideal) ((c.tc : Thread Cert.KernelIdeal.nD Cert.KernelIdeal.τ).loc Cert.KernelIdeal.main_v26_4)) (v5 : (c : Dev Cert.KernelIdeal.nD) → Buf (Elt Ideal) ((c.tc : Thread Cert.KernelIdeal.nD Cert.KernelIdeal.τ).loc Cert.KernelIdeal.main_v26_5)) (v6 : (c : Dev Cert.KernelIdeal.nD) → Buf (Elt Ideal) ((c.tc : Thread Cert.KernelIdeal.nD Cert.KernelIdeal.τ).loc Cert.KernelIdeal.main_v26_6)) (v7 : (c : Dev Cert.KernelIdeal.nD) → Buf (Elt Ideal) ((c.tc : Thread Cert.KernelIdeal.nD Cert.KernelIdeal.τ).loc Cert.KernelIdeal.main_v26_7)) (v8 : (c : Dev Cert.KernelIdeal.nD) → Buf (Elt Ideal) ((c.tc : Thread Cert.KernelIdeal.nD Cert.KernelIdeal.τ).loc Cert.KernelIdeal.main_v26_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_3) = v3 c
          ∧ r.2.mem ((c.tc : Thread Cert.KernelIdeal.nD Cert.KernelIdeal.τ).loc Cert.KernelIdeal.main_v26_4) = v4 c
          ∧ r.2.mem ((c.tc : Thread Cert.KernelIdeal.nD Cert.KernelIdeal.τ).loc Cert.KernelIdeal.main_v26_5) = v5 c
          ∧ r.2.mem ((c.tc : Thread Cert.KernelIdeal.nD Cert.KernelIdeal.τ).loc Cert.KernelIdeal.main_v26_6) = v6 c
          ∧ r.2.mem ((c.tc : Thread Cert.KernelIdeal.nD Cert.KernelIdeal.τ).loc Cert.KernelIdeal.main_v26_7) = v7 c
          ∧ r.2.mem ((c.tc : Thread Cert.KernelIdeal.nD Cert.KernelIdeal.τ).loc Cert.KernelIdeal.main_v26_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v74) = v5 c
          ∧ r.2.mem ((c.tc : Thread Cert.ReferenceIdeal.nD Cert.ReferenceIdeal.τ).loc Cert.ReferenceIdeal.main_v75) = v6 c
          ∧ r.2.mem ((c.tc : Thread Cert.ReferenceIdeal.nD Cert.ReferenceIdeal.τ).loc Cert.ReferenceIdeal.main_v66) = v7 c
          ∧ r.2.mem ((c.tc : Thread Cert.ReferenceIdeal.nD Cert.ReferenceIdeal.τ).loc Cert.ReferenceIdeal.main_v57) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_v36) = v1 c
          ∧ r.2.mem ((c.tc : Thread Cert.Reference9Ideal.nD Cert.Reference9Ideal.τ).loc Cert.Reference9Ideal.main_v18) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v49) = v0 c
          ∧ r.2.mem ((c.tc : Thread Cert.Reference10Ideal.nD Cert.Reference10Ideal.τ).loc Cert.Reference10Ideal.main_v48) = v1 c
          ∧ r.2.mem ((c.tc : Thread Cert.Reference10Ideal.nD Cert.Reference10Ideal.τ).loc Cert.Reference10Ideal.main_v50) = v2 c
          ∧ r.2.mem ((c.tc : Thread Cert.Reference10Ideal.nD Cert.Reference10Ideal.τ).loc Cert.Reference10Ideal.main_v32) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v11) = v2 c
          ∧ r.2.mem ((c.tc : Thread Cert.Reference11Ideal.nD Cert.Reference11Ideal.τ).loc Cert.Reference11Ideal.main_v17) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_v32) = v1 c
          ∧ r.2.mem ((c.tc : Thread Cert.Reference13Ideal.nD Cert.Reference13Ideal.τ).loc Cert.Reference13Ideal.main_v13) = v2 c
          ∧ r.2.mem ((c.tc : Thread Cert.Reference13Ideal.nD Cert.Reference13Ideal.τ).loc Cert.Reference13Ideal.main_v19) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_v13) = v2 c
          ∧ r.2.mem ((c.tc : Thread Cert.Reference14Ideal.nD Cert.Reference14Ideal.τ).loc Cert.Reference14Ideal.main_v19) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_v32) = v1 c
          ∧ r.2.mem ((c.tc : Thread Cert.Reference15Ideal.nD Cert.Reference15Ideal.τ).loc Cert.Reference15Ideal.main_v13) = v2 c
          ∧ r.2.mem ((c.tc : Thread Cert.Reference15Ideal.nD Cert.Reference15Ideal.τ).loc Cert.Reference15Ideal.main_v19) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_v13) = v2 c
          ∧ r.2.mem ((c.tc : Thread Cert.Reference16Ideal.nD Cert.Reference16Ideal.τ).loc Cert.Reference16Ideal.main_v19) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg0) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg0) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m ((c.tc : Thread Cert.Kernel20Ideal.nD Cert.Kernel20Ideal.τ).loc Cert.Kernel20Ideal.main_arg0) = Layout.block ⟨2, ![8192, 1024]⟩ ⟨2, ![65536, 1024]⟩ 0 8 c (m' (((0 : Dev Cert.Reference20Ideal.nD).tc : Thread Cert.Reference20Ideal.nD Cert.Reference20Ideal.τ).loc Cert.Reference20Ideal.main_arg0))
      ∧ m ((c.tc : Thread Cert.Kernel20Ideal.nD Cert.Kernel20Ideal.τ).loc Cert.Kernel20Ideal.main_arg1) = m' (((0 : Dev Cert.Reference20Ideal.nD).tc : Thread Cert.Reference20Ideal.nD Cert.Reference20Ideal.τ).loc Cert.Reference20Ideal.main_arg1)
      ∧ m ((c.tc : Thread Cert.Kernel20Ideal.nD Cert.Kernel20Ideal.τ).loc Cert.Kernel20Ideal.main_arg2) = Layout.block ⟨2, ![8192, 1024]⟩ ⟨2, ![65536, 1024]⟩ 0 8 c (m' (((0 : Dev Cert.Reference20Ideal.nD).tc : Thread Cert.Reference20Ideal.nD Cert.Reference20Ideal.τ).loc Cert.Reference20Ideal.main_arg2))) →
    ∃ (v0 : Buf (Elt Ideal) (((0 : Dev Cert.Reference20Ideal.nD).tc : Thread Cert.Reference20Ideal.nD Cert.Reference20Ideal.τ).loc Cert.Reference20Ideal.main_v18)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r =>
          r.2.mem (((0 : Dev Cert.Reference20Ideal.nD).tc : Thread Cert.Reference20Ideal.nD Cert.Reference20Ideal.τ).loc Cert.Reference20Ideal.main_v18) = v0
          ∧ r.2.mem (((0 : Dev Cert.Reference20Ideal.nD).tc : Thread Cert.Reference20Ideal.nD Cert.Reference20Ideal.τ).loc Cert.Reference20Ideal.main_arg0) = m' (((0 : Dev Cert.Reference20Ideal.nD).tc : Thread Cert.Reference20Ideal.nD Cert.Reference20Ideal.τ).loc Cert.Reference20Ideal.main_arg0)
          ∧ r.2.mem (((0 : Dev Cert.Reference20Ideal.nD).tc : Thread Cert.Reference20Ideal.nD Cert.Reference20Ideal.τ).loc Cert.Reference20Ideal.main_arg1) = m' (((0 : Dev Cert.Reference20Ideal.nD).tc : Thread Cert.Reference20Ideal.nD Cert.Reference20Ideal.τ).loc Cert.Reference20Ideal.main_arg1)
          ∧ r.2.mem (((0 : Dev Cert.Reference20Ideal.nD).tc : Thread Cert.Reference20Ideal.nD Cert.Reference20Ideal.τ).loc Cert.Reference20Ideal.main_arg2) = m' (((0 : Dev Cert.Reference20Ideal.nD).tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v37) = v0 c
          ∧ r.2.mem ((c.tc : Thread Cert.Reference22Ideal.nD Cert.Reference22Ideal.τ).loc Cert.Reference22Ideal.main_v38) = v1 c
          ∧ r.2.mem ((c.tc : Thread Cert.Reference22Ideal.nD Cert.Reference22Ideal.τ).loc Cert.Reference22Ideal.main_v20) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v9) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v13) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v9) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v11) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v11) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)
      ∧ m' ((c.tc : Thread Cert.Reference28Ideal.nD Cert.Reference28Ideal.τ).loc Cert.Reference28Ideal.main_arg9) = m ((c.tc : Thread Cert.Kernel28Ideal.nD Cert.Kernel28Ideal.τ).loc Cert.Kernel28Ideal.main_arg9)
      ∧ m' ((c.tc : Thread Cert.Reference28Ideal.nD Cert.Reference28Ideal.τ).loc Cert.Reference28Ideal.main_arg10) = m ((c.tc : Thread Cert.Kernel28Ideal.nD Cert.Kernel28Ideal.τ).loc Cert.Kernel28Ideal.main_arg10)
      ∧ m' ((c.tc : Thread Cert.Reference28Ideal.nD Cert.Reference28Ideal.τ).loc Cert.Reference28Ideal.main_arg11) = m ((c.tc : Thread Cert.Kernel28Ideal.nD Cert.Kernel28Ideal.τ).loc Cert.Kernel28Ideal.main_arg11)
      ∧ m' ((c.tc : Thread Cert.Reference28Ideal.nD Cert.Reference28Ideal.τ).loc Cert.Reference28Ideal.main_arg12) = m ((c.tc : Thread Cert.Kernel28Ideal.nD Cert.Kernel28Ideal.τ).loc Cert.Kernel28Ideal.main_arg12)
      ∧ m' ((c.tc : Thread Cert.Reference28Ideal.nD Cert.Reference28Ideal.τ).loc Cert.Reference28Ideal.main_arg13) = m ((c.tc : Thread Cert.Kernel28Ideal.nD Cert.Kernel28Ideal.τ).loc Cert.Kernel28Ideal.main_arg13)
      ∧ m' ((c.tc : Thread Cert.Reference28Ideal.nD Cert.Reference28Ideal.τ).loc Cert.Reference28Ideal.main_arg14) = m ((c.tc : Thread Cert.Kernel28Ideal.nD Cert.Kernel28Ideal.τ).loc Cert.Kernel28Ideal.main_arg14)) →
    ∃ (v0 : (c : Dev Cert.Kernel28Ideal.nD) → Buf (Elt Ideal) ((c.tc : Thread Cert.Kernel28Ideal.nD Cert.Kernel28Ideal.τ).loc Cert.Kernel28Ideal.main_v11_0)) (v1 : (c : Dev Cert.Kernel28Ideal.nD) → Buf (Elt Ideal) ((c.tc : Thread Cert.Kernel28Ideal.nD Cert.Kernel28Ideal.τ).loc Cert.Kernel28Ideal.main_v11_4)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v11_0) = v0 c
          ∧ r.2.mem ((c.tc : Thread Cert.Kernel28Ideal.nD Cert.Kernel28Ideal.τ).loc Cert.Kernel28Ideal.main_v11_4) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
          ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
          ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
          ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
          ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
          ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
          ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v32) = v0 c
          ∧ r.2.mem ((c.tc : Thread Cert.Reference28Ideal.nD Cert.Reference28Ideal.τ).loc Cert.Reference28Ideal.main_v34) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8)
          ∧ r.2.mem ((c.tc : Thread Cert.Reference28Ideal.nD Cert.Reference28Ideal.τ).loc Cert.Reference28Ideal.main_arg9) = m' ((c.tc : Thread Cert.Reference28Ideal.nD Cert.Reference28Ideal.τ).loc Cert.Reference28Ideal.main_arg9)
          ∧ r.2.mem ((c.tc : Thread Cert.Reference28Ideal.nD Cert.Reference28Ideal.τ).loc Cert.Reference28Ideal.main_arg10) = m' ((c.tc : Thread Cert.Reference28Ideal.nD Cert.Reference28Ideal.τ).loc Cert.Reference28Ideal.main_arg10)
          ∧ r.2.mem ((c.tc : Thread Cert.Reference28Ideal.nD Cert.Reference28Ideal.τ).loc Cert.Reference28Ideal.main_arg11) = m' ((c.tc : Thread Cert.Reference28Ideal.nD Cert.Reference28Ideal.τ).loc Cert.Reference28Ideal.main_arg11)
          ∧ r.2.mem ((c.tc : Thread Cert.Reference28Ideal.nD Cert.Reference28Ideal.τ).loc Cert.Reference28Ideal.main_arg12) = m' ((c.tc : Thread Cert.Reference28Ideal.nD Cert.Reference28Ideal.τ).loc Cert.Reference28Ideal.main_arg12)
          ∧ r.2.mem ((c.tc : Thread Cert.Reference28Ideal.nD Cert.Reference28Ideal.τ).loc Cert.Reference28Ideal.main_arg13) = m' ((c.tc : Thread Cert.Reference28Ideal.nD Cert.Reference28Ideal.τ).loc Cert.Reference28Ideal.main_arg13)
          ∧ r.2.mem ((c.tc : Thread Cert.Reference28Ideal.nD Cert.Reference28Ideal.τ).loc Cert.Reference28Ideal.main_arg14) = m' ((c.tc : Thread Cert.Reference28Ideal.nD Cert.Reference28Ideal.τ).loc Cert.Reference28Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Kernel.lean ====
abbrev S8192x1024 : Shape := ⟨2, ![8192, 1024]⟩
abbrev S8192x9216 : Shape := ⟨2, ![8192, 9216]⟩
abbrev S1024x1024 : Shape := ⟨2, ![1024, 1024]⟩
abbrev S1x1024 : Shape := ⟨2, ![1, 1024]⟩
abbrev S4x256x256 : Shape := ⟨3, ![4, 256, 256]⟩
abbrev S4096x1024 : Shape := ⟨2, ![4096, 1024]⟩
abbrev S8192x4x256 : Shape := ⟨3, ![8192, 4, 256]⟩
abbrev S4x256x8192 : Shape := ⟨3, ![4, 256, 8192]⟩
abbrev S8x512x1024 : Shape := ⟨3, ![8, 512, 1024]⟩
abbrev S8x128x1024 : Shape := ⟨3, ![8, 128, 1024]⟩
abbrev S8x640x1024 : Shape := ⟨3, ![8, 640, 1024]⟩
abbrev S8x256x1024 : Shape := ⟨3, ![8, 256, 1024]⟩
abbrev S8x896x1024 : Shape := ⟨3, ![8, 896, 1024]⟩
abbrev S4x8x32x256 : Shape := ⟨4, ![4, 8, 32, 256]⟩
abbrev S8x4x32x256 : Shape := ⟨4, ![8, 4, 32, 256]⟩
abbrev S8192x3072 : Shape := ⟨2, ![8192, 3072]⟩
abbrev S512x1024 : Shape := ⟨2, ![512, 1024]⟩
abbrev S512x3072 : Shape := ⟨2, ![512, 3072]⟩
abbrev S8x1024 : Shape := ⟨2, ![8, 1024]⟩
abbrev S64x8x1024 : Shape := ⟨3, ![64, 8, 1024]⟩
abbrev S512x256 : Shape := ⟨2, ![512, 256]⟩
abbrev S8x1x32x256 : Shape := ⟨4, ![8, 1, 32, 256]⟩
abbrev S8x32x256 : Shape := ⟨3, ![8, 32, 256]⟩
abbrev S256x256 : Shape := ⟨2, ![256, 256]⟩
abbrev S1024 : Shape := ⟨1, ![1024]⟩

abbrev nBuf : Space → Nat
  | .hbm => 47
  | .vmem => 33
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S4x256x256, .f32⟩
  | .hbm, ⟨9, _⟩ => ⟨S1x1024, .f32⟩
  | .hbm, ⟨10, _⟩ => ⟨S1024x1024, .f32⟩
  | .hbm, ⟨11, _⟩ => ⟨S4096x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S4x256x256, .bf16⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x4x256, .bf16⟩
  | .hbm, ⟨23, _⟩ => ⟨S4x256x8192, .f32⟩
  | .hbm, ⟨24, _⟩ => ⟨S8192x4x256, .f32⟩
  | .hbm, ⟨25, _⟩ => ⟨S8192x1024, .f32⟩
  | .hbm, ⟨26, _⟩ => ⟨S8192x1024, .bf16⟩
  | .hbm, ⟨27, _⟩ => ⟨S8x512x1024, .f32⟩
  | .hbm, ⟨28, _⟩ => ⟨S8x128x1024, .f32⟩
  | .hbm, ⟨29, _⟩ => ⟨S8x640x1024, .f32⟩
  | .hbm, ⟨30, _⟩ => ⟨S8x128x1024, .f32⟩
  | .hbm, ⟨31, _⟩ => ⟨S8x128x1024, .f32⟩
  | .hbm, ⟨32, _⟩ => ⟨S8x256x1024, .f32⟩
  | .hbm, ⟨33, _⟩ => ⟨S8x896x1024, .f32⟩
  | .hbm, ⟨34, _⟩ => ⟨S8x896x1024, .bf16⟩
  | .hbm, ⟨35, _⟩ => ⟨S4x8x32x256, .f32⟩
  | .hbm, ⟨36, _⟩ => ⟨S8x4x32x256, .f32⟩
  | .hbm, ⟨37, _⟩ => ⟨S8x4x32x256, .bf16⟩
  | .hbm, ⟨38, _⟩ => ⟨S8192x1024, .bf16⟩
  | .hbm, ⟨39, _⟩ => ⟨S8192x1024, .bf16⟩
  | .hbm, ⟨40, _⟩ => ⟨S8192x1024, .bf16⟩
  | .hbm, ⟨41, _⟩ => ⟨S8192x3072, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | .hbm, ⟨45, _⟩ => ⟨S1x1024, .f32⟩
  | .hbm, ⟨46, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S8x128x1024, .bf16⟩
  | .local _ .vmem, ⟨12, _⟩ => ⟨S8x128x1024, .bf16⟩
  | .local _ .vmem, ⟨13, _⟩ => ⟨S8x128x1024, .bf16⟩
  | .local _ .vmem, ⟨14, _⟩ => ⟨S8x4x32x256, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S1x1024, .f32⟩
  | .local _ .vmem, ⟨30, _⟩ => ⟨S1x1024, .f32⟩
  | .local _ .vmem, ⟨31, _⟩ => ⟨S8x1024, .f32⟩
  | .local _ .vmem, ⟨32, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_v26_3 : Ref sig .tc := ⟨.hbm, 41, rfl⟩
abbrev main_v26_4 : Ref sig .tc := ⟨.hbm, 42, rfl⟩
abbrev main_v26_5 : Ref sig .tc := ⟨.hbm, 43, rfl⟩
abbrev main_v26_6 : Ref sig .tc := ⟨.hbm, 44, rfl⟩
abbrev main_v26_7 : Ref sig .tc := ⟨.hbm, 45, rfl⟩
abbrev main_v26_8 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v137 : BitVec 1 := Scalar.cmpi .eq arg0 c15_i32
  let v138 : BitVec 32 := Scalar.extui v137
  let c0_i32_91 : BitVec 32 := 0#32
  let v139 : BitVec 1 := Scalar.cmpi .ne v138 c0_i32_91
  v139

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

def cc0_transform_7 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  let c0_i32_1 : BitVec 32 := 0#32
  ![c0_i32.toNat, c5_i32.toNat, c0_i32_0.toNat]

def cc0_transform_8 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  let c0_i32_1 : BitVec 32 := 0#32
  ![c0_i32.toNat, c6_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x4x32x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S8192x1024 : Shape := ⟨2, ![8192, 1024]⟩
abbrev S8192x9216 : Shape := ⟨2, ![8192, 9216]⟩
abbrev S1024x1024 : Shape := ⟨2, ![1024, 1024]⟩
abbrev S1x1024 : Shape := ⟨2, ![1, 1024]⟩
abbrev S4x256x256 : Shape := ⟨3, ![4, 256, 256]⟩
abbrev S4096x1024 : Shape := ⟨2, ![4096, 1024]⟩
abbrev S8192x3072 : Shape := ⟨2, ![8192, 3072]⟩
abbrev S8192x4x256 : Shape := ⟨3, ![8192, 4, 256]⟩
abbrev S4x256x8192 : Shape := ⟨3, ![4, 256, 8192]⟩
abbrev S_ : Shape := ⟨0, ![]⟩
abbrev S8192x3x1024 : Shape := ⟨3, ![8192, 3, 1024]⟩
abbrev S8192x1x1024 : Shape := ⟨3, ![8192, 1, 1024]⟩
abbrev S1024 : Shape := ⟨1, ![1024]⟩
abbrev S4x8192x256 : Shape := ⟨3, ![4, 8192, 256]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S4x256x256, .f32⟩
  | .hbm, ⟨9, _⟩ => ⟨S1x1024, .f32⟩
  | .hbm, ⟨10, _⟩ => ⟨S1024x1024, .f32⟩
  | .hbm, ⟨11, _⟩ => ⟨S4096x1024, .f32⟩
  | .hbm, ⟨12, _⟩ => ⟨S8192x3072, .bf16⟩
  | .hbm, ⟨13, _⟩ => ⟨S8192x1024, .f32⟩
  | .hbm, ⟨14, _⟩ => ⟨S8192x3072, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x4x256, .f32⟩
  | .hbm, ⟨23, _⟩ => ⟨S4x256x8192, .f32⟩
  | .hbm, ⟨24, _⟩ => ⟨S8192x4x256, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S_, .f32⟩
  | .hbm, ⟨34, _⟩ => ⟨S8192x3072, .f32⟩
  | .hbm, ⟨35, _⟩ => ⟨S8192x3072, .f32⟩
  | .hbm, ⟨36, _⟩ => ⟨S_, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x3x1024, .f32⟩
  | .hbm, ⟨41, _⟩ => ⟨S8192x1x1024, .f32⟩
  | .hbm, ⟨42, _⟩ => ⟨S8192x1024, .f32⟩
  | .hbm, ⟨43, _⟩ => ⟨S8192x1024, .f32⟩
  | .hbm, ⟨44, _⟩ => ⟨S8192x1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1x1024, .f32⟩
  | .hbm, ⟨57, _⟩ => ⟨S_, .f32⟩
  | .hbm, ⟨58, _⟩ => ⟨S8192x3x1024, .f32⟩
  | .hbm, ⟨59, _⟩ => ⟨S8192x1024, .f32⟩
  | .hbm, ⟨60, _⟩ => ⟨S8192x1024, .f32⟩
  | .hbm, ⟨61, _⟩ => ⟨S8192x1x1024, .f32⟩
  | .hbm, ⟨62, _⟩ => ⟨S_, .f32⟩
  | .hbm, ⟨63, _⟩ => ⟨S8192x3x1024, .f32⟩
  | .hbm, ⟨64, _⟩ => ⟨S8192x3x1024, .f32⟩
  | .hbm, ⟨65, _⟩ => ⟨S8192x1024, .f32⟩
  | .hbm, ⟨66, _⟩ => ⟨S8192x1024, .f32⟩
  | .hbm, ⟨67, _⟩ => ⟨S8192x1x1024, .f32⟩
  | .hbm, ⟨68, _⟩ => ⟨S_, .f32⟩
  | .hbm, ⟨69, _⟩ => ⟨S8192x3x1024, .f32⟩
  | .hbm, ⟨70, _⟩ => ⟨S8192x3x1024, .f32⟩
  | .hbm, ⟨71, _⟩ => ⟨S8192x3072, .f32⟩
  | .hbm, ⟨72, _⟩ => ⟨S8192x3072, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x4x256, .f32⟩
  | .hbm, ⟨80, _⟩ => ⟨S4x256x8192, .f32⟩
  | .hbm, ⟨81, _⟩ => ⟨S4x8192x256, .f32⟩
  | .hbm, ⟨82, _⟩ => ⟨S8192x4x256, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S8192x1024, .bf16⟩
  | .hbm, ⟨90, _⟩ => ⟨S8192x1024, .bf16⟩
  | .hbm, ⟨91, _⟩ => ⟨S8192x1024, .bf16⟩
  | .hbm, ⟨92, _⟩ => ⟨S8192x3072, .bf16⟩
  | .hbm, ⟨93, _⟩ => ⟨S8192x1024, .bf16⟩
  | .hbm, ⟨94, _⟩ => ⟨S8192x1024, .bf16⟩
  | .hbm, ⟨95, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_6 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Kernel2.lean ====
abbrev S8192x1024 : Shape := ⟨2, ![8192, 1024]⟩
abbrev S8192x9216 : Shape := ⟨2, ![8192, 9216]⟩
abbrev S_ : Shape := ⟨0, ![]⟩
abbrev S8x128 : Shape := ⟨2, ![8, 128]⟩
abbrev S4x1024x2304 : Shape := ⟨3, ![4, 1024, 2304]⟩
abbrev S2048x1024 : Shape := ⟨2, ![2048, 1024]⟩
abbrev S2048x2304 : Shape := ⟨2, ![2048, 2304]⟩
abbrev S1x1024x2304 : Shape := ⟨3, ![1, 1024, 2304]⟩
abbrev S1024x2304 : Shape := ⟨2, ![1024, 2304]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S_, .f32⟩
  | .hbm, ⟨3, _⟩ => ⟨S8x128, .f32⟩
  | .hbm, ⟨4, _⟩ => ⟨S4x1024x2304, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2304, .bf16⟩
  | .local _ .vmem, ⟨3, _⟩ => ⟨S2048x2304, .bf16⟩
  | .local _ .vmem, ⟨4, _⟩ => ⟨S1x1024x2304, .bf16⟩
  | .local _ .vmem, ⟨5, _⟩ => ⟨S1x1024x2304, .bf16⟩
  | .local _ .vmem, ⟨6, _⟩ => ⟨S1024x2304, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x9216 : Shape := ⟨2, ![8192, 9216]⟩
abbrev S_ : Shape := ⟨0, ![]⟩
abbrev S1024x9216 : Shape := ⟨2, ![1024, 9216]⟩
abbrev S9216x1024 : Shape := ⟨2, ![9216, 1024]⟩
abbrev S1024x4x2304 : Shape := ⟨3, ![1024, 4, 2304]⟩
abbrev S4x1024x2304 : Shape := ⟨3, ![4, 1024, 2304]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S_, .f32⟩
  | .hbm, ⟨3, _⟩ => ⟨S1024x9216, .f32⟩
  | .hbm, ⟨4, _⟩ => ⟨S8192x1024, .f32⟩
  | .hbm, ⟨5, _⟩ => ⟨S8192x9216, .f32⟩
  | .hbm, ⟨6, _⟩ => ⟨S8192x9216, .f32⟩
  | .hbm, ⟨7, _⟩ => ⟨S9216x1024, .f32⟩
  | .hbm, ⟨8, _⟩ => ⟨S1024x9216, .f32⟩
  | .hbm, ⟨9, _⟩ => ⟨S1024x4x2304, .f32⟩
  | .hbm, ⟨10, _⟩ => ⟨S4x1024x2304, .f32⟩
  | .hbm, ⟨11, _⟩ => ⟨S4x1024x2304, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8192x9216 : Shape := ⟨2, ![8192, 9216]⟩
abbrev S1024x9216 : Shape := ⟨2, ![1024, 9216]⟩
abbrev S_ : Shape := ⟨0, ![]⟩
abbrev S8x128 : Shape := ⟨2, ![8, 128]⟩
abbrev S1024x4x2304 : Shape := ⟨3, ![1024, 4, 2304]⟩
abbrev S4x1024x2304 : Shape := ⟨3, ![4, 1024, 2304]⟩
abbrev S8192x1024 : Shape := ⟨2, ![8192, 1024]⟩
abbrev S1024x2304 : Shape := ⟨2, ![1024, 2304]⟩
abbrev S1x1024x2304 : Shape := ⟨3, ![1, 1024, 2304]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x9216, .bf16⟩
  | .hbm, ⟨1, _⟩ => ⟨S1024x9216, .f32⟩
  | .hbm, ⟨2, _⟩ => ⟨S_, .f32⟩
  | .hbm, ⟨3, _⟩ => ⟨S8x128, .f32⟩
  | .hbm, ⟨4, _⟩ => ⟨S1024x4x2304, .f32⟩
  | .hbm, ⟨5, _⟩ => ⟨S4x1024x2304, .f32⟩
  | .hbm, ⟨6, _⟩ => ⟨S4x1024x2304, .bf16⟩
  | .hbm, ⟨7, _⟩ => ⟨S8192x1024, .bf16⟩
  | .local _ .vmem, ⟨0, _⟩ => ⟨S1024x2304, .bf16⟩
  | .local _ .vmem, ⟨1, _⟩ => ⟨S1024x2304, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x9216 : Shape := ⟨2, ![8192, 9216]⟩
abbrev S1024x9216 : Shape := ⟨2, ![1024, 9216]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S1024x9216, .f32⟩
  | .hbm, ⟨2, _⟩ => ⟨S_, .f32⟩
  | .hbm, ⟨3, _⟩ => ⟨S8192x1024, .f32⟩
  | .hbm, ⟨4, _⟩ => ⟨S8192x9216, .f32⟩
  | .hbm, ⟨5, _⟩ => ⟨S8192x9216, .f32⟩
  | .hbm, ⟨6, _⟩ => ⟨S8192x1024, .f32⟩
  | .hbm, ⟨7, _⟩ => ⟨S8192x1024, .bf16⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S4096x1024 : Shape := ⟨2, ![4096, 1024]⟩
abbrev S1024x1024 : Shape := ⟨2, ![1024, 1024]⟩
abbrev S8x512x1024 : Shape := ⟨3, ![8, 512, 1024]⟩
abbrev S8x128x1024 : Shape := ⟨3, ![8, 128, 1024]⟩
abbrev S8x640x1024 : Shape := ⟨3, ![8, 640, 1024]⟩
abbrev S8x256x1024 : Shape := ⟨3, ![8, 256, 1024]⟩
abbrev S8x896x1024 : Shape := ⟨3, ![8, 896, 1024]⟩
abbrev S2x512x1024 : Shape := ⟨3, ![2, 512, 1024]⟩
abbrev S1x512x1024 : Shape := ⟨3, ![1, 512, 1024]⟩
abbrev S512x1024 : Shape := ⟨2, ![512, 1024]⟩
abbrev S1024x512 : Shape := ⟨2, ![1024, 512]⟩

abbrev nBuf : Space → Nat
  | .hbm => 15
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8x512x1024, .f32⟩
  | .hbm, ⟨7, _⟩ => ⟨S8x128x1024, .f32⟩
  | .hbm, ⟨8, _⟩ => ⟨S8x640x1024, .f32⟩
  | .hbm, ⟨9, _⟩ => ⟨S8x128x1024, .f32⟩
  | .hbm, ⟨10, _⟩ => ⟨S8x128x1024, .f32⟩
  | .hbm, ⟨11, _⟩ => ⟨S8x256x1024, .f32⟩
  | .hbm, ⟨12, _⟩ => ⟨S8x896x1024, .f32⟩
  | .hbm, ⟨13, _⟩ => ⟨S8x896x1024, .bf16⟩
  | .hbm, ⟨14, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x1024 : Shape := ⟨2, ![8192, 1024]⟩
abbrev S8192x4096 : Shape := ⟨2, ![8192, 4096]⟩
abbrev S4096x1024 : Shape := ⟨2, ![4096, 1024]⟩
abbrev S1024x1024 : Shape := ⟨2, ![1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S8x1024x512 : Shape := ⟨3, ![8, 1024, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S1024x9216 : Shape := ⟨2, ![1024, 9216]⟩
abbrev S1x9216 : Shape := ⟨2, ![1, 9216]⟩
abbrev S1024x4x2304 : Shape := ⟨3, ![1024, 4, 2304]⟩
abbrev S4x1024x2304 : Shape := ⟨3, ![4, 1024, 2304]⟩
abbrev S8192x9216 : Shape := ⟨2, ![8192, 9216]⟩
abbrev S1024x1024 : Shape := ⟨2, ![1024, 1024]⟩
abbrev S1x1024x2304 : Shape := ⟨3, ![1, 1024, 2304]⟩
abbrev S1x2304 : Shape := ⟨2, ![1, 2304]⟩
abbrev S1024x2304 : Shape := ⟨2, ![1024, 2304]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x9216, .f32⟩
  | .hbm, ⟨2, _⟩ => ⟨S1x9216, .f32⟩
  | .hbm, ⟨3, _⟩ => ⟨S1024x4x2304, .f32⟩
  | .hbm, ⟨4, _⟩ => ⟨S4x1024x2304, .f32⟩
  | .hbm, ⟨5, _⟩ => ⟨S4x1024x2304, .bf16⟩
  | .hbm, ⟨6, _⟩ => ⟨S8192x9216, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1x2304, .f32⟩
  | .local _ .vmem, ⟨5, _⟩ => ⟨S1x2304, .f32⟩
  | .local _ .vmem, ⟨6, _⟩ => ⟨S1024x2304, .bf16⟩
  | .local _ .vmem, ⟨7, _⟩ => ⟨S1024x2304, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x1024 : Shape := ⟨2, ![8192, 1024]⟩
abbrev S1024x9216 : Shape := ⟨2, ![1024, 9216]⟩
abbrev S1x9216 : Shape := ⟨2, ![1, 9216]⟩
abbrev S8192x9216 : Shape := ⟨2, ![8192, 9216]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x9216, .f32⟩
  | .hbm, ⟨2, _⟩ => ⟨S1x9216, .f32⟩
  | .hbm, ⟨3, _⟩ => ⟨S8192x1024, .f32⟩
  | .hbm, ⟨4, _⟩ => ⟨S8192x9216, .f32⟩
  | .hbm, ⟨5, _⟩ => ⟨S8192x9216, .f32⟩
  | .hbm, ⟨6, _⟩ => ⟨S8192x9216, .f32⟩
  | .hbm, ⟨7, _⟩ => ⟨S8192x9216, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S1024x1024 : Shape := ⟨2, ![1024, 1024]⟩
abbrev S2x1024x512 : Shape := ⟨3, ![2, 1024, 512]⟩
abbrev S1x1024x512 : Shape := ⟨3, ![1, 1024, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩
abbrev S8x512x1024 : Shape := ⟨3, ![8, 512, 1024]⟩
abbrev S8x128x1024 : Shape := ⟨3, ![8, 128, 1024]⟩
abbrev S8x640x1024 : Shape := ⟨3, ![8, 640, 1024]⟩
abbrev S8x256x1024 : Shape := ⟨3, ![8, 256, 1024]⟩
abbrev S8x896x1024 : Shape := ⟨3, ![8, 896, 1024]⟩
abbrev S512x4096 : Shape := ⟨2, ![512, 4096]⟩
abbrev S512x1024 : Shape := ⟨2, ![512, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8x512x1024, .f32⟩
  | .hbm, ⟨7, _⟩ => ⟨S8x128x1024, .f32⟩
  | .hbm, ⟨8, _⟩ => ⟨S8x640x1024, .f32⟩
  | .hbm, ⟨9, _⟩ => ⟨S8x128x1024, .f32⟩
  | .hbm, ⟨10, _⟩ => ⟨S8x128x1024, .f32⟩
  | .hbm, ⟨11, _⟩ => ⟨S8x256x1024, .f32⟩
  | .hbm, ⟨12, _⟩ => ⟨S8x896x1024, .f32⟩
  | .hbm, ⟨13, _⟩ => ⟨S8x896x1024, .bf16⟩
  | .hbm, ⟨14, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S8x512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference8Ideal.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x1024, .f32⟩
  | .hbm, ⟨12, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v40 : BitVec 1 := Scalar.cmpi .eq arg0 c15_i32
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩
abbrev S1 : Shape := ⟨1, ![1]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S8x1024, .f32⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v46 : BitVec 1 := Scalar.cmpi .eq arg0 c15_i32
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x1, .f32⟩
  | .hbm, ⟨69, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel11.lean ====
abbrev S8x1024x1152 : Shape := ⟨3, ![8, 1024, 1152]⟩
abbrev S2x1024x1152 : Shape := ⟨3, ![2, 1024, 1152]⟩
abbrev S8x256x1152 : Shape := ⟨3, ![8, 256, 1152]⟩
abbrev S1x256x1152 : Shape := ⟨3, ![1, 256, 1152]⟩
abbrev S256x1152 : Shape := ⟨2, ![256, 1152]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x1152, .bf16⟩
  | .hbm, ⟨1, _⟩ => ⟨S8x1024x1152, .bf16⟩
  | .hbm, ⟨2, _⟩ => ⟨S2x1024x1152, .f32⟩
  | .hbm, ⟨3, _⟩ => ⟨S2x1024x1152, .f32⟩
  | .hbm, ⟨4, _⟩ => ⟨S2x1024x1152, .f32⟩
  | .hbm, ⟨5, _⟩ => ⟨S2x1024x1152, .f32⟩
  | .hbm, ⟨6, _⟩ => ⟨S2x1024x1152, .f32⟩
  | .hbm, ⟨7, _⟩ => ⟨S2x1024x1152, .f32⟩
  | .hbm, ⟨8, _⟩ => ⟨S2x1024x1152, .f32⟩
  | .local _ .vmem, ⟨0, _⟩ => ⟨S8x256x1152, .bf16⟩
  | .local _ .vmem, ⟨1, _⟩ => ⟨S8x256x1152, .bf16⟩
  | .local _ .vmem, ⟨2, _⟩ => ⟨S8x256x1152, .bf16⟩
  | .local _ .vmem, ⟨3, _⟩ => ⟨S8x256x1152, .bf16⟩
  | .local _ .vmem, ⟨4, _⟩ => ⟨S1x256x1152, .f32⟩
  | .local _ .vmem, ⟨5, _⟩ => ⟨S1x256x1152, .f32⟩
  | .local _ .vmem, ⟨6, _⟩ => ⟨S1x256x1152, .f32⟩
  | .local _ .vmem, ⟨7, _⟩ => ⟨S1x256x1152, .f32⟩
  | .local _ .vmem, ⟨8, _⟩ => ⟨S1x256x1152, .f32⟩
  | .local _ .vmem, ⟨9, _⟩ => ⟨S1x256x1152, .f32⟩
  | .local _ .vmem, ⟨10, _⟩ => ⟨S1x256x1152, .f32⟩
  | .local _ .vmem, ⟨11, _⟩ => ⟨S1x256x1152, .f32⟩
  | .local _ .vmem, ⟨12, _⟩ => ⟨S1x256x1152, .f32⟩
  | .local _ .vmem, ⟨13, _⟩ => ⟨S1x256x1152, .f32⟩
  | .local _ .vmem, ⟨14, _⟩ => ⟨S1x256x1152, .f32⟩
  | .local _ .vmem, ⟨15, _⟩ => ⟨S1x256x1152, .f32⟩
  | .local _ .vmem, ⟨16, _⟩ => ⟨S1x256x1152, .f32⟩
  | .local _ .vmem, ⟨17, _⟩ => ⟨S1x256x1152, .f32⟩
  | _, _ => ⟨S8x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let v4 : BitVec 32 := Scalar.addi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S8x1024x1152 : Shape := ⟨3, ![8, 1024, 1152]⟩
abbrev S2x1024x1152 : Shape := ⟨3, ![2, 1024, 1152]⟩
abbrev S_ : Shape := ⟨0, ![]⟩
abbrev S1024x1152 : Shape := ⟨2, ![1024, 1152]⟩
abbrev S1x1024x1152 : Shape := ⟨3, ![1, 1024, 1152]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x1152, .bf16⟩
  | .hbm, ⟨1, _⟩ => ⟨S8x1024x1152, .bf16⟩
  | .hbm, ⟨2, _⟩ => ⟨S2x1024x1152, .f32⟩
  | .hbm, ⟨3, _⟩ => ⟨S2x1024x1152, .f32⟩
  | .hbm, ⟨4, _⟩ => ⟨S2x1024x1152, .f32⟩
  | .hbm, ⟨5, _⟩ => ⟨S8x1024x1152, .f32⟩
  | .hbm, ⟨6, _⟩ => ⟨S_, .f32⟩
  | .hbm, ⟨7, _⟩ => ⟨S1024x1152, .f32⟩
  | .hbm, ⟨8, _⟩ => ⟨S8x1024x1152, .f32⟩
  | .hbm, ⟨9, _⟩ => ⟨S_, .f32⟩
  | .hbm, ⟨10, _⟩ => ⟨S1024x1152, .f32⟩
  | .hbm, ⟨11, _⟩ => ⟨S1x1024x1152, .f32⟩
  | .hbm, ⟨12, _⟩ => ⟨S1x1024x1152, .f32⟩
  | .hbm, ⟨13, _⟩ => ⟨S2x1024x1152, .f32⟩
  | .hbm, ⟨14, _⟩ => ⟨S_, .f32⟩
  | .hbm, ⟨15, _⟩ => ⟨S2x1024x1152, .f32⟩
  | .hbm, ⟨16, _⟩ => ⟨S2x1024x1152, .f32⟩
  | .hbm, ⟨17, _⟩ => ⟨S_, .f32⟩
  | .hbm, ⟨18, _⟩ => ⟨S2x1024x1152, .f32⟩
  | .hbm, ⟨19, _⟩ => ⟨S2x1024x1152, .f32⟩
  | .hbm, ⟨20, _⟩ => ⟨S2x1024x1152, .f32⟩
  | .hbm, ⟨21, _⟩ => ⟨S_, .f32⟩
  | .hbm, ⟨22, _⟩ => ⟨S2x1024x1152, .f32⟩
  | .hbm, ⟨23, _⟩ => ⟨S2x1024x1152, .f32⟩
  | .hbm, ⟨24, _⟩ => ⟨S2x1024x1152, .f32⟩
  | .hbm, ⟨25, _⟩ => ⟨S_, .f32⟩
  | .hbm, ⟨26, _⟩ => ⟨S2x1024x1152, .f32⟩
  | .hbm, ⟨27, _⟩ => ⟨S2x1024x1152, .f32⟩
  | .hbm, ⟨28, _⟩ => ⟨S2x1024x1152, .f32⟩
  | .hbm, ⟨29, _⟩ => ⟨S_, .f32⟩
  | .hbm, ⟨30, _⟩ => ⟨S2x1024x1152, .f32⟩
  | .hbm, ⟨31, _⟩ => ⟨S2x1024x1152, .f32⟩
  | .hbm, ⟨32, _⟩ => ⟨S_, .f32⟩
  | .hbm, ⟨33, _⟩ => ⟨S2x1024x1152, .f32⟩
  | .hbm, ⟨34, _⟩ => ⟨S2x1024x1152, .f32⟩
  | .hbm, ⟨35, _⟩ => ⟨S2x1024x1152, .f32⟩
  | .hbm, ⟨36, _⟩ => ⟨S_, .f32⟩
  | .hbm, ⟨37, _⟩ => ⟨S2x1024x1152, .f32⟩
  | .hbm, ⟨38, _⟩ => ⟨S2x1024x1152, .f32⟩
  | .hbm, ⟨39, _⟩ => ⟨S2x1024x1152, .f32⟩
  | .hbm, ⟨40, _⟩ => ⟨S_, .f32⟩
  | .hbm, ⟨41, _⟩ => ⟨S2x1024x1152, .f32⟩
  | .hbm, ⟨42, _⟩ => ⟨S2x1024x1152, .f32⟩
  | .hbm, ⟨43, _⟩ => ⟨S2x1024x1152, .f32⟩
  | .hbm, ⟨44, _⟩ => ⟨S_, .f32⟩
  | .hbm, ⟨45, _⟩ => ⟨S2x1024x1152, .f32⟩
  | .hbm, ⟨46, _⟩ => ⟨S2x1024x1152, .f32⟩
  | _, _ => ⟨S8x1024x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel12.lean ====
abbrev S8x1024x512 : Shape := ⟨3, ![8, 1024, 512]⟩
abbrev S2x1024x512 : Shape := ⟨3, ![2, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let v4 : BitVec 32 := Scalar.addi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel13.lean ====
abbrev S8x896x1024 : Shape := ⟨3, ![8, 896, 1024]⟩
abbrev S2x512x1024 : Shape := ⟨3, ![2, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x896x1024, .bf16⟩
  | .hbm, ⟨1, _⟩ => ⟨S8x896x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S8x896x1024 : Shape := ⟨3, ![8, 896, 1024]⟩
abbrev S2x512x1024 : Shape := ⟨3, ![2, 512, 1024]⟩
abbrev S8x512x1024 : Shape := ⟨3, ![8, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x896x1024, .bf16⟩
  | .hbm, ⟨1, _⟩ => ⟨S8x896x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x512x1024, .bf16⟩
  | .hbm, ⟨6, _⟩ => ⟨S8x512x1024, .bf16⟩
  | .hbm, ⟨7, _⟩ => ⟨S8x512x1024, .f32⟩
  | .hbm, ⟨8, _⟩ => ⟨S_, .f32⟩
  | .hbm, ⟨9, _⟩ => ⟨S512x1024, .f32⟩
  | .hbm, ⟨10, _⟩ => ⟨S8x512x1024, .f32⟩
  | .hbm, ⟨11, _⟩ => ⟨S_, .f32⟩
  | .hbm, ⟨12, _⟩ => ⟨S512x1024, .f32⟩
  | .hbm, ⟨13, _⟩ => ⟨S1x512x1024, .f32⟩
  | .hbm, ⟨14, _⟩ => ⟨S1x512x1024, .f32⟩
  | .hbm, ⟨15, _⟩ => ⟨S2x512x1024, .f32⟩
  | .hbm, ⟨16, _⟩ => ⟨S_, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S2x512x1024, .f32⟩
  | .hbm, ⟨23, _⟩ => ⟨S_, .f32⟩
  | .hbm, ⟨24, _⟩ => ⟨S2x512x1024, .f32⟩
  | .hbm, ⟨25, _⟩ => ⟨S2x512x1024, .f32⟩
  | .hbm, ⟨26, _⟩ => ⟨S2x512x1024, .f32⟩
  | .hbm, ⟨27, _⟩ => ⟨S_, .f32⟩
  | .hbm, ⟨28, _⟩ => ⟨S2x512x1024, .f32⟩
  | .hbm, ⟨29, _⟩ => ⟨S2x512x1024, .f32⟩
  | .hbm, ⟨30, _⟩ => ⟨S2x512x1024, .f32⟩
  | .hbm, ⟨31, _⟩ => ⟨S_, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S2x512x1024, .f32⟩
  | .hbm, ⟨38, _⟩ => ⟨S_, .f32⟩
  | .hbm, ⟨39, _⟩ => ⟨S2x512x1024, .f32⟩
  | .hbm, ⟨40, _⟩ => ⟨S2x512x1024, .f32⟩
  | .hbm, ⟨41, _⟩ => ⟨S2x512x1024, .f32⟩
  | .hbm, ⟨42, _⟩ => ⟨S_, .f32⟩
  | .hbm, ⟨43, _⟩ => ⟨S2x512x1024, .f32⟩
  | .hbm, ⟨44, _⟩ => ⟨S2x512x1024, .f32⟩
  | .hbm, ⟨45, _⟩ => ⟨S2x512x1024, .f32⟩
  | .hbm, ⟨46, _⟩ => ⟨S_, .f32⟩
  | .hbm, ⟨47, _⟩ => ⟨S2x512x1024, .f32⟩
  | .hbm, ⟨48, _⟩ => ⟨S2x512x1024, .f32⟩
  | _, _ => ⟨S8x896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel14.lean ====
abbrev S8x896x1024 : Shape := ⟨3, ![8, 896, 1024]⟩
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x896x1024, .bf16⟩
  | .hbm, ⟨1, _⟩ => ⟨S8x896x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c4_i32 : BitVec 32 := 4#32
  let v4 : BitVec 32 := Scalar.addi c4_i32 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c4_i32 : BitVec 32 := 4#32
  let v4 : BitVec 32 := Scalar.addi c4_i32 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference14Ideal.lean ====
abbrev S8x896x1024 : Shape := ⟨3, ![8, 896, 1024]⟩
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x896x1024, .bf16⟩
  | .hbm, ⟨1, _⟩ => ⟨S8x896x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .bf16⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S1x128x1024, .f32⟩
  | .hbm, ⟨14, _⟩ => ⟨S1x128x1024, .f32⟩
  | .hbm, ⟨15, _⟩ => ⟨S2x128x1024, .f32⟩
  | .hbm, ⟨16, _⟩ => ⟨S_, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | _, _ => ⟨S8x896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel15.lean ====
abbrev S8x896x1024 : Shape := ⟨3, ![8, 896, 1024]⟩
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x896x1024, .bf16⟩
  | .hbm, ⟨1, _⟩ => ⟨S8x896x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c5_i32 : BitVec 32 := 5#32
  let v4 : BitVec 32 := Scalar.addi c5_i32 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c5_i32 : BitVec 32 := 5#32
  let v4 : BitVec 32 := Scalar.addi c5_i32 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference15Ideal.lean ====
abbrev S8x896x1024 : Shape := ⟨3, ![8, 896, 1024]⟩
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x896x1024, .bf16⟩
  | .hbm, ⟨1, _⟩ => ⟨S8x896x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .bf16⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S1x128x1024, .f32⟩
  | .hbm, ⟨14, _⟩ => ⟨S1x128x1024, .f32⟩
  | .hbm, ⟨15, _⟩ => ⟨S2x128x1024, .f32⟩
  | .hbm, ⟨16, _⟩ => ⟨S_, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | _, _ => ⟨S8x896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel16.lean ====
abbrev S8x896x1024 : Shape := ⟨3, ![8, 896, 1024]⟩
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x896x1024, .bf16⟩
  | .hbm, ⟨1, _⟩ => ⟨S8x896x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c6_i32 : BitVec 32 := 6#32
  let v4 : BitVec 32 := Scalar.addi c6_i32 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c6_i32 : BitVec 32 := 6#32
  let v4 : BitVec 32 := Scalar.addi c6_i32 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference16Ideal.lean ====
abbrev S8x896x1024 : Shape := ⟨3, ![8, 896, 1024]⟩
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x896x1024, .bf16⟩
  | .hbm, ⟨1, _⟩ => ⟨S8x896x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .bf16⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S1x128x1024, .f32⟩
  | .hbm, ⟨14, _⟩ => ⟨S1x128x1024, .f32⟩
  | .hbm, ⟨15, _⟩ => ⟨S2x128x1024, .f32⟩
  | .hbm, ⟨16, _⟩ => ⟨S_, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | _, _ => ⟨S8x896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel17.lean ====
abbrev S8x4x32x256 : Shape := ⟨4, ![8, 4, 32, 256]⟩
abbrev S2x4x32x256 : Shape := ⟨4, ![2, 4, 32, 256]⟩
abbrev S1x4x32x256 : Shape := ⟨4, ![1, 4, 32, 256]⟩
abbrev S4x32x256 : Shape := ⟨3, ![4, 32, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x4x32x256, .bf16⟩
  | .hbm, ⟨1, _⟩ => ⟨S8x4x32x256, .bf16⟩
  | .hbm, ⟨2, _⟩ => ⟨S2x4x32x256, .f32⟩
  | .hbm, ⟨3, _⟩ => ⟨S2x4x32x256, .f32⟩
  | .hbm, ⟨4, _⟩ => ⟨S2x4x32x256, .f32⟩
  | .hbm, ⟨5, _⟩ => ⟨S2x4x32x256, .f32⟩
  | .hbm, ⟨6, _⟩ => ⟨S2x4x32x256, .f32⟩
  | .hbm, ⟨7, _⟩ => ⟨S2x4x32x256, .f32⟩
  | .hbm, ⟨8, _⟩ => ⟨S2x4x32x256, .f32⟩
  | .local _ .vmem, ⟨0, _⟩ => ⟨S8x4x32x256, .bf16⟩
  | .local _ .vmem, ⟨1, _⟩ => ⟨S8x4x32x256, .bf16⟩
  | .local _ .vmem, ⟨2, _⟩ => ⟨S8x4x32x256, .bf16⟩
  | .local _ .vmem, ⟨3, _⟩ => ⟨S8x4x32x256, .bf16⟩
  | .local _ .vmem, ⟨4, _⟩ => ⟨S1x4x32x256, .f32⟩
  | .local _ .vmem, ⟨5, _⟩ => ⟨S1x4x32x256, .f32⟩
  | .local _ .vmem, ⟨6, _⟩ => ⟨S1x4x32x256, .f32⟩
  | .local _ .vmem, ⟨7, _⟩ => ⟨S1x4x32x256, .f32⟩
  | .local _ .vmem, ⟨8, _⟩ => ⟨S1x4x32x256, .f32⟩
  | .local _ .vmem, ⟨9, _⟩ => ⟨S1x4x32x256, .f32⟩
  | .local _ .vmem, ⟨10, _⟩ => ⟨S1x4x32x256, .f32⟩
  | .local _ .vmem, ⟨11, _⟩ => ⟨S1x4x32x256, .f32⟩
  | .local _ .vmem, ⟨12, _⟩ => ⟨S1x4x32x256, .f32⟩
  | .local _ .vmem, ⟨13, _⟩ => ⟨S1x4x32x256, .f32⟩
  | .local _ .vmem, ⟨14, _⟩ => ⟨S1x4x32x256, .f32⟩
  | .local _ .vmem, ⟨15, _⟩ => ⟨S1x4x32x256, .f32⟩
  | .local _ .vmem, ⟨16, _⟩ => ⟨S1x4x32x256, .f32⟩
  | .local _ .vmem, ⟨17, _⟩ => ⟨S1x4x32x256, .f32⟩
  | _, _ => ⟨S8x4x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  let c0_i32_7 : BitVec 32 := 0#32
  ![c0_i32_4.toNat, v4.toNat, c0_i32_5.toNat, c0_i32_6.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  let c0_i32_6 : BitVec 32 := 0#32
  ![c0_i32_3.toNat, v4.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference17Ideal.lean ====
abbrev S8x4x32x256 : Shape := ⟨4, ![8, 4, 32, 256]⟩
abbrev S2x4x32x256 : Shape := ⟨4, ![2, 4, 32, 256]⟩
abbrev S_ : Shape := ⟨0, ![]⟩
abbrev S4x32x256 : Shape := ⟨3, ![4, 32, 256]⟩
abbrev S1x4x32x256 : Shape := ⟨4, ![1, 4, 32, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x4x32x256, .bf16⟩
  | .hbm, ⟨1, _⟩ => ⟨S8x4x32x256, .bf16⟩
  | .hbm, ⟨2, _⟩ => ⟨S2x4x32x256, .f32⟩
  | .hbm, ⟨3, _⟩ => ⟨S2x4x32x256, .f32⟩
  | .hbm, ⟨4, _⟩ => ⟨S2x4x32x256, .f32⟩
  | .hbm, ⟨5, _⟩ => ⟨S8x4x32x256, .f32⟩
  | .hbm, ⟨6, _⟩ => ⟨S_, .f32⟩
  | .hbm, ⟨7, _⟩ => ⟨S4x32x256, .f32⟩
  | .hbm, ⟨8, _⟩ => ⟨S8x4x32x256, .f32⟩
  | .hbm, ⟨9, _⟩ => ⟨S_, .f32⟩
  | .hbm, ⟨10, _⟩ => ⟨S4x32x256, .f32⟩
  | .hbm, ⟨11, _⟩ => ⟨S1x4x32x256, .f32⟩
  | .hbm, ⟨12, _⟩ => ⟨S1x4x32x256, .f32⟩
  | .hbm, ⟨13, _⟩ => ⟨S2x4x32x256, .f32⟩
  | .hbm, ⟨14, _⟩ => ⟨S_, .f32⟩
  | .hbm, ⟨15, _⟩ => ⟨S2x4x32x256, .f32⟩
  | .hbm, ⟨16, _⟩ => ⟨S2x4x32x256, .f32⟩
  | .hbm, ⟨17, _⟩ => ⟨S_, .f32⟩
  | .hbm, ⟨18, _⟩ => ⟨S2x4x32x256, .f32⟩
  | .hbm, ⟨19, _⟩ => ⟨S2x4x32x256, .f32⟩
  | .hbm, ⟨20, _⟩ => ⟨S2x4x32x256, .f32⟩
  | .hbm, ⟨21, _⟩ => ⟨S_, .f32⟩
  | .hbm, ⟨22, _⟩ => ⟨S2x4x32x256, .f32⟩
  | .hbm, ⟨23, _⟩ => ⟨S2x4x32x256, .f32⟩
  | .hbm, ⟨24, _⟩ => ⟨S2x4x32x256, .f32⟩
  | .hbm, ⟨25, _⟩ => ⟨S_, .f32⟩
  | .hbm, ⟨26, _⟩ => ⟨S2x4x32x256, .f32⟩
  | .hbm, ⟨27, _⟩ => ⟨S2x4x32x256, .f32⟩
  | .hbm, ⟨28, _⟩ => ⟨S2x4x32x256, .f32⟩
  | .hbm, ⟨29, _⟩ => ⟨S_, .f32⟩
  | .hbm, ⟨30, _⟩ => ⟨S2x4x32x256, .f32⟩
  | .hbm, ⟨31, _⟩ => ⟨S2x4x32x256, .f32⟩
  | .hbm, ⟨32, _⟩ => ⟨S_, .f32⟩
  | .hbm, ⟨33, _⟩ => ⟨S2x4x32x256, .f32⟩
  | .hbm, ⟨34, _⟩ => ⟨S2x4x32x256, .f32⟩
  | .hbm, ⟨35, _⟩ => ⟨S2x4x32x256, .f32⟩
  | .hbm, ⟨36, _⟩ => ⟨S_, .f32⟩
  | .hbm, ⟨37, _⟩ => ⟨S2x4x32x256, .f32⟩
  | .hbm, ⟨38, _⟩ => ⟨S2x4x32x256, .f32⟩
  | .hbm, ⟨39, _⟩ => ⟨S2x4x32x256, .f32⟩
  | .hbm, ⟨40, _⟩ => ⟨S_, .f32⟩
  | .hbm, ⟨41, _⟩ => ⟨S2x4x32x256, .f32⟩
  | .hbm, ⟨42, _⟩ => ⟨S2x4x32x256, .f32⟩
  | .hbm, ⟨43, _⟩ => ⟨S2x4x32x256, .f32⟩
  | .hbm, ⟨44, _⟩ => ⟨S_, .f32⟩
  | .hbm, ⟨45, _⟩ => ⟨S2x4x32x256, .f32⟩
  | .hbm, ⟨46, _⟩ => ⟨S2x4x32x256, .f32⟩
  | _, _ => ⟨S8x4x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S2x3x128 : Shape := ⟨3, ![2, 3, 128]⟩
abbrev S1x2x3x128 : Shape := ⟨4, ![1, 2, 3, 128]⟩

abbrev nBuf : Space → Nat
  | .hbm => 9
  | .vmem => 8
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S1x2x3x128, .f32⟩
  | .hbm, ⟨5, _⟩ => ⟨S2x3x128, .f32⟩
  | .hbm, ⟨6, _⟩ => ⟨S2x3x128, .f32⟩
  | .hbm, ⟨7, _⟩ => ⟨S2x3x128, .f32⟩
  | .hbm, ⟨8, _⟩ => ⟨S2x3x128, .f32⟩
  | .local _ .vmem, ⟨0, _⟩ => ⟨S1x2x3x128, .f32⟩
  | .local _ .vmem, ⟨1, _⟩ => ⟨S2x3x128, .f32⟩
  | .local _ .vmem, ⟨2, _⟩ => ⟨S2x3x128, .f32⟩
  | .local _ .vmem, ⟨3, _⟩ => ⟨S2x3x128, .f32⟩
  | .local _ .vmem, ⟨4, _⟩ => ⟨S2x3x128, .f32⟩
  | .local _ .vmem, ⟨5, _⟩ => ⟨S2x3x128, .f32⟩
  | .local _ .vmem, ⟨6, _⟩ => ⟨S2x3x128, .f32⟩
  | .local _ .vmem, ⟨7, _⟩ => ⟨S2x3x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x2x3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference18Ideal.lean ====
abbrev S2x3x128 : Shape := ⟨3, ![2, 3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S_, .f32⟩
  | .hbm, ⟨5, _⟩ => ⟨S2x3x128, .f32⟩
  | .hbm, ⟨6, _⟩ => ⟨S2x3x128, .f32⟩
  | .hbm, ⟨7, _⟩ => ⟨S_, .f32⟩
  | .hbm, ⟨8, _⟩ => ⟨S2x3x128, .f32⟩
  | .hbm, ⟨9, _⟩ => ⟨S2x3x128, .f32⟩
  | .hbm, ⟨10, _⟩ => ⟨S2x3x128, .f32⟩
  | .hbm, ⟨11, _⟩ => ⟨S_, .f32⟩
  | .hbm, ⟨12, _⟩ => ⟨S2x3x128, .f32⟩
  | .hbm, ⟨13, _⟩ => ⟨S2x3x128, .f32⟩
  | .hbm, ⟨14, _⟩ => ⟨S2x3x128, .f32⟩
  | .hbm, ⟨15, _⟩ => ⟨S_, .f32⟩
  | .hbm, ⟨16, _⟩ => ⟨S2x3x128, .f32⟩
  | .hbm, ⟨17, _⟩ => ⟨S2x3x128, .f32⟩
  | .hbm, ⟨18, _⟩ => ⟨S2x3x128, .f32⟩
  | .hbm, ⟨19, _⟩ => ⟨S_, .f32⟩
  | .hbm, ⟨20, _⟩ => ⟨S2x3x128, .f32⟩
  | .hbm, ⟨21, _⟩ => ⟨S2x3x128, .f32⟩
  | .hbm, ⟨22, _⟩ => ⟨S_, .f32⟩
  | .hbm, ⟨23, _⟩ => ⟨S2x3x128, .f32⟩
  | .hbm, ⟨24, _⟩ => ⟨S2x3x128, .f32⟩
  | .hbm, ⟨25, _⟩ => ⟨S2x3x128, .f32⟩
  | .hbm, ⟨26, _⟩ => ⟨S_, .f32⟩
  | .hbm, ⟨27, _⟩ => ⟨S2x3x128, .f32⟩
  | .hbm, ⟨28, _⟩ => ⟨S2x3x128, .f32⟩
  | .hbm, ⟨29, _⟩ => ⟨S2x3x128, .f32⟩
  | .hbm, ⟨30, _⟩ => ⟨S_, .f32⟩
  | .hbm, ⟨31, _⟩ => ⟨S2x3x128, .f32⟩
  | .hbm, ⟨32, _⟩ => ⟨S2x3x128, .f32⟩
  | .hbm, ⟨33, _⟩ => ⟨S2x3x128, .f32⟩
  | .hbm, ⟨34, _⟩ => ⟨S_, .f32⟩
  | .hbm, ⟨35, _⟩ => ⟨S2x3x128, .f32⟩
  | .hbm, ⟨36, _⟩ => ⟨S2x3x128, .f32⟩
  | _, _ => ⟨S2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x31x128 : Shape := ⟨3, ![2, 31, 128]⟩
abbrev S1x2x31x128 : Shape := ⟨4, ![1, 2, 31, 128]⟩

abbrev nBuf : Space → Nat
  | .hbm => 9
  | .vmem => 8
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S1x2x31x128, .f32⟩
  | .hbm, ⟨5, _⟩ => ⟨S2x31x128, .f32⟩
  | .hbm, ⟨6, _⟩ => ⟨S2x31x128, .f32⟩
  | .hbm, ⟨7, _⟩ => ⟨S2x31x128, .f32⟩
  | .hbm, ⟨8, _⟩ => ⟨S2x31x128, .f32⟩
  | .local _ .vmem, ⟨0, _⟩ => ⟨S1x2x31x128, .f32⟩
  | .local _ .vmem, ⟨1, _⟩ => ⟨S2x31x128, .f32⟩
  | .local _ .vmem, ⟨2, _⟩ => ⟨S2x31x128, .f32⟩
  | .local _ .vmem, ⟨3, _⟩ => ⟨S2x31x128, .f32⟩
  | .local _ .vmem, ⟨4, _⟩ => ⟨S2x31x128, .f32⟩
  | .local _ .vmem, ⟨5, _⟩ => ⟨S2x31x128, .f32⟩
  | .local _ .vmem, ⟨6, _⟩ => ⟨S2x31x128, .f32⟩
  | .local _ .vmem, ⟨7, _⟩ => ⟨S2x31x128, .f32⟩
  | _, _ => ⟨S2x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x2x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x31x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference19Ideal.lean ====
abbrev S2x31x128 : Shape := ⟨3, ![2, 31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S_, .f32⟩
  | .hbm, ⟨5, _⟩ => ⟨S2x31x128, .f32⟩
  | .hbm, ⟨6, _⟩ => ⟨S2x31x128, .f32⟩
  | .hbm, ⟨7, _⟩ => ⟨S_, .f32⟩
  | .hbm, ⟨8, _⟩ => ⟨S2x31x128, .f32⟩
  | .hbm, ⟨9, _⟩ => ⟨S2x31x128, .f32⟩
  | .hbm, ⟨10, _⟩ => ⟨S2x31x128, .f32⟩
  | .hbm, ⟨11, _⟩ => ⟨S_, .f32⟩
  | .hbm, ⟨12, _⟩ => ⟨S2x31x128, .f32⟩
  | .hbm, ⟨13, _⟩ => ⟨S2x31x128, .f32⟩
  | .hbm, ⟨14, _⟩ => ⟨S2x31x128, .f32⟩
  | .hbm, ⟨15, _⟩ => ⟨S_, .f32⟩
  | .hbm, ⟨16, _⟩ => ⟨S2x31x128, .f32⟩
  | .hbm, ⟨17, _⟩ => ⟨S2x31x128, .f32⟩
  | .hbm, ⟨18, _⟩ => ⟨S2x31x128, .f32⟩
  | .hbm, ⟨19, _⟩ => ⟨S_, .f32⟩
  | .hbm, ⟨20, _⟩ => ⟨S2x31x128, .f32⟩
  | .hbm, ⟨21, _⟩ => ⟨S2x31x128, .f32⟩
  | .hbm, ⟨22, _⟩ => ⟨S_, .f32⟩
  | .hbm, ⟨23, _⟩ => ⟨S2x31x128, .f32⟩
  | .hbm, ⟨24, _⟩ => ⟨S2x31x128, .f32⟩
  | .hbm, ⟨25, _⟩ => ⟨S2x31x128, .f32⟩
  | .hbm, ⟨26, _⟩ => ⟨S_, .f32⟩
  | .hbm, ⟨27, _⟩ => ⟨S2x31x128, .f32⟩
  | .hbm, ⟨28, _⟩ => ⟨S2x31x128, .f32⟩
  | .hbm, ⟨29, _⟩ => ⟨S2x31x128, .f32⟩
  | .hbm, ⟨30, _⟩ => ⟨S_, .f32⟩
  | .hbm, ⟨31, _⟩ => ⟨S2x31x128, .f32⟩
  | .hbm, ⟨32, _⟩ => ⟨S2x31x128, .f32⟩
  | .hbm, ⟨33, _⟩ => ⟨S2x31x128, .f32⟩
  | .hbm, ⟨34, _⟩ => ⟨S_, .f32⟩
  | .hbm, ⟨35, _⟩ => ⟨S2x31x128, .f32⟩
  | .hbm, ⟨36, _⟩ => ⟨S2x31x128, .f32⟩
  | _, _ => ⟨S2x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩
abbrev S1 : Shape := ⟨1, ![1]⟩
abbrev S_ : Shape := ⟨0, ![]⟩

abbrev nBuf : Space → Nat
  | .hbm => 17
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S8x1024, .f32⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | _ => false

abbrev sig : RefSig :=
  ofTc nBuf bufTy 1 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev main_v3_s0 : Ref sig .tc := ⟨.hbm, 9, rfl⟩
abbrev main_v3_s1 : Ref sig .tc := ⟨.hbm, 10, rfl⟩
abbrev main_v3_s2 : Ref sig .tc := ⟨.hbm, 11, rfl⟩
abbrev main_v3_s3 : Ref sig .tc := ⟨.hbm, 12, rfl⟩
abbrev main_v3_s4 : Ref sig .tc := ⟨.hbm, 13, rfl⟩
abbrev main_v3_s5 : Ref sig .tc := ⟨.hbm, 14, rfl⟩
abbrev main_v3_s6 : Ref sig .tc := ⟨.hbm, 15, rfl⟩
abbrev main_v3_s7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev ar0_recv : DmaSem sig := 11
abbrev ar0_send : DmaSem sig := 12
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v50 : BitVec 1 := Scalar.cmpi .eq arg0 c15_i32
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S65536x1024 : Shape := ⟨2, ![65536, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩

abbrev nBuf : Space → Nat
  | .hbm => 29
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S65536x1024, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel21.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel22.lean ====
abbrev S8192x4096 : Shape := ⟨2, ![8192, 4096]⟩
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8x128 : Shape := ⟨2, ![8, 128]⟩
abbrev S1024x8x512 : Shape := ⟨3, ![1024, 8, 512]⟩
abbrev S8x1024x512 : Shape := ⟨3, ![8, 1024, 512]⟩
abbrev S512x4096 : Shape := ⟨2, ![512, 4096]⟩
abbrev S512x1024 : Shape := ⟨2, ![512, 1024]⟩
abbrev S8x1024 : Shape := ⟨2, ![8, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024x4096, .f32⟩
  | .hbm, ⟨5, _⟩ => ⟨S_, .f32⟩
  | .hbm, ⟨6, _⟩ => ⟨S8x128, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 16], ![false, false]⟩

def k0_cond3 (i : grid0.Coords) : BitVec 1 :=
  let arg1 : BitVec 32 := BitVec.ofNat 32 (i 1).val
  let c15_i32 : BitVec 32 := 15#32
  let v78 : BitVec 1 := Scalar.cmpi .eq arg1 c15_i32
  let v79 : BitVec 32 := Scalar.extui v78
  let c0_i32_44 : BitVec 32 := 0#32
  let v80 : BitVec 1 := Scalar.cmpi .ne v79 c0_i32_44
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference22Ideal.lean ====
abbrev S8192x4096 : Shape := ⟨2, ![8192, 4096]⟩
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel23.lean ====
abbrev S8192x4096 : Shape := ⟨2, ![8192, 4096]⟩
abbrev S8192x1024 : Shape := ⟨2, ![8192, 1024]⟩
abbrev S8x512x1024 : Shape := ⟨3, ![8, 512, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference23Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S8x512x1024, .f32⟩
  | .hbm, ⟨14, _⟩ => ⟨S8x512x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel24.lean ====
abbrev S8192x1024 : Shape := ⟨2, ![8192, 1024]⟩
abbrev S8x4x32x256 : Shape := ⟨4, ![8, 4, 32, 256]⟩
abbrev S2048x1024 : Shape := ⟨2, ![2048, 1024]⟩
abbrev S4x256x256 : Shape := ⟨3, ![4, 256, 256]⟩
abbrev S2048x256 : Shape := ⟨2, ![2048, 256]⟩
abbrev S256x256 : Shape := ⟨2, ![256, 256]⟩
abbrev S1x256x256 : Shape := ⟨3, ![1, 256, 256]⟩
abbrev S8x32x256 : Shape := ⟨3, ![8, 32, 256]⟩
abbrev S8x1x32x256 : Shape := ⟨4, ![8, 1, 32, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x4x32x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x4x32x256, .bf16⟩
  | .local _ .vmem, ⟨5, _⟩ => ⟨S4x256x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond9 (i : grid0.Coords) : BitVec 1 :=
  let arg0 : BitVec 32 := BitVec.ofNat 32 (i 0).val
  let c3_i32 : BitVec 32 := 3#32
  let v36 : BitVec 1 := Scalar.cmpi .eq arg0 c3_i32
  let v37 : BitVec 32 := Scalar.extui v36
  let c0_i32_30 : BitVec 32 := 0#32
  let v38 : BitVec 1 := Scalar.cmpi .ne v37 c0_i32_30
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4x32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference24Ideal.lean ====
abbrev S8192x1024 : Shape := ⟨2, ![8192, 1024]⟩
abbrev S_ : Shape := ⟨0, ![]⟩
abbrev S4x256x256 : Shape := ⟨3, ![4, 256, 256]⟩
abbrev S8192x4x256 : Shape := ⟨3, ![8192, 4, 256]⟩
abbrev S4x256x8192 : Shape := ⟨3, ![4, 256, 8192]⟩
abbrev S4x8x32x256 : Shape := ⟨4, ![4, 8, 32, 256]⟩
abbrev S8x4x32x256 : Shape := ⟨4, ![8, 4, 32, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S4x256x256, .f32⟩
  | .hbm, ⟨4, _⟩ => ⟨S8192x1024, .f32⟩
  | .hbm, ⟨5, _⟩ => ⟨S8192x4x256, .f32⟩
  | .hbm, ⟨6, _⟩ => ⟨S4x256x8192, .f32⟩
  | .hbm, ⟨7, _⟩ => ⟨S8192x4x256, .f32⟩
  | .hbm, ⟨8, _⟩ => ⟨S8192x1024, .f32⟩
  | .hbm, ⟨9, _⟩ => ⟨S8192x1024, .f32⟩
  | .hbm, ⟨10, _⟩ => ⟨S8192x4x256, .f32⟩
  | .hbm, ⟨11, _⟩ => ⟨S4x256x8192, .f32⟩
  | .hbm, ⟨12, _⟩ => ⟨S4x256x256, .f32⟩
  | .hbm, ⟨13, _⟩ => ⟨S4x256x256, .f32⟩
  | .hbm, ⟨14, _⟩ => ⟨S4x8x32x256, .f32⟩
  | .hbm, ⟨15, _⟩ => ⟨S8x4x32x256, .f32⟩
  | .hbm, ⟨16, _⟩ => ⟨S8x4x32x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel25.lean ====
abbrev S8192x1024 : Shape := ⟨2, ![8192, 1024]⟩
abbrev S8x896x1024 : Shape := ⟨3, ![8, 896, 1024]⟩
abbrev S2048x1024 : Shape := ⟨2, ![2048, 1024]⟩
abbrev S8x128x1024 : Shape := ⟨3, ![8, 128, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x896x1024, .bf16⟩
  | .hbm, ⟨3, _⟩ => ⟨S8x896x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  let c0_i32_1 : BitVec 32 := 0#32
  ![c0_i32.toNat, c6_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference25Ideal.lean ====
abbrev S8192x1024 : Shape := ⟨2, ![8192, 1024]⟩
abbrev S8x896x1024 : Shape := ⟨3, ![8, 896, 1024]⟩
abbrev S_ : Shape := ⟨0, ![]⟩
abbrev S1024x1024 : Shape := ⟨2, ![1024, 1024]⟩
abbrev S8x768x1024 : Shape := ⟨3, ![8, 768, 1024]⟩
abbrev S8x128x1024 : Shape := ⟨3, ![8, 128, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x896x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8x768x1024, .bf16⟩
  | .hbm, ⟨11, _⟩ => ⟨S8x128x1024, .f32⟩
  | .hbm, ⟨12, _⟩ => ⟨S8x128x1024, .bf16⟩
  | .hbm, ⟨13, _⟩ => ⟨S8x896x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel26.lean ====
abbrev S8192x1024 : Shape := ⟨2, ![8192, 1024]⟩
abbrev S8x896x1024 : Shape := ⟨3, ![8, 896, 1024]⟩
abbrev S2048x1024 : Shape := ⟨2, ![2048, 1024]⟩
abbrev S8x128x1024 : Shape := ⟨3, ![8, 128, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x896x1024, .bf16⟩
  | .hbm, ⟨3, _⟩ => ⟨S8x896x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference26Ideal.lean ====
abbrev S8192x1024 : Shape := ⟨2, ![8192, 1024]⟩
abbrev S8x896x1024 : Shape := ⟨3, ![8, 896, 1024]⟩
abbrev S_ : Shape := ⟨0, ![]⟩
abbrev S1024x1024 : Shape := ⟨2, ![1024, 1024]⟩
abbrev S8x512x1024 : Shape := ⟨3, ![8, 512, 1024]⟩
abbrev S8x128x1024 : Shape := ⟨3, ![8, 128, 1024]⟩
abbrev S8x640x1024 : Shape := ⟨3, ![8, 640, 1024]⟩
abbrev S8x256x1024 : Shape := ⟨3, ![8, 256, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x896x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8x512x1024, .bf16⟩
  | .hbm, ⟨11, _⟩ => ⟨S8x128x1024, .f32⟩
  | .hbm, ⟨12, _⟩ => ⟨S8x128x1024, .bf16⟩
  | .hbm, ⟨13, _⟩ => ⟨S8x640x1024, .bf16⟩
  | .hbm, ⟨14, _⟩ => ⟨S8x256x1024, .bf16⟩
  | .hbm, ⟨15, _⟩ => ⟨S8x896x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel27.lean ====
abbrev S8192x1024 : Shape := ⟨2, ![8192, 1024]⟩
abbrev S8x896x1024 : Shape := ⟨3, ![8, 896, 1024]⟩
abbrev S2048x1024 : Shape := ⟨2, ![2048, 1024]⟩
abbrev S8x128x1024 : Shape := ⟨3, ![8, 128, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x896x1024, .bf16⟩
  | .hbm, ⟨3, _⟩ => ⟨S8x896x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  ![c0_i32.toNat, c5_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference27Ideal.lean ====
abbrev S8192x1024 : Shape := ⟨2, ![8192, 1024]⟩
abbrev S8x896x1024 : Shape := ⟨3, ![8, 896, 1024]⟩
abbrev S_ : Shape := ⟨0, ![]⟩
abbrev S1024x1024 : Shape := ⟨2, ![1024, 1024]⟩
abbrev S8x640x1024 : Shape := ⟨3, ![8, 640, 1024]⟩
abbrev S8x128x1024 : Shape := ⟨3, ![8, 128, 1024]⟩
abbrev S8x768x1024 : Shape := ⟨3, ![8, 768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x896x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8x640x1024, .bf16⟩
  | .hbm, ⟨11, _⟩ => ⟨S8x128x1024, .f32⟩
  | .hbm, ⟨12, _⟩ => ⟨S8x128x1024, .bf16⟩
  | .hbm, ⟨13, _⟩ => ⟨S8x768x1024, .bf16⟩
  | .hbm, ⟨14, _⟩ => ⟨S8x128x1024, .bf16⟩
  | .hbm, ⟨15, _⟩ => ⟨S8x896x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel28.lean ====
abbrev S8192x9216 : Shape := ⟨2, ![8192, 9216]⟩
abbrev S8192x1024 : Shape := ⟨2, ![8192, 1024]⟩
abbrev S3x1024 : Shape := ⟨2, ![3, 1024]⟩
abbrev S31x1024 : Shape := ⟨2, ![31, 1024]⟩
abbrev S1x1024 : Shape := ⟨2, ![1, 1024]⟩
abbrev S4096x1024 : Shape := ⟨2, ![4096, 1024]⟩
abbrev S1024x1024 : Shape := ⟨2, ![1024, 1024]⟩
abbrev S4x256x256 : Shape := ⟨3, ![4, 256, 256]⟩
abbrev S4x8x32x256 : Shape := ⟨4, ![4, 8, 32, 256]⟩
abbrev S8x4x32x256 : Shape := ⟨4, ![8, 4, 32, 256]⟩
abbrev S8x512x1024 : Shape := ⟨3, ![8, 512, 1024]⟩
abbrev S8x128x1024 : Shape := ⟨3, ![8, 128, 1024]⟩
abbrev S8x640x1024 : Shape := ⟨3, ![8, 640, 1024]⟩
abbrev S8x256x1024 : Shape := ⟨3, ![8, 256, 1024]⟩
abbrev S8x896x1024 : Shape := ⟨3, ![8, 896, 1024]⟩
abbrev S256x9216 : Shape := ⟨2, ![256, 9216]⟩
abbrev S32x6144 : Shape := ⟨2, ![32, 6144]⟩
abbrev S256x1024 : Shape := ⟨2, ![256, 1024]⟩
abbrev S288x1024 : Shape := ⟨2, ![288, 1024]⟩
abbrev S7x288x1024 : Shape := ⟨3, ![7, 288, 1024]⟩
abbrev S3x8x1024 : Shape := ⟨3, ![3, 8, 1024]⟩
abbrev S31x8x1024 : Shape := ⟨3, ![31, 8, 1024]⟩
abbrev S8x1024 : Shape := ⟨2, ![8, 1024]⟩
abbrev S1x8x1024 : Shape := ⟨3, ![1, 8, 1024]⟩
abbrev S32x1024 : Shape := ⟨2, ![32, 1024]⟩
abbrev S280x1024 : Shape := ⟨2, ![280, 1024]⟩
abbrev S1x280x1024 : Shape := ⟨3, ![1, 280, 1024]⟩
abbrev S4x8x1024 : Shape := ⟨3, ![4, 8, 1024]⟩
abbrev S1x32x1024 : Shape := ⟨3, ![1, 32, 1024]⟩
abbrev S256 : Shape := ⟨1, ![256]⟩
abbrev S256x1 : Shape := ⟨2, ![256, 1]⟩
abbrev S256x256 : Shape := ⟨2, ![256, 256]⟩
abbrev S272x768 : Shape := ⟨2, ![272, 768]⟩
abbrev S264x512 : Shape := ⟨2, ![264, 512]⟩
abbrev S8x1x32x256 : Shape := ⟨4, ![8, 1, 32, 256]⟩
abbrev S8x32x256 : Shape := ⟨3, ![8, 32, 256]⟩

abbrev nBuf : Space → Nat
  | .hbm => 36
  | .vmem => 46
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .f32⟩
  | .hbm, ⟨2, _⟩ => ⟨S3x1024, .f32⟩
  | .hbm, ⟨3, _⟩ => ⟨S31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S4x256x256, .f32⟩
  | .hbm, ⟨15, _⟩ => ⟨S4x8x32x256, .f32⟩
  | .hbm, ⟨16, _⟩ => ⟨S8x4x32x256, .f32⟩
  | .hbm, ⟨17, _⟩ => ⟨S8x4x32x256, .bf16⟩
  | .hbm, ⟨18, _⟩ => ⟨S8x512x1024, .f32⟩
  | .hbm, ⟨19, _⟩ => ⟨S8x128x1024, .f32⟩
  | .hbm, ⟨20, _⟩ => ⟨S8x640x1024, .f32⟩
  | .hbm, ⟨21, _⟩ => ⟨S8x128x1024, .f32⟩
  | .hbm, ⟨22, _⟩ => ⟨S8x128x1024, .f32⟩
  | .hbm, ⟨23, _⟩ => ⟨S8x256x1024, .f32⟩
  | .hbm, ⟨24, _⟩ => ⟨S8x896x1024, .f32⟩
  | .hbm, ⟨25, _⟩ => ⟨S8x896x1024, .bf16⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S8192x1024, .bf16⟩
  | .hbm, ⟨30, _⟩ => ⟨S8192x1024, .bf16⟩
  | .hbm, ⟨31, _⟩ => ⟨S8192x1024, .bf16⟩
  | .hbm, ⟨32, _⟩ => ⟨S8192x1024, .bf16⟩
  | .hbm, ⟨33, _⟩ => ⟨S8192x1024, .bf16⟩
  | .hbm, ⟨34, _⟩ => ⟨S8192x1024, .f32⟩
  | .hbm, ⟨35, _⟩ => ⟨S8192x1024, .bf16⟩
  | .local _ .vmem, ⟨0, _⟩ => ⟨S256x9216, .bf16⟩
  | .local _ .vmem, ⟨1, _⟩ => ⟨S256x9216, .bf16⟩
  | .local _ .vmem, ⟨2, _⟩ => ⟨S32x6144, .bf16⟩
  | .local _ .vmem, ⟨3, _⟩ => ⟨S32x6144, .bf16⟩
  | .local _ .vmem, ⟨4, _⟩ => ⟨S256x1024, .f32⟩
  | .local _ .vmem, ⟨5, _⟩ => ⟨S256x1024, .f32⟩
  | .local _ .vmem, ⟨6, _⟩ => ⟨S3x1024, .f32⟩
  | .local _ .vmem, ⟨7, _⟩ => ⟨S31x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S8x128x1024, .bf16⟩
  | .local _ .vmem, ⟨15, _⟩ => ⟨S8x128x1024, .bf16⟩
  | .local _ .vmem, ⟨16, _⟩ => ⟨S8x128x1024, .bf16⟩
  | .local _ .vmem, ⟨17, _⟩ => ⟨S8x4x32x256, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .f32⟩
  | .local _ .vmem, ⟨35, _⟩ => ⟨S256x1024, .f32⟩
  | .local _ .vmem, ⟨36, _⟩ => ⟨S256x1024, .bf16⟩
  | .local _ .vmem, ⟨37, _⟩ => ⟨S256x1024, .bf16⟩
  | .local _ .vmem, ⟨38, _⟩ => ⟨S288x1024, .f32⟩
  | .local _ .vmem, ⟨39, _⟩ => ⟨S288x1024, .f32⟩
  | .local _ .vmem, ⟨40, _⟩ => ⟨S288x1024, .f32⟩
  | .local _ .vmem, ⟨41, _⟩ => ⟨S7x288x1024, .f32⟩
  | .local _ .vmem, ⟨42, _⟩ => ⟨S3x8x1024, .f32⟩
  | .local _ .vmem, ⟨43, _⟩ => ⟨S31x8x1024, .f32⟩
  | .local _ .vmem, ⟨44, _⟩ => ⟨S288x1024, .f32⟩
  | .local _ .vmem, ⟨45, _⟩ => ⟨S288x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev main_v11_7 : Ref sig .tc := ⟨.hbm, 33, rfl⟩
abbrev main_v11_8 : Ref sig .tc := ⟨.hbm, 34, rfl⟩
abbrev main_v11_9 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_scratch7 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

def cc0_transform_12 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  let c0_i32_1 : BitVec 32 := 0#32
  ![c0_i32.toNat, c5_i32.toNat, c0_i32_0.toNat]

def cc0_transform_13 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  let c0_i32_1 : BitVec 32 := 0#32
  ![c0_i32.toNat, c6_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x4x32x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference28Ideal.lean ====
abbrev S8192x9216 : Shape := ⟨2, ![8192, 9216]⟩
abbrev S8192x1024 : Shape := ⟨2, ![8192, 1024]⟩
abbrev S3x1024 : Shape := ⟨2, ![3, 1024]⟩
abbrev S31x1024 : Shape := ⟨2, ![31, 1024]⟩
abbrev S1x1024 : Shape := ⟨2, ![1, 1024]⟩
abbrev S4096x1024 : Shape := ⟨2, ![4096, 1024]⟩
abbrev S1024x1024 : Shape := ⟨2, ![1024, 1024]⟩
abbrev S4x256x256 : Shape := ⟨3, ![4, 256, 256]⟩
abbrev S_ : Shape := ⟨0, ![]⟩
abbrev S2x1024 : Shape := ⟨2, ![2, 1024]⟩
abbrev S8194x1024 : Shape := ⟨2, ![8194, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .f32⟩
  | .hbm, ⟨2, _⟩ => ⟨S3x1024, .f32⟩
  | .hbm, ⟨3, _⟩ => ⟨S31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S4x256x256, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S2x1024, .f32⟩
  | .hbm, ⟨24, _⟩ => ⟨S8194x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S8192x1024, .f32⟩
  | .hbm, ⟨51, _⟩ => ⟨S8192x1024, .bf16⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.MergeSpec.lean ====
module

public import Idealize.ShloMosaic.Lib.Pointwise

@[expose] public section

set_option maxRecDepth 16384

noncomputable section

open Idealize.ShloMosaic Idealize.ShloMosaic.TcCoe Idealize.SL.Sem

/-! The gradient of the merge, entry by entry: what each of the nine results holds at a row and a column, as sums and
    products of the arguments' entries over the extended reals. Both programs are read down to these functions. -/

namespace Cert.Merge

/-- A matrix of `r` rows and `c` columns. -/
abbrev Mat (r c : ℕ) (φ : FTy) : Type := FVec Ideal ⟨2, ![r, c]⟩ φ

/-- Four square matrices of 256 rows: the pooled projection's weight, one matrix per group of 256 channels. -/
abbrev Pool (φ : FTy) : Type := FVec Ideal ⟨3, ![4, 256, 256]⟩ φ

variable (dx : Mat 8192 1024 .bf16) (proj : Mat 8192 9216 .bf16) (pa sw pc : Mat 8192 1024 .bf16)
  (wa wb : Mat 1024 1024 .f32) (bb : Mat 1 1024 .f32) (wp : Pool .f32) (ps : Mat 1 1024 .f32) (wo : Mat 1024 1024 .f32)

/-- The logistic function, one over one plus the exponential of minus the argument. -/
def sgm (x : EReal) : EReal := Ideal.div 1 (1 + Ideal.exp (-x))

/-- Gate `b` at row `r`, column `j`: the logistic function of the projection's column `6144 + 1024 b + j`. -/
def gate (b : Fin 3) (r : Fin 8192) (j : Fin 1024) : EReal :=
  sgm (proj (ix2 r ⟨6144 + (1024 * b.val + j.val), by omega⟩))

/-- The gradient of the merged branches: the incoming gradient times the output weight, transposed. -/
def dm (r : Fin 8192) (j : Fin 1024) : EReal := ∑ k : Fin 1024, dx (ix2 r k) * wo (ix2 j k)

/-- Branch a of the forward pass. -/
def ya (r : Fin 8192) (j : Fin 1024) : EReal := ∑ k : Fin 1024, pa (ix2 r k) * wa (ix2 k j)

/-- Branch b of the forward pass. -/
def yb (r : Fin 8192) (j : Fin 1024) : EReal := (∑ k : Fin 1024, sw (ix2 r k) * wb (ix2 k j)) + bb (ix2 0 j)

/-- The pooled branch of the forward pass before its scale. -/
def yp (r : Fin 8192) (j : Fin 1024) : EReal :=
  ∑ k : Fin 256, pc (ix2 r ⟨j.val / 256 * 256 + k.val, by omega⟩) * wp (ix3 ⟨j.val / 256, by omega⟩ k ⟨j.val % 256, by omega⟩)

/-- The gradient of branch a. -/
def dya (r : Fin 8192) (j : Fin 1024) : EReal := dm dx wo r j * gate proj 0 r j

/-- The gradient of branch b. -/
def dyb (r : Fin 8192) (j : Fin 1024) : EReal := dm dx wo r j * gate proj 1 r j

/-- The gradient of the scaled pooled branch. -/
def dyc (r : Fin 8192) (j : Fin 1024) : EReal := dm dx wo r j * gate proj 2 r j

/-- The gradient of the pooled branch before its scale. -/
def dyp (r : Fin 8192) (j : Fin 1024) : EReal := dyc dx proj wo r j * ps (ix2 0 j)

/-- The gradient of gate 0's argument. -/
def dg0 (r : Fin 8192) (j : Fin 1024) : EReal :=
  dm dx wo r j * ya pa wa r j * gate proj 0 r j * (1 - gate proj 0 r j)

/-- The gradient of gate 1's argument. -/
def dg1 (r : Fin 8192) (j : Fin 1024) : EReal :=
  dm dx wo r j * yb sw wb bb r j * gate proj 1 r j * (1 - gate proj 1 r j)

/-- The gradient of gate 2's argument. -/
def dg2 (r : Fin 8192) (j : Fin 1024) : EReal :=
  dm dx wo r j * (yp pc wp r j * ps (ix2 0 j)) * gate proj 2 r j * (1 - gate proj 2 r j)

/-- The gradient of branch a's input. -/
def dpa (r : Fin 8192) (j : Fin 1024) : EReal := ∑ k : Fin 1024, dya dx proj wo r k * wa (ix2 j k)

/-- The gradient of branch b's input. -/
def dsw (r : Fin 8192) (j : Fin 1024) : EReal := ∑ k : Fin 1024, dyb dx proj wo r k * wb (ix2 j k)

/-- The gradient of the pooled branch's input, at group `g` and channel `j` of the group. -/
def dpc (r : Fin 8192) (g : Fin 4) (j : Fin 256) : EReal :=
  ∑ k : Fin 256, dyp dx proj ps wo r ⟨g.val * 256 + k.val, by omega⟩ * wp (ix3 g j k)

/-- The gradient of branch b's bias. -/
def dbo (j : Fin 1024) : EReal := ∑ r : Fin 8192, dyb dx proj wo r j

/-- The gradient of the pooled branch's scale. -/
def dsc (j : Fin 1024) : EReal := ∑ r : Fin 8192, dyc dx proj wo r j * yp pc wp r j

end Cert.Merge
-- ==== Proof.MergeIn.lean ====
module

public import proofs.«01_k».proof.Proof.MergeSpec
public import proofs.«01_k».proof.Proof.Gen.KernelIdeal.Frame.Runs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.KernelIdeal Cert.KernelIdeal.Gen

variable (m : (ℓ : Loc nD τ sig) → Buf (Elt Ideal) ℓ)

/-! The kernel's arguments, by the names the specification uses. -/

/-- The incoming gradient. -/
abbrev Kdx (c : Dev nD) : Mat 8192 1024 .bf16 := m ((c : Thread nD τ).loc main_arg0)
/-- The projection. -/
abbrev Kproj (c : Dev nD) : Mat 8192 9216 .bf16 := m ((c : Thread nD τ).loc main_arg1)
/-- Branch a's input. -/
abbrev Kpa (c : Dev nD) : Mat 8192 1024 .bf16 := m ((c : Thread nD τ).loc main_arg2)
/-- Branch b's input. -/
abbrev Ksw (c : Dev nD) : Mat 8192 1024 .bf16 := m ((c : Thread nD τ).loc main_arg3)
/-- The pooled branch's input. -/
abbrev Kpc (c : Dev nD) : Mat 8192 1024 .bf16 := m ((c : Thread nD τ).loc main_arg4)
/-- Branch a's weight. -/
abbrev Kwa (c : Dev nD) : Mat 1024 1024 .f32 := m ((c : Thread nD τ).loc main_arg5)
/-- Branch b's weight. -/
abbrev Kwb (c : Dev nD) : Mat 1024 1024 .f32 := m ((c : Thread nD τ).loc main_arg6)
/-- Branch b's bias. -/
abbrev Kbb (c : Dev nD) : Mat 1 1024 .f32 := m ((c : Thread nD τ).loc main_arg7)
/-- The pooled branch's weight. -/
abbrev Kwp (c : Dev nD) : Pool .f32 := m ((c : Thread nD τ).loc main_arg8)
/-- The pooled branch's scale. -/
abbrev Kps (c : Dev nD) : Mat 1 1024 .f32 := m ((c : Thread nD τ).loc main_arg9)
/-- The output weight. -/
abbrev Kwo (c : Dev nD) : Mat 1024 1024 .f32 := m ((c : Thread nD τ).loc main_arg10)

/-- The global row of row `r` of the block at grid point `t`. -/
abbrev row (t : Fin cfg0.N) (r : Fin 512) : Fin 8192 := ⟨t.val * 512 + r.val, by have := lt_of_lt_of_eq t.isLt N_0; omega⟩

/-- Every window's block index at every grid point. -/
theorem idx : ∀ t : Fin cfg0.N, win0_0.index t = ![t.val, 0]
    ∧ win0_1.index t = ![t.val, 2]
    ∧ win0_2.index t = ![t.val, 0]
    ∧ win0_3.index t = ![t.val, 0]
    ∧ win0_4.index t = ![t.val, 0]
    ∧ win0_5.index t = ![0, 0]
    ∧ win0_6.index t = ![0, 4, 0]
    ∧ win0_7.index t = ![0, 5, 0]
    ∧ win0_8.index t = ![0, 6, 0]
    ∧ win0_9.index t = ![0, 0, 0, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![0, 0]
    ∧ win0_18.index t = ![0, 0] :=
  (by decide +kernel : ∀ t : Fin grid0.N, _)

/-! What the host prepares before the call. -/

/-- Branch a, which the host computes before the call. -/
theorem ent5 (c : Dev nD) (r : Fin 8192) (j : Fin 1024) :
    (V m c main_v5 (ix2 r j) : EReal) = ya (Kpa m c) (Kwa m c) r j := by
  entry_read
  pointwise [ya]

/-- Branch b, which the host computes before the call. -/
theorem ent9 (c : Dev nD) (r : Fin 8192) (j : Fin 1024) :
    (V m c main_v9 (ix2 r j) : EReal) = yb (Ksw m c) (Kwb m c) (Kbb m c) r j := by
  entry_read
  pointwise [yb]

/-- The pooled branch before its scale, which the host computes before the call. -/
theorem ent14 (c : Dev nD) (r : Fin 8192) (j : Fin 1024) :
    (V m c main_v14 (ix2 r j) : EReal) = yp (Kpc m c) (Kwp m c) r j := by
  entry_read
  pointwise [yp]
  exact Finset.sum_congr (M := EReal) rfl fun x _ => mul_comm (G := EReal) _ _

/-- The gathered pooled weight: device `d` brings rows `32 d` to `32 d + 31` of every group. -/
theorem ent25 (c : Dev nD) (d : Fin 8) (g : Fin 4) (r : Fin 32) (j : Fin 256) :
    (V m c main_v25 (ix4 d g r j) : EReal) = Kwp m c (ix3 g ⟨d.val * 32 + r.val, by omega⟩ j) := by
  entry_read
  pointwise

/-- The gathered row weights: rows 512 to 639 of device `d`'s part are its rows of branch a's weight. -/
theorem ent20a (c : Dev nD) (d : Fin 8) (r : Fin 128) (j : Fin 1024) :
    (V m c main_v22 (ix3 d ⟨512 + r.val, by omega⟩ j) : EReal) = Kwa m c (ix2 ⟨d.val * 128 + r.val, by omega⟩ j) := by
  entry_read
  pointwise
  rw [dif_pos (by omega)]

/-- The gathered row weights: rows 640 to 767 of device `d`'s part are its rows of branch b's weight. -/
theorem ent20b (c : Dev nD) (d : Fin 8) (r : Fin 128) (j : Fin 1024) :
    (V m c main_v22 (ix3 d ⟨640 + r.val, by omega⟩ j) : EReal) = Kwb m c (ix2 ⟨d.val * 128 + r.val, by omega⟩ j) := by
  entry_read
  pointwise

/-- The gathered row weights: rows 768 to 895 of device `d`'s part are its rows of the output weight. -/
theorem ent20o (c : Dev nD) (d : Fin 8) (r : Fin 128) (j : Fin 1024) :
    (V m c main_v22 (ix3 d ⟨768 + r.val, by omega⟩ j) : EReal) = Kwo m c (ix2 ⟨d.val * 128 + r.val, by omega⟩ j) := by
  entry_read
  pointwise
  rw [dif_neg (by omega), dif_neg (by omega)]
  simp only [show 768 + r.val - 640 - 128 = r.val by omega]

/-! The blocks a grid point reads. -/

/-- Window 0 brings a block of rows of the incoming gradient. -/
theorem blk0 (c : Dev nD) (t : Fin cfg0.N) (r : Fin 512) (j : Fin 1024) :
    (iblk m c 0 t : FVec Ideal S512x1024 .bf16) (ix2 r j) = Kdx m c (ix2 (row t r) j) := by
  blk_ext [iblk, V_main_arg0, idx t]

/-- Window 1 brings the same rows of the three gates' columns of the projection. -/
theorem blk1 (c : Dev nD) (t : Fin cfg0.N) (r : Fin 512) (j : Fin 3072) :
    (iblk m c 1 t : FVec Ideal S512x3072 .bf16) (ix2 r j) = Kproj m c (ix2 (row t r) ⟨6144 + j.val, by omega⟩) := by
  blk_ext [iblk, V_main_arg1, idx t]

/-- Window 2 brings the same rows of branch a. -/
theorem blk2 (c : Dev nD) (t : Fin cfg0.N) (r : Fin 512) (j : Fin 1024) :
    (iblk m c 2 t : FVec Ideal S512x1024 .bf16) (ix2 r j) = ya (Kpa m c) (Kwa m c) (row t r) j := by
  refine Eq.trans ?_ (ent5 m c (row t r) j)
  blk_ext [iblk, idx t]

/-- Window 3 brings the same rows of branch b. -/
theorem blk3 (c : Dev nD) (t : Fin cfg0.N) (r : Fin 512) (j : Fin 1024) :
    (iblk m c 3 t : FVec Ideal S512x1024 .bf16) (ix2 r j) = yb (Ksw m c) (Kwb m c) (Kbb m c) (row t r) j := by
  refine Eq.trans ?_ (ent9 m c (row t r) j)
  blk_ext [iblk, idx t]

/-- Window 4 brings the same rows of the pooled branch. -/
theorem blk4 (c : Dev nD) (t : Fin cfg0.N) (r : Fin 512) (j : Fin 1024) :
    (iblk m c 4 t : FVec Ideal S512x1024 .bf16) (ix2 r j) = yp (Kpc m c) (Kwp m c) (row t r) j := by
  refine Eq.trans ?_ (ent14 m c (row t r) j)
  blk_ext [iblk, idx t]

/-- Window 5 brings the pooled branch's scale. -/
theorem blk5 (c : Dev nD) (t : Fin cfg0.N) (j : Fin 1024) :
    (iblk m c 5 t : FVec Ideal S1x1024 .f32) (ix2 0 j) = Kps m c (ix2 0 j) := by
  blk_ext [iblk, V_main_arg9, idx t]

/-- Window 6 brings branch a's weight, device by device. -/
theorem blk6 (c : Dev nD) (t : Fin cfg0.N) (d : Fin 8) (r : Fin 128) (j : Fin 1024) :
    (iblk m c 6 t : FVec Ideal S8x128x1024 .bf16) (ix3 d r j) = Kwa m c (ix2 ⟨d.val * 128 + r.val, by omega⟩ j) := by
  refine Eq.trans ?_ (ent20a m c d r j)
  blk_ext [iblk, idx t]

/-- Window 7 brings branch b's weight, device by device. -/
theorem blk7 (c : Dev nD) (t : Fin cfg0.N) (d : Fin 8) (r : Fin 128) (j : Fin 1024) :
    (iblk m c 7 t : FVec Ideal S8x128x1024 .bf16) (ix3 d r j) = Kwb m c (ix2 ⟨d.val * 128 + r.val, by omega⟩ j) := by
  refine Eq.trans ?_ (ent20b m c d r j)
  blk_ext [iblk, idx t]

/-- Window 8 brings the output weight, device by device. -/
theorem blk8 (c : Dev nD) (t : Fin cfg0.N) (d : Fin 8) (r : Fin 128) (j : Fin 1024) :
    (iblk m c 8 t : FVec Ideal S8x128x1024 .bf16) (ix3 d r j) = Kwo m c (ix2 ⟨d.val * 128 + r.val, by omega⟩ j) := by
  refine Eq.trans ?_ (ent20o m c d r j)
  blk_ext [iblk, idx t]

/-- Window 9 brings the pooled weight, device by device. -/
theorem blk9 (c : Dev nD) (t : Fin cfg0.N) (d : Fin 8) (g : Fin 4) (r : Fin 32) (j : Fin 256) :
    (iblk m c 9 t : FVec Ideal S8x4x32x256 .bf16) (ix4 d g r j) = Kwp m c (ix3 g ⟨d.val * 32 + r.val, by omega⟩ j) := by
  refine Eq.trans ?_ (ent25 m c d g r j)
  blk_ext [iblk, idx t]

end Cert.Merge
-- ==== Proof.MergePay.lean ====
module

public import proofs.«01_k».proof.Proof.MergeSpec
public import proofs.«01_k».proof.Proof.Gen.KernelIdeal.Skeleton
public import Idealize.ShloMosaic.Lib.Pointwise

@[expose] public section

set_option maxRecDepth 16384

noncomputable section

open Idealize.ShloMosaic

namespace Cert.Merge

open Cert.KernelIdeal Cert.KernelIdeal.Gen

variable (x g y p q : FVec Ideal S512x1024 .bf16) (w : FVec Ideal S8x128x1024 .bf16) (s : FVec Ideal S1x1024 .f32)
  (d u v : FVec Ideal S512x1024 .f32) (a : FVec Ideal S8x1024 .f32) (r : Fin 512) (j : Fin 1024)

/-- A block of rows times a transposed weight, as the kernel's first product reads it. -/
theorem pay4_at : (k0_pay4 (F := Ideal) x w (ix2 r j) : EReal) = ∑ k : Fin 1024, x (ix2 r k) * w (ix3 ⟨j.val / 128, by omega⟩ ⟨j.val % 128, by omega⟩ k) := by
  pointwise [k0_pay4]

/-- The same product over a block the kernel has stored, for branch a. -/
theorem pay25_at : (k0_pay25 (F := Ideal) x w (ix2 r j) : EReal) = ∑ k : Fin 1024, x (ix2 r k) * w (ix3 ⟨j.val / 128, by omega⟩ ⟨j.val % 128, by omega⟩ k) := by
  pointwise [k0_pay25]

/-- The same product over a block the kernel has stored, for branch b. -/
theorem pay26_at : (k0_pay26 (F := Ideal) x w (ix2 r j) : EReal) = ∑ k : Fin 1024, x (ix2 r k) * w (ix3 ⟨j.val / 128, by omega⟩ ⟨j.val % 128, by omega⟩ k) := by
  pointwise [k0_pay26]

/-- The first gate. -/
theorem pay5_at : (k0_pay5 (F := Ideal) g (ix2 r j) : EReal) = sgm (g (ix2 r j)) := by
  pointwise [k0_pay5, sgm]
  rw [zero_sub]

/-- The second gate. -/
theorem pay9_at : (k0_pay9 (F := Ideal) (k0_pay8 (F := Ideal) g) (ix2 r j) : EReal) = sgm (g (ix2 r j)) := by
  pointwise [k0_pay9, k0_pay8, sgm]
  rw [zero_sub]

/-- The third gate. -/
theorem pay13_at : (k0_pay13 (F := Ideal) g (ix2 r j) : EReal) = sgm (g (ix2 r j)) := by
  pointwise [k0_pay13, sgm]
  rw [zero_sub]

/-- The gradient of branch a. -/
theorem pay6_at : (k0_pay6 (F := Ideal) x w g (ix2 r j) : EReal) = k0_pay4 (F := Ideal) x w (ix2 r j) * sgm (g (ix2 r j)) := by
  pointwise [k0_pay6, pay5_at]

/-- The gradient of the first gate's argument. -/
theorem pay7_at : (show EReal from k0_pay7 (F := Ideal) x w g y (ix2 r j))
    = k0_pay4 (F := Ideal) x w (ix2 r j) * y (ix2 r j) * sgm (g (ix2 r j)) * (1 - sgm (g (ix2 r j))) := by
  pointwise [k0_pay7, pay5_at]

/-- The gradient of branch b before its cast. -/
theorem pay10_at : (k0_pay10 (F := Ideal) d (k0_pay8 (F := Ideal) g) (ix2 r j) : EReal) = d (ix2 r j) * sgm (g (ix2 r j)) := by
  pointwise [k0_pay10, pay9_at]

/-- The gradient of branch b. -/
theorem pay11_at : (k0_pay11 (F := Ideal) d (k0_pay8 (F := Ideal) g) (ix2 r j) : EReal) = d (ix2 r j) * sgm (g (ix2 r j)) := by
  pointwise [k0_pay11, pay10_at]

/-- The gradient of the second gate's argument. -/
theorem pay12_at : (show EReal from k0_pay12 (F := Ideal) d (k0_pay8 (F := Ideal) g) y (ix2 r j))
    = d (ix2 r j) * y (ix2 r j) * sgm (g (ix2 r j)) * (1 - sgm (g (ix2 r j))) := by
  pointwise [k0_pay12, pay9_at]

/-- The pooled branch, widened. -/
theorem pay14_at : (k0_pay14 (F := Ideal) p (ix2 r j) : EReal) = p (ix2 r j) := by
  pointwise [k0_pay14]

/-- The gradient of the scaled pooled branch. -/
theorem pay15_at : (k0_pay15 (F := Ideal) d g (ix2 r j) : EReal) = d (ix2 r j) * sgm (g (ix2 r j)) := by
  pointwise [k0_pay15, pay13_at]

/-- The gradient of the pooled branch before its scale. -/
theorem pay16_at : (k0_pay16 (F := Ideal) d s g (ix2 r j) : EReal) = d (ix2 r j) * sgm (g (ix2 r j)) * s (ix2 0 j) := by
  pointwise [k0_pay16, pay15_at]

/-- The gradient of the third gate's argument. -/
theorem pay18_at : (show EReal from k0_pay18 (F := Ideal) (k0_pay13 (F := Ideal) g) (k0_pay17 (F := Ideal) d s g p) (ix2 r j))
    = d (ix2 r j) * (p (ix2 r j) * s (ix2 0 j)) * sgm (g (ix2 r j)) * (1 - sgm (g (ix2 r j))) := by
  pointwise [k0_pay18, k0_pay17, pay13_at, pay14_at]

/-- The sum of a block's rows that share a remainder modulo 8. -/
theorem pay19_at (i : Fin 8) : (k0_pay19 (F := Ideal) u (ix2 i j) : EReal) = ∑ n : Fin 64, u (ix2 ⟨n.val * 8 + i.val, by omega⟩ j) := by
  pointwise [k0_pay19]

/-- The same sum of the products of two blocks. -/
theorem pay20_at (i : Fin 8) : (show EReal from k0_pay20 (F := Ideal) u v (ix2 i j))
    = ∑ n : Fin 64, u (ix2 ⟨n.val * 8 + i.val, by omega⟩ j) * v (ix2 ⟨n.val * 8 + i.val, by omega⟩ j) := by
  pointwise [k0_pay20]
  exact Finset.sum_congr rfl fun n _ => mul_comm _ _

/-- The first point's value of the first accumulator. -/
theorem pay21_at (i : Fin 8) : (k0_pay21 (F := Ideal) u (ix2 i j) : EReal) = k0_pay19 (F := Ideal) u (ix2 i j) := by
  pointwise [k0_pay21]

/-- The first point's value of the second accumulator. -/
theorem pay22_at (i : Fin 8) : (k0_pay22 (F := Ideal) u v (ix2 i j) : EReal) = k0_pay20 (F := Ideal) u v (ix2 i j) := by
  pointwise [k0_pay22]

/-- A later point adds to the first accumulator. -/
theorem pay23_at (i : Fin 8) : (k0_pay23 (F := Ideal) u a (ix2 i j) : EReal) = a (ix2 i j) + k0_pay19 (F := Ideal) u (ix2 i j) := by
  pointwise [k0_pay23]

/-- A later point adds to the second accumulator. -/
theorem pay24_at (i : Fin 8) : (k0_pay24 (F := Ideal) u v a (ix2 i j) : EReal) = a (ix2 i j) + k0_pay20 (F := Ideal) u v (ix2 i j) := by
  pointwise [k0_pay24]

/-- The last point's sum of the first accumulator's rows. -/
theorem pay2_at : (k0_pay2 (F := Ideal) a (ix2 0 j) : EReal) = ∑ i : Fin 8, a (ix2 i j) := by
  pointwise [k0_pay2]

/-- The last point's sum of the second accumulator's rows. -/
theorem pay3_at : (k0_pay3 (F := Ideal) a (ix2 0 j) : EReal) = ∑ i : Fin 8, a (ix2 i j) := by
  pointwise [k0_pay3]

variable (z : FVec Ideal S512x256 .bf16) (k : FVec Ideal S8x1x32x256 .bf16) (l : Fin 256)

/-- A group's 256 columns times its transposed matrix: group 0. -/
theorem pay27_at : (show EReal from k0_pay27 (F := Ideal) z k (ix2 r l))
    = ∑ n : Fin 256, z (ix2 r n) * k (ix4 ⟨l.val / 32, by omega⟩ 0 ⟨l.val % 32, by omega⟩ n) := by
  pointwise [k0_pay27]

/-- Group 1. -/
theorem pay28_at : (show EReal from k0_pay28 (F := Ideal) z k (ix2 r l))
    = ∑ n : Fin 256, z (ix2 r n) * k (ix4 ⟨l.val / 32, by omega⟩ 0 ⟨l.val % 32, by omega⟩ n) := by
  pointwise [k0_pay28]

/-- Group 2. -/
theorem pay29_at : (show EReal from k0_pay29 (F := Ideal) z k (ix2 r l))
    = ∑ n : Fin 256, z (ix2 r n) * k (ix4 ⟨l.val / 32, by omega⟩ 0 ⟨l.val % 32, by omega⟩ n) := by
  pointwise [k0_pay29]

/-- Group 3. -/
theorem pay1_at : (show EReal from k0_pay1 (F := Ideal) (k0_pay30 (F := Ideal) z) k (ix2 r l))
    = ∑ n : Fin 256, z (ix2 r n) * k (ix4 ⟨l.val / 32, by omega⟩ 0 ⟨l.val % 32, by omega⟩ n) := by
  pointwise [k0_pay1, k0_pay30]

end Cert.Merge
-- ==== Proof.MergeOut.lean ====
module

public import proofs.«01_k».proof.Proof.MergeIn
public import proofs.«01_k».proof.Proof.MergePay
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.KernelIdeal Cert.KernelIdeal.Gen

variable (m : (ℓ : Loc nD τ sig) → Buf (Elt Ideal) ℓ)

/-- There are sixteen grid points. -/
theorem pt (t : Fin cfg0.N) : t.val < 16 := lt_of_lt_of_eq t.isLt N_0

/-- At every grid point, the block of window 10 is the gradient of branch a. -/
theorem out10 (c : Dev nD) (t : Fin cfg0.N) (r : Fin 512) (j : Fin 1024) :
    ((outsAt0 m c t.val t.isLt).1 (ix2 r j) : EReal) = dya (Kdx m c) (Kproj m c) (Kwo m c) (row t r) j := by
  have ht := pt t
  by_cases h0 : t.val % 16 = 0
  · rw [outsAt0_A m c t h0 (by omega) (by omega)]
    frame_out
    pointwise [blk0, blk1, blk8, pay6_at, pay4_at, dya, dm, gate, Nat.div_add_mod']
  · by_cases h1 : t.val % 16 = 15
    · rw [outsAt0_C m c t h0 (by omega) h1]
      frame_out
      pointwise [blk0, blk1, blk8, pay6_at, pay4_at, dya, dm, gate, Nat.div_add_mod']
    · rw [outsAt0_B m c t h0 (by omega) h1]
      frame_out
      pointwise [blk0, blk1, blk8, pay6_at, pay4_at, dya, dm, gate, Nat.div_add_mod']

/-- At every grid point, the block of window 11 is the gradient of branch b. -/
theorem out11 (c : Dev nD) (t : Fin cfg0.N) (r : Fin 512) (j : Fin 1024) :
    ((outsAt0 m c t.val t.isLt).2.1 (ix2 r j) : EReal) = dyb (Kdx m c) (Kproj m c) (Kwo m c) (row t r) j := by
  have ht := pt t
  by_cases h0 : t.val % 16 = 0
  · rw [outsAt0_A m c t h0 (by omega) (by omega)]
    frame_out
    pointwise [blk0, blk1, blk8, pay11_at, pay4_at, dyb, dm, gate, Nat.div_add_mod']
  · by_cases h1 : t.val % 16 = 15
    · rw [outsAt0_C m c t h0 (by omega) h1]
      frame_out
      pointwise [blk0, blk1, blk8, pay11_at, pay4_at, dyb, dm, gate, Nat.div_add_mod']
    · rw [outsAt0_B m c t h0 (by omega) h1]
      frame_out
      pointwise [blk0, blk1, blk8, pay11_at, pay4_at, dyb, dm, gate, Nat.div_add_mod']

/-- At every grid point, the block of window 12 is the gradient of the pooled branch before its scale. -/
theorem out12 (c : Dev nD) (t : Fin cfg0.N) (r : Fin 512) (j : Fin 1024) :
    ((outsAt0 m c t.val t.isLt).2.2.1 (ix2 r j) : EReal) = dyp (Kdx m c) (Kproj m c) (Kps m c) (Kwo m c) (row t r) j := by
  have ht := pt t
  by_cases h0 : t.val % 16 = 0
  · rw [outsAt0_A m c t h0 (by omega) (by omega)]
    frame_out
    pointwise [blk0, blk1, blk5, blk8, pay16_at, pay4_at, dyp, dyc, dm, gate, Nat.div_add_mod']
  · by_cases h1 : t.val % 16 = 15
    · rw [outsAt0_C m c t h0 (by omega) h1]
      frame_out
      pointwise [blk0, blk1, blk5, blk8, pay16_at, pay4_at, dyp, dyc, dm, gate, Nat.div_add_mod']
    · rw [outsAt0_B m c t h0 (by omega) h1]
      frame_out
      pointwise [blk0, blk1, blk5, blk8, pay16_at, pay4_at, dyp, dyc, dm, gate, Nat.div_add_mod']

/-- At every grid point, the block of window 14 is the gradient of branch a's input. -/
theorem out14 (c : Dev nD) (t : Fin cfg0.N) (r : Fin 512) (j : Fin 1024) :
    ((outsAt0 m c t.val t.isLt).2.2.2.2.1 (ix2 r j) : EReal) = dpa (Kdx m c) (Kproj m c) (Kwa m c) (Kwo m c) (row t r) j := by
  have ht := pt t
  by_cases h0 : t.val % 16 = 0
  · rw [outsAt0_A m c t h0 (by omega) (by omega)]
    frame_out
    pointwise [blk0, blk1, blk6, blk8, pay25_at, pay6_at, pay4_at, dpa, dya, dm, gate, Nat.div_add_mod']
  · by_cases h1 : t.val % 16 = 15
    · rw [outsAt0_C m c t h0 (by omega) h1]
      frame_out
      pointwise [blk0, blk1, blk6, blk8, pay25_at, pay6_at, pay4_at, dpa, dya, dm, gate, Nat.div_add_mod']
    · rw [outsAt0_B m c t h0 (by omega) h1]
      frame_out
      pointwise [blk0, blk1, blk6, blk8, pay25_at, pay6_at, pay4_at, dpa, dya, dm, gate, Nat.div_add_mod']

/-- At every grid point, the block of window 15 is the gradient of branch b's input. -/
theorem out15 (c : Dev nD) (t : Fin cfg0.N) (r : Fin 512) (j : Fin 1024) :
    ((outsAt0 m c t.val t.isLt).2.2.2.2.2.1 (ix2 r j) : EReal) = dsw (Kdx m c) (Kproj m c) (Kwb m c) (Kwo m c) (row t r) j := by
  have ht := pt t
  by_cases h0 : t.val % 16 = 0
  · rw [outsAt0_A m c t h0 (by omega) (by omega)]
    frame_out
    pointwise [blk0, blk1, blk7, blk8, pay26_at, pay11_at, pay4_at, dsw, dyb, dm, gate, Nat.div_add_mod']
  · by_cases h1 : t.val % 16 = 15
    · rw [outsAt0_C m c t h0 (by omega) h1]
      frame_out
      pointwise [blk0, blk1, blk7, blk8, pay26_at, pay11_at, pay4_at, dsw, dyb, dm, gate, Nat.div_add_mod']
    · rw [outsAt0_B m c t h0 (by omega) h1]
      frame_out
      pointwise [blk0, blk1, blk7, blk8, pay26_at, pay11_at, pay4_at, dsw, dyb, dm, gate, Nat.div_add_mod']

end Cert.Merge
-- ==== Proof.MergeOutG.lean ====
module

public import proofs.«01_k».proof.Proof.MergeIn
public import proofs.«01_k».proof.Proof.MergePay
public import proofs.«01_k».proof.Proof.MergeOut
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.KernelIdeal Cert.KernelIdeal.Gen

variable (m : (ℓ : Loc nD τ sig) → Buf (Elt Ideal) ℓ)

/-- A single store over the whole block leaves what it stored. -/
theorem whole_piece (w : S512x1024.Idx → Elt Ideal .bf16) :
    View.canon (Val := Elt Ideal) (s := S512x1024) (e := .bf16) [⟨Rect.unit ![0, 0] ![512, 1024] inb_S512x1024_S512x1024_0_0, w⟩] = w :=
  View.canon_cons_unit_lit' (S := S512x1024) _ _ _ (by decide)

/-- At every grid point, columns 0 to 1023 of the block of window 13 are the gradient of the argument of gate 0. -/
theorem out13a (c : Dev nD) (t : Fin cfg0.N) (r : Fin 512) (j : Fin 1024) :
    ((outsAt0 m c t.val t.isLt).2.2.2.1 (ix2 r ⟨j.val, by omega⟩) : EReal) = dg0 (Kdx m c) (Kproj m c) (Kpa m c) (Kwa m c) (Kwo m c) (row t r) j := by
  have ht := pt t
  by_cases h0 : t.val % 16 = 0
  · rw [outsAt0_A m c t h0 (by omega) (by omega)]
    frame_out
    clear h0 ht
    canon_tiles x h
    all_goals idx_vars x
    case piece2 =>
      obtain rfl : r = x0 := Fin.ext h0
      obtain rfl : j = x1 := Fin.ext (by omega)
      pointwise [blk0, blk1, blk2, blk8, pay7_at, pay4_at, dg0, dm, gate, Nat.div_add_mod']
    all_goals (exfalso; omega)
  · by_cases h1 : t.val % 16 = 15
    · rw [outsAt0_C m c t h0 (by omega) h1]
      frame_out
      clear h0 h1 ht
      canon_tiles x h
      all_goals idx_vars x
      case piece2 =>
        obtain rfl : r = x0 := Fin.ext h0
        obtain rfl : j = x1 := Fin.ext (by omega)
        pointwise [blk0, blk1, blk2, blk8, pay7_at, pay4_at, dg0, dm, gate, Nat.div_add_mod']
      all_goals (exfalso; omega)
    · rw [outsAt0_B m c t h0 (by omega) h1]
      frame_out
      clear h0 h1 ht
      canon_tiles x h
      all_goals idx_vars x
      case piece2 =>
        obtain rfl : r = x0 := Fin.ext h0
        obtain rfl : j = x1 := Fin.ext (by omega)
        pointwise [blk0, blk1, blk2, blk8, pay7_at, pay4_at, dg0, dm, gate, Nat.div_add_mod']
      all_goals (exfalso; omega)

/-- At every grid point, columns 1024 to 2047 of the block of window 13 are the gradient of the argument of gate 1. -/
theorem out13b (c : Dev nD) (t : Fin cfg0.N) (r : Fin 512) (j : Fin 1024) :
    ((outsAt0 m c t.val t.isLt).2.2.2.1 (ix2 r ⟨1024 + j.val, by omega⟩) : EReal) = dg1 (Kdx m c) (Kproj m c) (Ksw m c) (Kwb m c) (Kbb m c) (Kwo m c) (row t r) j := by
  have ht := pt t
  by_cases h0 : t.val % 16 = 0
  · rw [outsAt0_A m c t h0 (by omega) (by omega)]
    frame_out
    clear h0 ht
    canon_tiles x h
    all_goals idx_vars x
    case piece1 =>
      obtain rfl : r = x0 := Fin.ext h0
      obtain rfl : j = x1 := Fin.ext (by omega)
      pointwise [blk0, blk1, blk3, blk8, pay12_at, pay4_at, dg1, dm, gate, Nat.div_add_mod']
    all_goals (exfalso; omega)
  · by_cases h1 : t.val % 16 = 15
    · rw [outsAt0_C m c t h0 (by omega) h1]
      frame_out
      clear h0 h1 ht
      canon_tiles x h
      all_goals idx_vars x
      case piece1 =>
        obtain rfl : r = x0 := Fin.ext h0
        obtain rfl : j = x1 := Fin.ext (by omega)
        pointwise [blk0, blk1, blk3, blk8, pay12_at, pay4_at, dg1, dm, gate, Nat.div_add_mod']
      all_goals (exfalso; omega)
    · rw [outsAt0_B m c t h0 (by omega) h1]
      frame_out
      clear h0 h1 ht
      canon_tiles x h
      all_goals idx_vars x
      case piece1 =>
        obtain rfl : r = x0 := Fin.ext h0
        obtain rfl : j = x1 := Fin.ext (by omega)
        pointwise [blk0, blk1, blk3, blk8, pay12_at, pay4_at, dg1, dm, gate, Nat.div_add_mod']
      all_goals (exfalso; omega)

/-- At every grid point, columns 2048 to 3071 of the block of window 13 are the gradient of the argument of gate 2. -/
theorem out13c (c : Dev nD) (t : Fin cfg0.N) (r : Fin 512) (j : Fin 1024) :
    ((outsAt0 m c t.val t.isLt).2.2.2.1 (ix2 r ⟨2048 + j.val, by omega⟩) : EReal) = dg2 (Kdx m c) (Kproj m c) (Kpc m c) (Kwp m c) (Kps m c) (Kwo m c) (row t r) j := by
  have ht := pt t
  by_cases h0 : t.val % 16 = 0
  · rw [outsAt0_A m c t h0 (by omega) (by omega)]
    frame_out
    clear h0 ht
    canon_tiles x h
    all_goals idx_vars x
    case piece0 =>
      obtain rfl : r = x0 := Fin.ext h0
      obtain rfl : j = x1 := Fin.ext (by omega)
      pointwise [blk0, blk1, blk4, blk5, blk8, pay18_at, pay4_at, dg2, dm, gate, Nat.div_add_mod']
    all_goals (exfalso; omega)
  · by_cases h1 : t.val % 16 = 15
    · rw [outsAt0_C m c t h0 (by omega) h1]
      frame_out
      clear h0 h1 ht
      canon_tiles x h
      all_goals idx_vars x
      case piece0 =>
        obtain rfl : r = x0 := Fin.ext h0
        obtain rfl : j = x1 := Fin.ext (by omega)
        pointwise [blk0, blk1, blk4, blk5, blk8, pay18_at, pay4_at, dg2, dm, gate, Nat.div_add_mod']
      all_goals (exfalso; omega)
    · rw [outsAt0_B m c t h0 (by omega) h1]
      frame_out
      clear h0 h1 ht
      canon_tiles x h
      all_goals idx_vars x
      case piece0 =>
        obtain rfl : r = x0 := Fin.ext h0
        obtain rfl : j = x1 := Fin.ext (by omega)
        pointwise [blk0, blk1, blk4, blk5, blk8, pay18_at, pay4_at, dg2, dm, gate, Nat.div_add_mod']
      all_goals (exfalso; omega)

/-- At every grid point, columns 0 to 255 of the block of window 16 are group 0 of the gradient of the pooled branch's input. -/
theorem out16_0 (c : Dev nD) (t : Fin cfg0.N) (r : Fin 512) (l : Fin 256) :
    ((outsAt0 m c t.val t.isLt).2.2.2.2.2.2.1 (ix2 r ⟨l.val, by omega⟩) : EReal) = dpc (Kdx m c) (Kproj m c) (Kwp m c) (Kps m c) (Kwo m c) (row t r) 0 l := by
  have ht := pt t
  by_cases h0 : t.val % 16 = 0
  · rw [outsAt0_A m c t h0 (by omega) (by omega)]
    frame_out
    clear h0 ht
    canon_tiles x h
    all_goals idx_vars x
    case piece3 =>
      obtain rfl : r = x0 := Fin.ext h0
      obtain rfl : l = x1 := Fin.ext (by omega)
      simp only [View.readCov_eq_canon', whole_piece]; pointwise [blk0, blk1, blk5, blk8, blk9, pay27_at, pay16_at, pay4_at, dpc, dyp, dyc, dm, gate, Nat.div_add_mod']
    all_goals (exfalso; omega)
  · by_cases h1 : t.val % 16 = 15
    · rw [outsAt0_C m c t h0 (by omega) h1]
      frame_out
      clear h0 h1 ht
      canon_tiles x h
      all_goals idx_vars x
      case piece3 =>
        obtain rfl : r = x0 := Fin.ext h0
        obtain rfl : l = x1 := Fin.ext (by omega)
        simp only [View.readCov_eq_canon', whole_piece]; pointwise [blk0, blk1, blk5, blk8, blk9, pay27_at, pay16_at, pay4_at, dpc, dyp, dyc, dm, gate, Nat.div_add_mod']
      all_goals (exfalso; omega)
    · rw [outsAt0_B m c t h0 (by omega) h1]
      frame_out
      clear h0 h1 ht
      canon_tiles x h
      all_goals idx_vars x
      case piece3 =>
        obtain rfl : r = x0 := Fin.ext h0
        obtain rfl : l = x1 := Fin.ext (by omega)
        simp only [View.readCov_eq_canon', whole_piece]; pointwise [blk0, blk1, blk5, blk8, blk9, pay27_at, pay16_at, pay4_at, dpc, dyp, dyc, dm, gate, Nat.div_add_mod']
      all_goals (exfalso; omega)

/-- At every grid point, columns 256 to 511 of the block of window 16 are group 1 of the gradient of the pooled branch's input. -/
theorem out16_1 (c : Dev nD) (t : Fin cfg0.N) (r : Fin 512) (l : Fin 256) :
    ((outsAt0 m c t.val t.isLt).2.2.2.2.2.2.1 (ix2 r ⟨256 + l.val, by omega⟩) : EReal) = dpc (Kdx m c) (Kproj m c) (Kwp m c) (Kps m c) (Kwo m c) (row t r) 1 l := by
  have ht := pt t
  by_cases h0 : t.val % 16 = 0
  · rw [outsAt0_A m c t h0 (by omega) (by omega)]
    frame_out
    clear h0 ht
    canon_tiles x h
    all_goals idx_vars x
    case piece2 =>
      obtain rfl : r = x0 := Fin.ext h0
      obtain rfl : l = x1 := Fin.ext (by omega)
      simp only [View.readCov_eq_canon', whole_piece]; pointwise [blk0, blk1, blk5, blk8, blk9, pay28_at, pay16_at, pay4_at, dpc, dyp, dyc, dm, gate, Nat.div_add_mod']
    all_goals (exfalso; omega)
  · by_cases h1 : t.val % 16 = 15
    · rw [outsAt0_C m c t h0 (by omega) h1]
      frame_out
      clear h0 h1 ht
      canon_tiles x h
      all_goals idx_vars x
      case piece2 =>
        obtain rfl : r = x0 := Fin.ext h0
        obtain rfl : l = x1 := Fin.ext (by omega)
        simp only [View.readCov_eq_canon', whole_piece]; pointwise [blk0, blk1, blk5, blk8, blk9, pay28_at, pay16_at, pay4_at, dpc, dyp, dyc, dm, gate, Nat.div_add_mod']
      all_goals (exfalso; omega)
    · rw [outsAt0_B m c t h0 (by omega) h1]
      frame_out
      clear h0 h1 ht
      canon_tiles x h
      all_goals idx_vars x
      case piece2 =>
        obtain rfl : r = x0 := Fin.ext h0
        obtain rfl : l = x1 := Fin.ext (by omega)
        simp only [View.readCov_eq_canon', whole_piece]; pointwise [blk0, blk1, blk5, blk8, blk9, pay28_at, pay16_at, pay4_at, dpc, dyp, dyc, dm, gate, Nat.div_add_mod']
      all_goals (exfalso; omega)

/-- At every grid point, columns 512 to 767 of the block of window 16 are group 2 of the gradient of the pooled branch's input. -/
theorem out16_2 (c : Dev nD) (t : Fin cfg0.N) (r : Fin 512) (l : Fin 256) :
    ((outsAt0 m c t.val t.isLt).2.2.2.2.2.2.1 (ix2 r ⟨512 + l.val, by omega⟩) : EReal) = dpc (Kdx m c) (Kproj m c) (Kwp m c) (Kps m c) (Kwo m c) (row t r) 2 l := by
  have ht := pt t
  by_cases h0 : t.val % 16 = 0
  · rw [outsAt0_A m c t h0 (by omega) (by omega)]
    frame_out
    clear h0 ht
    canon_tiles x h
    all_goals idx_vars x
    case piece1 =>
      obtain rfl : r = x0 := Fin.ext h0
      obtain rfl : l = x1 := Fin.ext (by omega)
      simp only [View.readCov_eq_canon', whole_piece]; pointwise [blk0, blk1, blk5, blk8, blk9, pay29_at, pay16_at, pay4_at, dpc, dyp, dyc, dm, gate, Nat.div_add_mod']
    all_goals (exfalso; omega)
  · by_cases h1 : t.val % 16 = 15
    · rw [outsAt0_C m c t h0 (by omega) h1]
      frame_out
      clear h0 h1 ht
      canon_tiles x h
      all_goals idx_vars x
      case piece1 =>
        obtain rfl : r = x0 := Fin.ext h0
        obtain rfl : l = x1 := Fin.ext (by omega)
        simp only [View.readCov_eq_canon', whole_piece]; pointwise [blk0, blk1, blk5, blk8, blk9, pay29_at, pay16_at, pay4_at, dpc, dyp, dyc, dm, gate, Nat.div_add_mod']
      all_goals (exfalso; omega)
    · rw [outsAt0_B m c t h0 (by omega) h1]
      frame_out
      clear h0 h1 ht
      canon_tiles x h
      all_goals idx_vars x
      case piece1 =>
        obtain rfl : r = x0 := Fin.ext h0
        obtain rfl : l = x1 := Fin.ext (by omega)
        simp only [View.readCov_eq_canon', whole_piece]; pointwise [blk0, blk1, blk5, blk8, blk9, pay29_at, pay16_at, pay4_at, dpc, dyp, dyc, dm, gate, Nat.div_add_mod']
      all_goals (exfalso; omega)

/-- At every grid point, columns 768 to 1023 of the block of window 16 are group 3 of the gradient of the pooled branch's input. -/
theorem out16_3 (c : Dev nD) (t : Fin cfg0.N) (r : Fin 512) (l : Fin 256) :
    ((outsAt0 m c t.val t.isLt).2.2.2.2.2.2.1 (ix2 r ⟨768 + l.val, by omega⟩) : EReal) = dpc (Kdx m c) (Kproj m c) (Kwp m c) (Kps m c) (Kwo m c) (row t r) 3 l := by
  have ht := pt t
  by_cases h0 : t.val % 16 = 0
  · rw [outsAt0_A m c t h0 (by omega) (by omega)]
    frame_out
    clear h0 ht
    canon_tiles x h
    all_goals idx_vars x
    case piece0 =>
      obtain rfl : r = x0 := Fin.ext h0
      obtain rfl : l = x1 := Fin.ext (by omega)
      simp only [View.readCov_eq_canon', whole_piece]; pointwise [blk0, blk1, blk5, blk8, blk9, pay1_at, pay16_at, pay4_at, dpc, dyp, dyc, dm, gate, Nat.div_add_mod']
    all_goals (exfalso; omega)
  · by_cases h1 : t.val % 16 = 15
    · rw [outsAt0_C m c t h0 (by omega) h1]
      frame_out
      clear h0 h1 ht
      canon_tiles x h
      all_goals idx_vars x
      case piece0 =>
        obtain rfl : r = x0 := Fin.ext h0
        obtain rfl : l = x1 := Fin.ext (by omega)
        simp only [View.readCov_eq_canon', whole_piece]; pointwise [blk0, blk1, blk5, blk8, blk9, pay1_at, pay16_at, pay4_at, dpc, dyp, dyc, dm, gate, Nat.div_add_mod']
      all_goals (exfalso; omega)
    · rw [outsAt0_B m c t h0 (by omega) h1]
      frame_out
      clear h0 h1 ht
      canon_tiles x h
      all_goals idx_vars x
      case piece0 =>
        obtain rfl : r = x0 := Fin.ext h0
        obtain rfl : l = x1 := Fin.ext (by omega)
        simp only [View.readCov_eq_canon', whole_piece]; pointwise [blk0, blk1, blk5, blk8, blk9, pay1_at, pay16_at, pay4_at, dpc, dyp, dyc, dm, gate, Nat.div_add_mod']
      all_goals (exfalso; omega)

end Cert.Merge
-- ==== Proof.MergeRef.lean ====
module

public import proofs.«01_k».proof.Proof.MergeSpec
public import proofs.«01_k».proof.Proof.Gen.ReferenceIdeal.Read

@[expose] public section

set_option maxRecDepth 16384

noncomputable section

open Idealize.ShloMosaic Idealize.ShloMosaic.TcCoe Idealize.SL.Sem

namespace Cert.Merge

open Cert.ReferenceIdeal Cert.ReferenceIdeal.Gen Cert.ReferenceIdeal.Read

variable (dx : Mat 8192 1024 .bf16) (proj : Mat 8192 9216 .bf16) (pa sw pc : Mat 8192 1024 .bf16)
  (wa wb : Mat 1024 1024 .f32) (bb : Mat 1 1024 .f32) (wp : Pool .f32) (ps : Mat 1 1024 .f32) (wo : Mat 1024 1024 .f32)

/-- The reference's gradient of the merged branches. -/
theorem ref_dm (r : Fin 8192) (j : Fin 1024) : val_main_v38 (F := Ideal) dx wo (ix2 r j) = dm dx wo r j := by
  pointwise [val_main_v38, val_main_v1, dm]

/-- The reference's first gate. -/
theorem ref_g0 (r : Fin 8192) (j : Fin 1024) : val_main_v27 (F := Ideal) proj (ix2 r j) = gate proj 0 r j := by
  pointwise [val_main_v27, val_main_v26, val_main_v25, val_main_v21, val_main_v20, val_main_cst_0, val_main_v19, val_main_v18, val_main_v17, val_main_v16, val_main_v2, val_main_v0, val_main_cst, gate, sgm]

/-- The reference's second gate. -/
theorem ref_g1 (r : Fin 8192) (j : Fin 1024) : val_main_v30 (F := Ideal) proj (ix2 r j) = gate proj 1 r j := by
  pointwise [val_main_v30, val_main_v29, val_main_v25, val_main_v21, val_main_v20, val_main_cst_0, val_main_v19, val_main_v18, val_main_v17, val_main_v16, val_main_v2, val_main_v0, val_main_cst, gate, sgm]

/-- The reference's third gate. -/
theorem ref_g2 (r : Fin 8192) (j : Fin 1024) : val_main_v34 (F := Ideal) proj (ix2 r j) = gate proj 2 r j := by
  pointwise [val_main_v34, val_main_v33, val_main_v25, val_main_v21, val_main_v20, val_main_cst_0, val_main_v19, val_main_v18, val_main_v17, val_main_v16, val_main_v2, val_main_v0, val_main_cst, gate, sgm]

/-- The reference's pooled branch. -/
theorem ref_yp (r : Fin 8192) (j : Fin 1024) : val_main_v13 (F := Ideal) pc wp (ix2 r j) = yp pc wp r j := by
  pointwise [val_main_v13, val_main_v12, val_main_v11, val_main_v10, val_main_v5, yp]
  exact Finset.sum_congr rfl fun k _ => mul_comm _ _

/-- The reference's branch b. -/
theorem ref_yb (r : Fin 8192) (j : Fin 1024) : val_main_v9 (F := Ideal) sw wb bb (ix2 r j) = yb sw wb bb r j := by
  pointwise [val_main_v9, val_main_v8, val_main_v7, val_main_v4, yb]

/-- The reference's branch a. -/
theorem ref_ya (r : Fin 8192) (j : Fin 1024) : val_main_v6 (F := Ideal) pa wa (ix2 r j) = ya pa wa r j := by
  pointwise [val_main_v6, val_main_v3, ya]

/-- The reference's gradient of the first gate's argument, in columns 0 to 1023. -/
theorem ref_dg0 (r : Fin 8192) (j : Fin 1024) : val_main_v72 (F := Ideal) dx proj pa sw pc wa wb bb wp ps wo (ix2 r ⟨j.val, by omega⟩)
    = dg0 dx proj pa wa wo r j := by
  have h1 : (j.val) / 1024 = 0 := by omega
  have h2 : (j.val) % 1024 = j.val := by omega
  pointwise [val_main_v72, val_main_v54, val_main_v53, val_main_v52, val_main_v51, val_main_v50, val_main_v49, val_main_v47, val_main_v46, val_main_v45, val_main_v44, val_main_v42, val_main_v41, val_main_v40, val_main_cst_2, val_main_cst_3, val_main_cst_4, val_main_v24, val_main_v23, val_main_v22, val_main_cst_1, val_main_v21, val_main_v20, val_main_cst_0, val_main_v19, val_main_v18, val_main_v17, val_main_v16, val_main_v2, val_main_v0, val_main_cst, h1, h2, dg0, gate, sgm, ref_dm, ref_ya, ref_yb, ref_yp]
  exact (mul_assoc _ _ _).symm

/-- The reference's gradient of the second gate's argument, in columns 1024 to 2047. -/
theorem ref_dg1 (r : Fin 8192) (j : Fin 1024) : val_main_v72 (F := Ideal) dx proj pa sw pc wa wb bb wp ps wo (ix2 r ⟨1024 + j.val, by omega⟩)
    = dg1 dx proj sw wb bb wo r j := by
  have h1 : (1024 + j.val) / 1024 = 1 := by omega
  have h2 : (1024 + j.val) % 1024 = j.val := by omega
  pointwise [val_main_v72, val_main_v54, val_main_v53, val_main_v52, val_main_v51, val_main_v50, val_main_v49, val_main_v47, val_main_v46, val_main_v45, val_main_v44, val_main_v42, val_main_v41, val_main_v40, val_main_cst_2, val_main_cst_3, val_main_cst_4, val_main_v24, val_main_v23, val_main_v22, val_main_cst_1, val_main_v21, val_main_v20, val_main_cst_0, val_main_v19, val_main_v18, val_main_v17, val_main_v16, val_main_v2, val_main_v0, val_main_cst, h1, h2, dg1, gate, sgm, ref_dm, ref_ya, ref_yb, ref_yp]
  exact (mul_assoc _ _ _).symm

/-- The reference's gradient of the third gate's argument, in columns 2048 to 3071. -/
theorem ref_dg2 (r : Fin 8192) (j : Fin 1024) : val_main_v72 (F := Ideal) dx proj pa sw pc wa wb bb wp ps wo (ix2 r ⟨2048 + j.val, by omega⟩)
    = dg2 dx proj pc wp ps wo r j := by
  have h1 : (2048 + j.val) / 1024 = 2 := by omega
  have h2 : (2048 + j.val) % 1024 = j.val := by omega
  pointwise [val_main_v72, val_main_v54, val_main_v53, val_main_v52, val_main_v51, val_main_v50, val_main_v49, val_main_v47, val_main_v46, val_main_v45, val_main_v44, val_main_v42, val_main_v41, val_main_v40, val_main_cst_2, val_main_cst_3, val_main_cst_4, val_main_v15, val_main_v14, val_main_v24, val_main_v23, val_main_v22, val_main_cst_1, val_main_v21, val_main_v20, val_main_cst_0, val_main_v19, val_main_v18, val_main_v17, val_main_v16, val_main_v2, val_main_v0, val_main_cst, h1, h2, dg2, gate, sgm, ref_dm, ref_ya, ref_yb, ref_yp]
  exact (mul_assoc _ _ _).symm

/-- The reference's gradient of branch a. -/
theorem ref_dya (r : Fin 8192) (j : Fin 1024) : val_main_v69 (F := Ideal) dx proj wo (ix2 r j) = dya dx proj wo r j := by
  pointwise [val_main_v69, val_main_v48, ref_g0, ref_dm, dya]
  exact mul_comm _ _

/-- The reference's gradient of branch b. -/
theorem ref_dyb (r : Fin 8192) (j : Fin 1024) : val_main_v70 (F := Ideal) dx proj wo (ix2 r j) = dyb dx proj wo r j := by
  pointwise [val_main_v70, val_main_v43, ref_g1, ref_dm, dyb]
  exact mul_comm _ _

/-- The reference's gradient of the pooled branch before its scale. -/
theorem ref_dyp (r : Fin 8192) (j : Fin 1024) : val_main_v71 (F := Ideal) dx proj ps wo (ix2 r j) = dyp dx proj ps wo r j := by
  pointwise [val_main_v71, val_main_v59, val_main_v58, val_main_v39, ref_g2, ref_dm, dyp, dyc]
  rw [mul_comm (gate proj 2 r j)]

/-- The reference's gradient of branch a's input. -/
theorem ref_dpa (r : Fin 8192) (j : Fin 1024) : val_main_v73 (F := Ideal) dx proj wa wo (ix2 r j) = dpa dx proj wa wo r j := by
  pointwise [val_main_v73, val_main_v68, val_main_v48, ref_g0, ref_dm, dpa, dya]
  exact Finset.sum_congr rfl fun k _ => by rw [mul_comm (gate proj 0 r k)]

/-- The reference's gradient of branch b's input. -/
theorem ref_dsw (r : Fin 8192) (j : Fin 1024) : val_main_v74 (F := Ideal) dx proj wb wo (ix2 r j) = dsw dx proj wb wo r j := by
  pointwise [val_main_v74, val_main_v67, val_main_v43, ref_g1, ref_dm, dsw, dyb]
  exact Finset.sum_congr rfl fun k _ => by rw [mul_comm (gate proj 1 r k)]

/-- The reference's gradient of the pooled branch's input, at a group and a channel of the group. -/
theorem ref_dpc (r : Fin 8192) (g : Fin 4) (j : Fin 256) :
    val_main_v75 (F := Ideal) dx proj wp ps wo (ix2 r ⟨g.val * 256 + j.val, by omega⟩) = dpc dx proj wp ps wo r g j := by
  have h1 : (g.val * 256 + j.val) / 256 = g.val := by omega
  have h2 : (g.val * 256 + j.val) % 256 = j.val := by omega
  pointwise [val_main_v75, val_main_v64, val_main_v63, val_main_v62, val_main_v61, val_main_v60, val_main_v59, val_main_v58, val_main_v39, ref_g2, ref_dm, dpc, dyp, dyc, h1, h2]
  exact Finset.sum_congr rfl fun k _ => by rw [mul_comm (gate proj 2 r _)]

/-- The reference's gradient of branch b's bias. -/
theorem ref_dbo (j : Fin 1024) : val_main_v66 (F := Ideal) dx proj wo (ix2 0 j) = dbo dx proj wo j := by
  pointwise [val_main_v66, val_main_v65, val_main_cst_6, val_main_v43, ref_g1, ref_dm, dbo, dyb]
  exact Finset.sum_congr rfl fun r _ => mul_comm _ _

/-- The reference's gradient of the pooled branch's scale. -/
theorem ref_dsc (j : Fin 1024) : val_main_v57 (F := Ideal) dx proj pc wp wo (ix2 0 j) = dsc dx proj pc wp wo j := by
  pointwise [val_main_v57, val_main_v56, val_main_cst_5, val_main_v55, val_main_v39, ref_g2, ref_dm, ref_yp, dsc, dyc]
  exact Finset.sum_congr rfl fun r _ => by rw [mul_comm, mul_comm (gate proj 2 r j)]

end Cert.Merge
-- ==== Proof.MergeFin.lean ====
module

public import proofs.«01_k».proof.Proof.MergeIn
public import proofs.«01_k».proof.Proof.MergePay
public import proofs.«01_k».proof.Proof.MergeOut
public import proofs.«01_k».proof.Proof.MergeOutG
public import proofs.«01_k».proof.Proof.MergeRef
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.KernelIdeal Cert.KernelIdeal.Gen

variable (m : (ℓ : Loc nD τ sig) → Buf (Elt Ideal) ℓ)

/-- After the last grid point the array of window 10 is what the reference computes for the gradient of branch a. -/
theorem fin10 (c : Dev nD) : (dats m 0 c).arrAt 10 (cfgs 0).N = Cert.ReferenceIdeal.Read.val_main_v69 (F := Ideal) (Kdx m c) (Kproj m c) (Kwo m c) := by
  refine (dats m 0 c).arrAt_eq_of_covers 10 _ (by decide +kernel) fun t hf y => ?_
  blk_simp
  rw [after0_10]
  idx_vars y
  have e : (win0_10.blk t).view.emb (ix2 y0 y1) = ix2 (row t y0) y1 := by
    blk_ext [idx t]
  rw [show _ = _ from e]
  exact (out10 m c t y0 y1).trans (ref_dya _ _ _ _ _).symm

/-- After the last grid point the array of window 11 is what the reference computes for the gradient of branch b. -/
theorem fin11 (c : Dev nD) : (dats m 0 c).arrAt 11 (cfgs 0).N = Cert.ReferenceIdeal.Read.val_main_v70 (F := Ideal) (Kdx m c) (Kproj m c) (Kwo m c) := by
  refine (dats m 0 c).arrAt_eq_of_covers 11 _ (by decide +kernel) fun t hf y => ?_
  blk_simp
  rw [after0_11]
  idx_vars y
  have e : (win0_11.blk t).view.emb (ix2 y0 y1) = ix2 (row t y0) y1 := by
    blk_ext [idx t]
  rw [show _ = _ from e]
  exact (out11 m c t y0 y1).trans (ref_dyb _ _ _ _ _).symm

/-- After the last grid point the array of window 12 is what the reference computes for the gradient of the pooled branch before its scale. -/
theorem fin12 (c : Dev nD) : (dats m 0 c).arrAt 12 (cfgs 0).N = Cert.ReferenceIdeal.Read.val_main_v71 (F := Ideal) (Kdx m c) (Kproj m c) (Kps m c) (Kwo m c) := by
  refine (dats m 0 c).arrAt_eq_of_covers 12 _ (by decide +kernel) fun t hf y => ?_
  blk_simp
  rw [after0_12]
  idx_vars y
  have e : (win0_12.blk t).view.emb (ix2 y0 y1) = ix2 (row t y0) y1 := by
    blk_ext [idx t]
  rw [show _ = _ from e]
  exact (out12 m c t y0 y1).trans (ref_dyp _ _ _ _ _ _).symm

/-- After the last grid point the array of window 14 is what the reference computes for the gradient of branch a's input. -/
theorem fin14 (c : Dev nD) : (dats m 0 c).arrAt 14 (cfgs 0).N = Cert.ReferenceIdeal.Read.val_main_v73 (F := Ideal) (Kdx m c) (Kproj m c) (Kwa m c) (Kwo m c) := by
  refine (dats m 0 c).arrAt_eq_of_covers 14 _ (by decide +kernel) fun t hf y => ?_
  blk_simp
  rw [after0_14]
  idx_vars y
  have e : (win0_14.blk t).view.emb (ix2 y0 y1) = ix2 (row t y0) y1 := by
    blk_ext [idx t]
  rw [show _ = _ from e]
  exact (out14 m c t y0 y1).trans (ref_dpa _ _ _ _ _ _).symm

/-- After the last grid point the array of window 15 is what the reference computes for the gradient of branch b's input. -/
theorem fin15 (c : Dev nD) : (dats m 0 c).arrAt 15 (cfgs 0).N = Cert.ReferenceIdeal.Read.val_main_v74 (F := Ideal) (Kdx m c) (Kproj m c) (Kwb m c) (Kwo m c) := by
  refine (dats m 0 c).arrAt_eq_of_covers 15 _ (by decide +kernel) fun t hf y => ?_
  blk_simp
  rw [after0_15]
  idx_vars y
  have e : (win0_15.blk t).view.emb (ix2 y0 y1) = ix2 (row t y0) y1 := by
    blk_ext [idx t]
  rw [show _ = _ from e]
  exact (out15 m c t y0 y1).trans (ref_dsw _ _ _ _ _ _).symm

end Cert.Merge
-- ==== Proof.MergeFinG.lean ====
module

public import proofs.«01_k».proof.Proof.MergeIn
public import proofs.«01_k».proof.Proof.MergePay
public import proofs.«01_k».proof.Proof.MergeOut
public import proofs.«01_k».proof.Proof.MergeOutG
public import proofs.«01_k».proof.Proof.MergeRef
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.KernelIdeal Cert.KernelIdeal.Gen

variable (m : (ℓ : Loc nD τ sig) → Buf (Elt Ideal) ℓ)

/-- After the last grid point the array of window 13 is what the reference computes for the gradient of the three gates' arguments. -/
theorem fin13 (c : Dev nD) : (dats m 0 c).arrAt 13 (cfgs 0).N = Cert.ReferenceIdeal.Read.val_main_v72 (F := Ideal) (Kdx m c) (Kproj m c) (Kpa m c) (Ksw m c) (Kpc m c) (Kwa m c) (Kwb m c) (Kbb m c) (Kwp m c) (Kps m c) (Kwo m c) := by
  refine (dats m 0 c).arrAt_eq_of_covers 13 _ (by decide +kernel) fun t hf y => ?_
  blk_simp
  rw [after0_13]
  idx_vars y
  have e : (win0_13.blk t).view.emb (ix2 y0 y1) = ix2 (row t y0) y1 := by
    blk_ext [idx t]
  rw [show _ = _ from e]
  clear e
  obtain ⟨j, hj⟩ : ∃ j : Fin 1024, y1.val = j.val ∨ y1.val = 1024 + j.val ∨ y1.val = 2048 + j.val :=
    ⟨⟨y1.val % 1024, Nat.mod_lt _ (by decide)⟩, by have := y1.isLt; show _ = y1.val % 1024 ∨ _ = 1024 + y1.val % 1024 ∨ _ = 2048 + y1.val % 1024; omega⟩
  rcases hj with hj | hj | hj
  · rw [show y1 = ⟨j.val, by omega⟩ from Fin.ext hj]
    exact (out13a m c t y0 j).trans (ref_dg0 _ _ _ _ _ _ _ _ _ _ _ _ _).symm
  · rw [show y1 = ⟨1024 + j.val, by omega⟩ from Fin.ext hj]
    exact (out13b m c t y0 j).trans (ref_dg1 _ _ _ _ _ _ _ _ _ _ _ _ _).symm
  · rw [show y1 = ⟨2048 + j.val, by omega⟩ from Fin.ext hj]
    exact (out13c m c t y0 j).trans (ref_dg2 _ _ _ _ _ _ _ _ _ _ _ _ _).symm

/-- After the last grid point the array of window 16 is what the reference computes for the gradient of the pooled branch's input. -/
theorem fin16 (c : Dev nD) : (dats m 0 c).arrAt 16 (cfgs 0).N = Cert.ReferenceIdeal.Read.val_main_v75 (F := Ideal) (Kdx m c) (Kproj m c) (Kwp m c) (Kps m c) (Kwo m c) := by
  refine (dats m 0 c).arrAt_eq_of_covers 16 _ (by decide +kernel) fun t hf y => ?_
  blk_simp
  rw [after0_16]
  idx_vars y
  have e : (win0_16.blk t).view.emb (ix2 y0 y1) = ix2 (row t y0) y1 := by
    blk_ext [idx t]
  rw [show _ = _ from e]
  clear e
  obtain ⟨l, hl⟩ : ∃ l : Fin 256, y1.val = l.val ∨ y1.val = 256 + l.val ∨ y1.val = 512 + l.val ∨ y1.val = 768 + l.val :=
    ⟨⟨y1.val % 256, Nat.mod_lt _ (by decide)⟩, by
      have := y1.isLt
      show _ = y1.val % 256 ∨ _ = 256 + y1.val % 256 ∨ _ = 512 + y1.val % 256 ∨ _ = 768 + y1.val % 256
      omega⟩
  rcases hl with hl | hl | hl | hl
  · rw [show y1 = ⟨l.val, by omega⟩ from Fin.ext hl]
    refine (out16_0 m c t y0 l).trans ((ref_dpc _ _ _ _ _ _ 0 l).symm.trans (congrArg _ (congrArg _ (Fin.ext ?_))))
    show 0 * 256 + l.val = l.val
    omega
  · rw [show y1 = ⟨256 + l.val, by omega⟩ from Fin.ext hl]
    refine (out16_1 m c t y0 l).trans ((ref_dpc _ _ _ _ _ _ 1 l).symm.trans (congrArg _ (congrArg _ (Fin.ext ?_))))
    show 1 * 256 + l.val = 256 + l.val
    omega
  · rw [show y1 = ⟨512 + l.val, by omega⟩ from Fin.ext hl]
    refine (out16_2 m c t y0 l).trans ((ref_dpc _ _ _ _ _ _ 2 l).symm.trans (congrArg _ (congrArg _ (Fin.ext ?_))))
    show 2 * 256 + l.val = 512 + l.val
    omega
  · rw [show y1 = ⟨768 + l.val, by omega⟩ from Fin.ext hl]
    refine (out16_3 m c t y0 l).trans ((ref_dpc _ _ _ _ _ _ 3 l).symm.trans (congrArg _ (congrArg _ (Fin.ext ?_))))
    show 3 * 256 + l.val = 768 + l.val
    omega

end Cert.Merge
-- ==== Proof.MergeFinS.lean ====
module

public import proofs.«01_k».proof.Proof.MergeIn
public import proofs.«01_k».proof.Proof.MergePay
public import proofs.«01_k».proof.Proof.MergeOut
public import proofs.«01_k».proof.Proof.MergeOutG
public import proofs.«01_k».proof.Proof.MergeRef
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.KernelIdeal Cert.KernelIdeal.Gen

variable (m : (ℓ : Loc nD τ sig) → Buf (Elt Ideal) ℓ)

/-- A sum over the eight places in groups of eight rows, over the grid points and over a block's 64 groups, is the sum over
    all rows. -/
theorem sum_parts (f : Fin 8192 → EReal) :
    ∑ i : Fin 8, ∑ t : Fin cfg0.N, ∑ n : Fin 64, f (row t ⟨n.val * 8 + i.val, by omega⟩) = ∑ r : Fin 8192, f r := by
  rw [Finset.sum_comm]
  have e : ∀ t : Fin cfg0.N, ∑ i : Fin 8, ∑ n : Fin 64, f (row t ⟨n.val * 8 + i.val, by omega⟩) = ∑ q : Fin 512, f (row t q) := by
    intro t
    rw [Finset.sum_comm]
    exact Fin.sum_mul_add_congr (fun s k hl => rfl)
  rw [Finset.sum_congr rfl fun t _ => e t]
  exact Fin.sum_mul_add_congr (fun s k hl => rfl)

/-- At the first grid point the running sum for branch b's bias is that point's part. -/
theorem first_b (c : Dev nD) (t : Fin cfg0.N) (h0 : t.val % 16 = 0) (i : Fin 8) (j : Fin 1024) :
    ((outsAt0 m c t.val t.isLt).2.2.2.2.2.2.2.2.2.1 (ix2 i j) : EReal) = ∑ n : Fin 64, dyb (Kdx m c) (Kproj m c) (Kwo m c) (row t ⟨n.val * 8 + i.val, by omega⟩) j := by
  have ht := pt t
  rw [outsAt0_A m c t h0 (by omega) (by omega)]
  frame_out
  refine (pay21_at _ _ _).trans ((pay19_at _ _ _).trans (Finset.sum_congr rfl fun n _ => ?_))
  pointwise [blk0, blk1, blk8, pay10_at, pay4_at, dyb, dm, gate, Nat.div_add_mod']

/-- At a later grid point the running sum for branch b's bias grows by that point's part. -/
theorem next_b (c : Dev nD) (t : Fin cfg0.N) (h0 : ¬ t.val % 16 = 0) (i : Fin 8) (j : Fin 1024) :
    ((outsAt0 m c t.val t.isLt).2.2.2.2.2.2.2.2.2.1 (ix2 i j) : EReal)
      = (outsAt0 m c (t.val - 1) (Nat.lt_of_le_of_lt (Nat.sub_le _ _) t.isLt)).2.2.2.2.2.2.2.2.2.1 (ix2 i j) + ∑ n : Fin 64, dyb (Kdx m c) (Kproj m c) (Kwo m c) (row t ⟨n.val * 8 + i.val, by omega⟩) j := by
  have ht := pt t
  have key : (outsAt0 m c t.val t.isLt).2.2.2.2.2.2.2.2.2.1
      = k0_pay23 (F := Ideal) (k0_pay10 (F := Ideal) (k0_pay4 (F := Ideal) (iblk m c 0 t) (iblk m c 8 t)) (k0_pay8 (F := Ideal) (View.ld (iblk m c 1 t) (Rect.unit ![0, 1024] ![512, 1024] inb_S512x3072_S512x1024_0_1024)))) (outsAt0 m c (t.val - 1) (Nat.lt_of_le_of_lt (Nat.sub_le _ _) t.isLt)).2.2.2.2.2.2.2.2.2.1 := by
    by_cases h1 : t.val % 16 = 15
    · rw [outsAt0_C m c t h0 (by omega) h1]
      frame_out
      exact congrArg _ (Memref.IsWhole.read_unread (m := Memref.whole cc0_scratch0) _ _)
    · rw [outsAt0_B m c t h0 (by omega) h1]
      frame_out
      exact congrArg _ (Memref.IsWhole.read_unread (m := Memref.whole cc0_scratch0) _ _)
  rw [key]
  refine (pay23_at _ _ _ _).trans (congrArg (_ + ·) ((pay19_at _ _ _).trans (Finset.sum_congr rfl fun n _ => ?_)))
  pointwise [blk0, blk1, blk8, pay10_at, pay4_at, dyb, dm, gate, Nat.div_add_mod']

/-- After the last grid point the running sum for branch b's bias holds the parts of all points. -/
theorem all_b (c : Dev nD) (t : Fin cfg0.N) (ht : t.val + 1 = cfg0.N) (i : Fin 8) (j : Fin 1024) :
    ((outsAt0 m c t.val t.isLt).2.2.2.2.2.2.2.2.2.1 (ix2 i j) : EReal) = ∑ t : Fin cfg0.N, ∑ n : Fin 64, dyb (Kdx m c) (Kproj m c) (Kwo m c) (row t ⟨n.val * 8 + i.val, by omega⟩) j := by
  have e := Pipeline.eq_sum_fin_of_reset_step_apply_last (M := EReal)
    (fun n h (j : Fin 1024) => (outsAt0 m c n h).2.2.2.2.2.2.2.2.2.1 (ix2 i j)) 16 (fun _ => 0)
    (fun t j => ∑ n : Fin 64, dyb (Kdx m c) (Kproj m c) (Kwo m c) (row t ⟨n.val * 8 + i.val, by omega⟩) j)
    (fun t h j => by rw [zero_add]; exact first_b m c t h i j) (fun t h j => next_b m c t h i j)
    (le_of_eq N_0) t ht j
  rw [zero_add] at e
  exact e

/-- At the last grid point the block of window 17 is the sum over the eight places. -/
theorem out17 (c : Dev nD) (t : Fin cfg0.N) (h1 : t.val % 16 = 15) (j : Fin 1024) :
    ((outsAt0 m c t.val t.isLt).2.2.2.2.2.2.2.1 (ix2 0 j) : EReal)
      = ∑ i : Fin 8, (outsAt0 m c t.val t.isLt).2.2.2.2.2.2.2.2.2.1 (ix2 i j) := by
  have ht := pt t
  rw [outsAt0_C m c t (by omega) (by omega) h1]
  frame_out
  exact pay2_at _ j

/-- After the last grid point the array of window 17 is what the reference computes for branch b's bias. -/
theorem fin17 (c : Dev nD) : (dats m 0 c).arrAt 17 (cfgs 0).N = Cert.ReferenceIdeal.Read.val_main_v66 (F := Ideal) (Kdx m c) (Kproj m c) (Kwo m c) := by
  refine (dats m 0 c).arrAt_eq_of_after_last 17 t0_15 (by decide +kernel) _ fun y => ?_
  idx_vars y
  rw [after0_17]
  obtain rfl : y0 = 0 := Subsingleton.elim _ _
  refine (out17 m c t0_15 rfl y1).trans ?_
  rw [Finset.sum_congr rfl fun i _ => all_b m c t0_15 rfl i y1]
  exact (sum_parts (fun r => dyb (Kdx m c) (Kproj m c) (Kwo m c) r y1)).trans (ref_dbo _ _ _ _).symm

/-- At the first grid point the running sum for the pooled branch's scale is that point's part. -/
theorem first_s (c : Dev nD) (t : Fin cfg0.N) (h0 : t.val % 16 = 0) (i : Fin 8) (j : Fin 1024) :
    ((outsAt0 m c t.val t.isLt).2.2.2.2.2.2.2.2.2.2 (ix2 i j) : EReal) = ∑ n : Fin 64, dyc (Kdx m c) (Kproj m c) (Kwo m c) (row t ⟨n.val * 8 + i.val, by omega⟩) j * yp (Kpc m c) (Kwp m c) (row t ⟨n.val * 8 + i.val, by omega⟩) j := by
  have ht := pt t
  rw [outsAt0_A m c t h0 (by omega) (by omega)]
  frame_out
  refine (pay22_at _ _ _ _).trans ((pay20_at _ _ _ _).trans (Finset.sum_congr rfl fun n _ => ?_))
  pointwise [blk0, blk1, blk4, blk8, pay14_at, pay15_at, pay4_at, dyc, dm, gate, Nat.div_add_mod']
  rw [mul_comm]

/-- At a later grid point the running sum for the pooled branch's scale grows by that point's part. -/
theorem next_s (c : Dev nD) (t : Fin cfg0.N) (h0 : ¬ t.val % 16 = 0) (i : Fin 8) (j : Fin 1024) :
    ((outsAt0 m c t.val t.isLt).2.2.2.2.2.2.2.2.2.2 (ix2 i j) : EReal)
      = (outsAt0 m c (t.val - 1) (Nat.lt_of_le_of_lt (Nat.sub_le _ _) t.isLt)).2.2.2.2.2.2.2.2.2.2 (ix2 i j) + ∑ n : Fin 64, dyc (Kdx m c) (Kproj m c) (Kwo m c) (row t ⟨n.val * 8 + i.val, by omega⟩) j * yp (Kpc m c) (Kwp m c) (row t ⟨n.val * 8 + i.val, by omega⟩) j := by
  have ht := pt t
  have key : (outsAt0 m c t.val t.isLt).2.2.2.2.2.2.2.2.2.2
      = k0_pay24 (F := Ideal) (k0_pay14 (F := Ideal) (iblk m c 4 t)) (k0_pay15 (F := Ideal) (k0_pay4 (F := Ideal) (iblk m c 0 t) (iblk m c 8 t)) (View.ld (iblk m c 1 t) (Rect.unit ![0, 2048] ![512, 1024] inb_S512x3072_S512x1024_0_2048))) (outsAt0 m c (t.val - 1) (Nat.lt_of_le_of_lt (Nat.sub_le _ _) t.isLt)).2.2.2.2.2.2.2.2.2.2 := by
    by_cases h1 : t.val % 16 = 15
    · rw [outsAt0_C m c t h0 (by omega) h1]
      frame_out
      exact congrArg _ (Memref.IsWhole.read_unread (m := Memref.whole cc0_scratch1) _ _)
    · rw [outsAt0_B m c t h0 (by omega) h1]
      frame_out
      exact congrArg _ (Memref.IsWhole.read_unread (m := Memref.whole cc0_scratch1) _ _)
  rw [key]
  refine (pay24_at _ _ _ _ _).trans (congrArg (_ + ·) ((pay20_at _ _ _ _).trans (Finset.sum_congr rfl fun n _ => ?_)))
  pointwise [blk0, blk1, blk4, blk8, pay14_at, pay15_at, pay4_at, dyc, dm, gate, Nat.div_add_mod']
  rw [mul_comm]

/-- After the last grid point the running sum for the pooled branch's scale holds the parts of all points. -/
theorem all_s (c : Dev nD) (t : Fin cfg0.N) (ht : t.val + 1 = cfg0.N) (i : Fin 8) (j : Fin 1024) :
    ((outsAt0 m c t.val t.isLt).2.2.2.2.2.2.2.2.2.2 (ix2 i j) : EReal) = ∑ t : Fin cfg0.N, ∑ n : Fin 64, dyc (Kdx m c) (Kproj m c) (Kwo m c) (row t ⟨n.val * 8 + i.val, by omega⟩) j * yp (Kpc m c) (Kwp m c) (row t ⟨n.val * 8 + i.val, by omega⟩) j := by
  have e := Pipeline.eq_sum_fin_of_reset_step_apply_last (M := EReal)
    (fun n h (j : Fin 1024) => (outsAt0 m c n h).2.2.2.2.2.2.2.2.2.2 (ix2 i j)) 16 (fun _ => 0)
    (fun t j => ∑ n : Fin 64, dyc (Kdx m c) (Kproj m c) (Kwo m c) (row t ⟨n.val * 8 + i.val, by omega⟩) j * yp (Kpc m c) (Kwp m c) (row t ⟨n.val * 8 + i.val, by omega⟩) j)
    (fun t h j => by rw [zero_add]; exact first_s m c t h i j) (fun t h j => next_s m c t h i j)
    (le_of_eq N_0) t ht j
  rw [zero_add] at e
  exact e

/-- At the last grid point the block of window 18 is the sum over the eight places. -/
theorem out18 (c : Dev nD) (t : Fin cfg0.N) (h1 : t.val % 16 = 15) (j : Fin 1024) :
    ((outsAt0 m c t.val t.isLt).2.2.2.2.2.2.2.2.1 (ix2 0 j) : EReal)
      = ∑ i : Fin 8, (outsAt0 m c t.val t.isLt).2.2.2.2.2.2.2.2.2.2 (ix2 i j) := by
  have ht := pt t
  rw [outsAt0_C m c t (by omega) (by omega) h1]
  frame_out
  exact pay3_at _ j

/-- After the last grid point the array of window 18 is what the reference computes for the pooled branch's scale. -/
theorem fin18 (c : Dev nD) : (dats m 0 c).arrAt 18 (cfgs 0).N = Cert.ReferenceIdeal.Read.val_main_v57 (F := Ideal) (Kdx m c) (Kproj m c) (Kpc m c) (Kwp m c) (Kwo m c) := by
  refine (dats m 0 c).arrAt_eq_of_after_last 18 t0_15 (by decide +kernel) _ fun y => ?_
  idx_vars y
  rw [after0_18]
  obtain rfl : y0 = 0 := Subsingleton.elim _ _
  refine (out18 m c t0_15 rfl y1).trans ?_
  rw [Finset.sum_congr rfl fun i _ => all_s m c t0_15 rfl i y1]
  exact (sum_parts (fun r => dyc (Kdx m c) (Kproj m c) (Kwo m c) r y1 * yp (Kpc m c) (Kwp m c) r y1)).trans (ref_dsc _ _ _ _ _ _).symm

end Cert.Merge
-- ==== Proof.MergeRun.lean ====
module

public import proofs.«01_k».proof.Defs
public import proofs.«01_k».proof.Proof.MergeIn
public import proofs.«01_k».proof.Proof.MergeFin
public import proofs.«01_k».proof.Proof.MergeFinG
public import proofs.«01_k».proof.Proof.MergeFinS
public import proofs.«01_k».proof.Proof.Gen.KernelIdeal.Value
public import proofs.«01_k».proof.Proof.Gen.ReferenceIdeal.Run
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.KernelIdeal Cert.KernelIdeal.Gen

variable (m : (ℓ : Loc nD τ sig) → Buf (Elt Ideal) ℓ) (ρ : Dev nD → PrngReg)

/-- Every run of the kernel ends with its nine results at what the reference computes from the kernel's arguments, and with
    its arguments unchanged. -/
theorem kernel_run : θ_run defs (onTc (τ := τ) (main (F := Ideal))) ⟨m, fun _ => 0, ρ⟩ fun r => ∀ c : Dev nD,
      r.2.mem ((c.tc : Thread nD τ).loc main_v26_0) = Cert.ReferenceIdeal.Read.val_main_v69 (F := Ideal) (Kdx m c) (Kproj m c) (Kwo m c)
      ∧ r.2.mem ((c.tc : Thread nD τ).loc main_v26_1) = Cert.ReferenceIdeal.Read.val_main_v70 (F := Ideal) (Kdx m c) (Kproj m c) (Kwo m c)
      ∧ r.2.mem ((c.tc : Thread nD τ).loc main_v26_2) = Cert.ReferenceIdeal.Read.val_main_v71 (F := Ideal) (Kdx m c) (Kproj m c) (Kps m c) (Kwo m c)
      ∧ r.2.mem ((c.tc : Thread nD τ).loc main_v26_3) = Cert.ReferenceIdeal.Read.val_main_v72 (F := Ideal) (Kdx m c) (Kproj m c) (Kpa m c) (Ksw m c) (Kpc m c) (Kwa m c) (Kwb m c) (Kbb m c) (Kwp m c) (Kps m c) (Kwo m c)
      ∧ r.2.mem ((c.tc : Thread nD τ).loc main_v26_4) = Cert.ReferenceIdeal.Read.val_main_v73 (F := Ideal) (Kdx m c) (Kproj m c) (Kwa m c) (Kwo m c)
      ∧ r.2.mem ((c.tc : Thread nD τ).loc main_v26_5) = Cert.ReferenceIdeal.Read.val_main_v74 (F := Ideal) (Kdx m c) (Kproj m c) (Kwb m c) (Kwo m c)
      ∧ r.2.mem ((c.tc : Thread nD τ).loc main_v26_6) = Cert.ReferenceIdeal.Read.val_main_v75 (F := Ideal) (Kdx m c) (Kproj m c) (Kwp m c) (Kps m c) (Kwo m c)
      ∧ r.2.mem ((c.tc : Thread nD τ).loc main_v26_7) = Cert.ReferenceIdeal.Read.val_main_v66 (F := Ideal) (Kdx m c) (Kproj m c) (Kwo m c)
      ∧ r.2.mem ((c.tc : Thread nD τ).loc main_v26_8) = Cert.ReferenceIdeal.Read.val_main_v57 (F := Ideal) (Kdx m c) (Kproj m c) (Kpc m c) (Kwp m c) (Kwo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, h6, h7, h8, ha⟩ := h c
    exact ⟨h0.trans (fin10 m c), h1.trans (fin11 m c), h2.trans (fin12 m c), h3.trans (fin13 m c), h4.trans (fin14 m c), h5.trans (fin15 m c), h6.trans (fin16 m c), h7.trans (fin17 m c), h8.trans (fin18 m c), ha⟩)
    (Cert.KernelIdeal.Value.run_blocks m ρ)

end Cert.Merge

namespace Cert.Merge.Ref

open Cert.ReferenceIdeal Cert.ReferenceIdeal.Gen

variable (m : (ℓ : Loc nD τ sig) → Buf (Elt Ideal) ℓ) (ρ : Dev nD → PrngReg)

/-- Every run of the reference ends with its nine results at their values over its arguments, and with its arguments
    unchanged. -/
theorem reference_run : θ_run defs (onTc (τ := τ) (main (F := Ideal))) ⟨m, fun _ => 0, ρ⟩ fun r => ∀ c : Dev nD,
      r.2.mem ((c.tc : Thread nD τ).loc main_v69) = Cert.ReferenceIdeal.Read.val_main_v69 (F := Ideal) (m ((c.tc : Thread nD τ).loc main_arg0)) (m ((c.tc : Thread nD τ).loc main_arg1)) (m ((c.tc : Thread nD τ).loc main_arg10))
      ∧ r.2.mem ((c.tc : Thread nD τ).loc main_v70) = Cert.ReferenceIdeal.Read.val_main_v70 (F := Ideal) (m ((c.tc : Thread nD τ).loc main_arg0)) (m ((c.tc : Thread nD τ).loc main_arg1)) (m ((c.tc : Thread nD τ).loc main_arg10))
      ∧ r.2.mem ((c.tc : Thread nD τ).loc main_v71) = Cert.ReferenceIdeal.Read.val_main_v71 (F := Ideal) (m ((c.tc : Thread nD τ).loc main_arg0)) (m ((c.tc : Thread nD τ).loc main_arg1)) (m ((c.tc : Thread nD τ).loc main_arg9)) (m ((c.tc : Thread nD τ).loc main_arg10))
      ∧ r.2.mem ((c.tc : Thread nD τ).loc main_v72) = Cert.ReferenceIdeal.Read.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v73) = Cert.ReferenceIdeal.Read.val_main_v73 (F := Ideal) (m ((c.tc : Thread nD τ).loc main_arg0)) (m ((c.tc : Thread nD τ).loc main_arg1)) (m ((c.tc : Thread nD τ).loc main_arg5)) (m ((c.tc : Thread nD τ).loc main_arg10))
      ∧ r.2.mem ((c.tc : Thread nD τ).loc main_v74) = Cert.ReferenceIdeal.Read.val_main_v74 (F := Ideal) (m ((c.tc : Thread nD τ).loc main_arg0)) (m ((c.tc : Thread nD τ).loc main_arg1)) (m ((c.tc : Thread nD τ).loc main_arg6)) (m ((c.tc : Thread nD τ).loc main_arg10))
      ∧ r.2.mem ((c.tc : Thread nD τ).loc main_v75) = Cert.ReferenceIdeal.Read.val_main_v75 (F := Ideal) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10))
      ∧ r.2.mem ((c.tc : Thread nD τ).loc main_v66) = Cert.ReferenceIdeal.Read.val_main_v66 (F := Ideal) (m ((c.tc : Thread nD τ).loc main_arg0)) (m ((c.tc : Thread nD τ).loc main_arg1)) (m ((c.tc : Thread nD τ).loc main_arg10))
      ∧ r.2.mem ((c.tc : Thread nD τ).loc main_v57) = Cert.ReferenceIdeal.Read.val_main_v57 (F := Ideal) (m ((c.tc : Thread nD τ).loc main_arg0)) (m ((c.tc : Thread nD τ).loc main_arg1)) (m ((c.tc : Thread nD τ).loc main_arg4)) (m ((c.tc : Thread nD τ).loc main_arg8)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, h6, h7, h8, ha⟩ := h c
    exact ⟨h0.trans (Cert.ReferenceIdeal.Read.val_main_v69_eq (F := Ideal) _ _ _), h1.trans (Cert.ReferenceIdeal.Read.val_main_v70_eq (F := Ideal) _ _ _), h2.trans (Cert.ReferenceIdeal.Read.val_main_v71_eq (F := Ideal) _ _ _ _), h3.trans (Cert.ReferenceIdeal.Read.val_main_v72_eq (F := Ideal) _ _ _ _ _ _ _ _ _ _ _), h4.trans (Cert.ReferenceIdeal.Read.val_main_v73_eq (F := Ideal) _ _ _ _), h5.trans (Cert.ReferenceIdeal.Read.val_main_v74_eq (F := Ideal) _ _ _ _), h6.trans (Cert.ReferenceIdeal.Read.val_main_v75_eq (F := Ideal) _ _ _ _ _), h7.trans (Cert.ReferenceIdeal.Read.val_main_v66_eq (F := Ideal) _ _ _), h8.trans (Cert.ReferenceIdeal.Read.val_main_v57_eq (F := Ideal) _ _ _ _ _), ha⟩)
    (Cert.ReferenceIdeal.Value.run m ρ)

end Cert.Merge.Ref

namespace Cert.Merge

/-- The kernel and the reference compute the same nine arrays over the extended reals. -/
theorem algebraic : Cert.algebraic_KernelIdeal_ReferenceIdeal := by
  intro m g m' g' hpre hagree
  refine ⟨_, _, _, _, _, _, _, _, _, Cert.Merge.kernel_run m g,
    (θ_run _ _ _).mono (fun r h c => ?_) (Cert.Merge.Ref.reference_run m' g')⟩
  obtain ⟨a0, a1, a2, a3, a4, a5, a6, a7, a8, a9, a10, a11⟩ := hagree c
  obtain ⟨h0, h1, h2, h3, h4, h5, h6, h7, h8, ha⟩ := h c
  refine ⟨h0.trans ?_, h1.trans ?_, h2.trans ?_, h3.trans ?_, h4.trans ?_, h5.trans ?_, h6.trans ?_, h7.trans ?_, h8.trans ?_, ha⟩
  all_goals simp only [a0, a1, a2, a3, a4, a5, a6, a7, a8, a9, a10, a11]
  all_goals rfl

/-- The reference ends without a fault, with its arguments unchanged and its counters at zero. -/
theorem frame_reference : Cert.quiescent_ReferenceIdeal := by
  intro m ρ _
  exact (θ_run Cert.ReferenceIdeal.defs _ _).mono (fun r h => ⟨fun c => (h c).2.2.2.2.2.2.2.2.2,
    sem_eq_zero_of_no_sems (by decide) r.2⟩) (Cert.Merge.Ref.reference_run m ρ)

end Cert.Merge
-- ==== Proof.DwIn.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwIn

open Cert.Kernel2Ideal Cert.Kernel2Ideal.Gen

variable (m : (ℓ : Loc nD τ sig) → Buf (Elt Ideal) ℓ) (ρ : Dev nD → PrngReg)

/-- Every window's block index at every grid point. -/
theorem idx : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

/-- The first point of a run of four leaves its own product in the accumulator. -/
theorem acc_first (c : Dev nD) (t : Fin cfg0.N) (h0 : t.val % 4 = 0) (y : S1024x2304.Idx) :
    ((outsAt0 m c t.val t.isLt).2 y : EReal) = 0 + k0_pay1 (F := Ideal) (iblk m c 0 t) (iblk m c 1 t) y := by
  rw [outsAt0_A m c t h0 (by omega) (by omega), zero_add]
  frame_out
  pointwise [k0_pay2]

/-- Every other point adds its product to what the point before left. -/
theorem acc_next (c : Dev nD) (t : Fin cfg0.N) (h0 : ¬t.val % 4 = 0) (y : S1024x2304.Idx) :
    ((outsAt0 m c t.val t.isLt).2 y : EReal)
      = (outsAt0 m c (t.val - 1) (Nat.lt_of_le_of_lt (Nat.sub_le _ _) t.isLt)).2 y + k0_pay1 (F := Ideal) (iblk m c 0 t) (iblk m c 1 t) y := by
  by_cases h2 : t.val % 4 = 3
  · rw [outsAt0_C m c t h0 (by omega) h2]
    frame_out
    pointwise [k0_pay3]
    exact congrArg (fun z : EReal => z + _) (congrFun (Memref.IsWhole.read_unread (m := Memref.whole cc0_scratch0) _ _) y)
  · rw [outsAt0_B m c t h0 (by omega) h2]
    frame_out
    pointwise [k0_pay3]
    exact congrArg (fun z : EReal => z + _) (congrFun (Memref.IsWhole.read_unread (m := Memref.whole cc0_scratch0) _ _) y)

/-- The last point of a run of four writes the accumulator out. -/
theorem out_last (c : Dev nD) (t : Fin cfg0.N) (h2 : t.val % 4 = 3) (i : Fin 1) (j : Fin 1024) (k : Fin 2304) :
    ((outsAt0 m c t.val t.isLt).1 (ix3 i j k) : EReal) = (outsAt0 m c t.val t.isLt).2 (ix2 j k) := by
  rw [outsAt0_C m c t (by omega) (by omega) h2]
  frame_out
  pointwise [k0_pay4, k0_pay3]

/-- After the last grid point the result array is what the reference computes. -/
theorem fin2 (c : Dev nD) : (dats m 0 c).arrAt 2 (cfgs 0).N
    = Cert.Reference2Ideal.Read.val_main_v8 (F := Ideal) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2]
  idx_vars y
  rw [out_last m c t h3,
    Pipeline.eq_sum_fin_of_reset_step_apply_of_flush (fun n h => ((outsAt0 m c n h).2 : S1024x2304.Idx → EReal)) 4 (fun _ => 0) _
      (acc_first m c) (acc_next m c) t h3 _, zero_add]
  pointwise [k0_pay1, Cert.Reference2Ideal.Read.val_main_v8, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v1]
  refine Fin.sum_mul_add_congr fun s k hl => ?_
  rw [mul_comm (G := EReal)]
  blk_point [iblk, V, idx t, idx ⟨_, Pipeline.run_point_lt_of_flush t h3 s⟩]

/-- The call for the gradient of the input projection's weight and its reference compute the same array over the extended reals. -/
theorem algebraic : Cert.algebraic_Kernel2Ideal_Reference2Ideal := by
  intro m g m' g' _ hagree
  refine ⟨fun c => Cert.Reference2Ideal.Read.val_main_v8 (F := Ideal) (m ((c.tc : Thread nD τ).loc main_arg0)) (m ((c.tc : Thread nD τ).loc main_arg1)),
    (θ_run _ _ _).mono (fun r h c => ⟨(h c).1.trans (fin2 m c), (h c).2⟩) (Cert.Kernel2Ideal.Value.run_blocks m g),
    (θ_run _ _ _).mono (fun r h c => ⟨(h c).1.trans ?_, (h c).2⟩) (Cert.Reference2Ideal.Value.run m' g')⟩
  obtain ⟨a0, a1⟩ := hagree c
  rw [Cert.Reference2Ideal.Read.val_main_v8_eq (F := Ideal)]
  simp only [a0, a1]

/-- The reference ends without a fault, with its arguments unchanged and its counters at zero. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

end Cert.DwIn
-- ==== Proof.DHidden.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DHidden

open Cert.Kernel3Ideal Cert.Kernel3Ideal.Gen

variable (m : (ℓ : Loc nD τ sig) → Buf (Elt Ideal) ℓ) (ρ : Dev nD → PrngReg)

/-- Every window's block index at every grid point. -/
theorem idx : ∀ t : Fin cfg0.N, win0_0.index t = ![t.val / 4, t.val % 4]
    ∧ win0_1.index t = ![t.val % 4, 0, 0]
    ∧ win0_2.index t = ![t.val / 4, 0] :=
  (by decide +kernel : ∀ t : Fin grid0.N, _)

/-- The first point of a run of four leaves its own product in the accumulator. -/
theorem acc_first (c : Dev nD) (t : Fin cfg0.N) (h0 : t.val % 4 = 0) (y : S1024x1024.Idx) :
    ((outsAt0 m c t.val t.isLt).2 y : EReal) = 0 + k0_pay1 (F := Ideal) (iblk m c 0 t) (iblk m c 1 t) y := by
  rw [outsAt0_A m c t h0 (by omega) (by omega), zero_add]
  frame_out
  pointwise [k0_pay2]

/-- Every other point adds its product to what the point before left. -/
theorem acc_next (c : Dev nD) (t : Fin cfg0.N) (h0 : ¬t.val % 4 = 0) (y : S1024x1024.Idx) :
    ((outsAt0 m c t.val t.isLt).2 y : EReal)
      = (outsAt0 m c (t.val - 1) (Nat.lt_of_le_of_lt (Nat.sub_le _ _) t.isLt)).2 y + k0_pay1 (F := Ideal) (iblk m c 0 t) (iblk m c 1 t) y := by
  by_cases h2 : t.val % 4 = 3
  · rw [outsAt0_C m c t h0 (by omega) h2]
    frame_out
    pointwise [k0_pay3]
    exact congrArg (fun z : EReal => z + _) (congrFun (Memref.IsWhole.read_unread (m := Memref.whole cc0_scratch0) _ _) y)
  · rw [outsAt0_B m c t h0 (by omega) h2]
    frame_out
    pointwise [k0_pay3]
    exact congrArg (fun z : EReal => z + _) (congrFun (Memref.IsWhole.read_unread (m := Memref.whole cc0_scratch0) _ _) y)

/-- The last point of a run of four writes the accumulator out. -/
theorem out_last (c : Dev nD) (t : Fin cfg0.N) (h2 : t.val % 4 = 3) (y : S1024x1024.Idx) :
    ((outsAt0 m c t.val t.isLt).1 y : EReal) = (outsAt0 m c t.val t.isLt).2 y := by
  rw [outsAt0_C m c t (by omega) (by omega) h2]
  frame_out
  pointwise [k0_pay4, k0_pay3]

/-- After the last grid point the result array is what the reference computes. -/
theorem fin2 (c : Dev nD) : (dats m 0 c).arrAt 2 (cfgs 0).N
    = Cert.Reference3Ideal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2, out_last m c t h3,
    Pipeline.eq_sum_fin_of_reset_step_apply_of_flush (fun n h => ((outsAt0 m c n h).2 : S1024x1024.Idx → EReal)) 4 (fun _ => 0) _
      (acc_first m c) (acc_next m c) t h3 _, zero_add]
  pointwise [k0_pay1, Cert.Reference3Ideal.Read.val_main_v4, Cert.Reference3Ideal.Read.val_main_v3, Cert.Reference3Ideal.Read.val_main_v2]
  refine Fin.sum_mul_add_congr fun s k hl => ?_
  blk_point [iblk, V, idx t, idx ⟨_, Pipeline.run_point_lt_of_flush t h3 s⟩]

/-- The call for the gradient of the input projection's argument and its reference compute the same array over the extended reals. -/
theorem algebraic : Cert.algebraic_Kernel3Ideal_Reference3Ideal := by
  intro m g m' g' _ hagree
  refine ⟨fun c => Cert.Reference3Ideal.Read.val_main_v4 (F := Ideal) (m ((c.tc : Thread nD τ).loc main_arg0)) (m ((c.tc : Thread nD τ).loc main_arg1)),
    (θ_run _ _ _).mono (fun r h c => ⟨(h c).1.trans (fin2 m c), (h c).2⟩) (Cert.Kernel3Ideal.Value.run_blocks m g),
    (θ_run _ _ _).mono (fun r h c => ⟨(h c).1.trans ?_, (h c).2⟩) (Cert.Reference3Ideal.Value.run m' g')⟩
  obtain ⟨a0, a1⟩ := hagree c
  rw [Cert.Reference3Ideal.Read.val_main_v4_eq (F := Ideal)]
  simp only [a0, a1]

/-- The reference ends without a fault, with its arguments unchanged and its counters at zero. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

end Cert.DHidden
-- ==== Proof.DAct.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DAct

open Cert.Kernel4Ideal Cert.Kernel4Ideal.Gen

variable (m : (ℓ : Loc nD τ sig) → Buf (Elt Ideal) ℓ) (ρ : Dev nD → PrngReg)

/-- Every window's block index at every grid point. -/
theorem idx : ∀ t : Fin cfg0.N, win0_0.index t = ![t.val % 8, 0]
    ∧ win0_1.index t = ![t.val / 8, 0, 0]
    ∧ win0_2.index t = ![t.val % 8, t.val / 8]
    ∧ win0_3.index t = ![t.val % 8, t.val / 8] :=
  (by decide +kernel : ∀ t : Fin grid0.N, _)

/-- The gathered row weights: the first 512 rows of device `d`'s part are its rows of the MLP's second weight. -/
theorem pack (c : Dev nD) (d : Fin 8) (r : Fin 512) (j : Fin 1024) :
    (V m c main_v7 (ix3 d ⟨r.val, by omega⟩ j) : EReal) = m ((c.tc : Thread nD τ).loc main_arg2) (ix2 ⟨d.val * 512 + r.val, by omega⟩ j) := by
  entry_read
  pointwise
  rw [dif_pos (by omega)]

/-- Window 1 brings those rows of two devices. -/
theorem blk1 (c : Dev nD) (t : Fin cfg0.N) (d : Fin 2) (r : Fin 512) (j : Fin 1024) :
    (X0_1 m c t (ix3 d r j) : EReal)
      = m ((c.tc : Thread nD τ).loc main_arg2) (ix2 ⟨(t.val / 8 * 2 + d.val) * 512 + r.val, by have := lt_of_lt_of_eq t.isLt N_0; omega⟩ j) := by
  refine Eq.trans ?_ (pack m c ⟨t.val / 8 * 2 + d.val, by have := lt_of_lt_of_eq t.isLt N_0; omega⟩ r j)
  unfold X0_1 Pipeline.Window.fill
  rw [dif_pos (moved0_1 t _)]
  blk_ext [iblk, V, idx t]

/-- The derivative of the squared positive part: taking the positive part first or choosing by the sign comes to the same. -/
theorem choose_pos (a k v : EReal) : v * (k * max a 0) = if 0 < a then v * (k * max a 0) else 0 := by
  split
  · rfl
  · rename_i h
    rw [max_eq_right (not_lt.mp h), mul_zero, mul_zero]

/-- After the last grid point the result array is what the reference computes. -/
theorem fin3 (c : Dev nD) : (dats m 0 c).arrAt 3 (cfgs 0).N
    = Cert.Reference4Ideal.Read.val_main_v14 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold outsAt0
  frame_out
  canon_tiles x h
  all_goals
    pointwise [k0_pay1, k0_pay2, Cert.Reference4Ideal.Read.val_main_v14, Cert.Reference4Ideal.Read.val_main_v13, Cert.Reference4Ideal.Read.val_main_v12, Cert.Reference4Ideal.Read.val_main_cst_2, Cert.Reference4Ideal.Read.val_main_v11, Cert.Reference4Ideal.Read.val_main_v10, Cert.Reference4Ideal.Read.val_main_v9, Cert.Reference4Ideal.Read.val_main_v7, Cert.Reference4Ideal.Read.val_main_v6, Cert.Reference4Ideal.Read.val_main_cst_1, Cert.Reference4Ideal.Read.val_main_v3, Cert.Reference4Ideal.Read.val_main_v2, Cert.Reference4Ideal.Read.val_main_cst, Cert.Reference4Ideal.Read.val_main_v1, Cert.Reference4Ideal.Read.val_main_call0_v0, Cert.Reference4Ideal.Read.val_main_call0_cst, Cert.Reference4Ideal.Read.val_main_v0, blk1]
    refine Eq.trans ?_ (choose_pos _ _ _)
    blk_point [iblk, V, idx t]

/-- The call for the gradient of the MLP's pre-activation and its reference compute the same array over the extended reals. -/
theorem algebraic : Cert.algebraic_Kernel4Ideal_Reference4Ideal := by
  intro m g m' g' _ hagree
  refine ⟨fun c => Cert.Reference4Ideal.Read.val_main_v14 (F := Ideal) (m ((c.tc : Thread nD τ).loc main_arg0)) (m ((c.tc : Thread nD τ).loc main_arg1)) (m ((c.tc : Thread nD τ).loc main_arg2)),
    (θ_run _ _ _).mono (fun r h c => ⟨(h c).1.trans (fin3 m c), (h c).2⟩) (Cert.Kernel4Ideal.Value.run_blocks m g),
    (θ_run _ _ _).mono (fun r h c => ⟨(h c).1.trans ?_, (h c).2⟩) (Cert.Reference4Ideal.Value.run m' g')⟩
  obtain ⟨a0, a1, a2, a3, a4, a5⟩ := hagree c
  rw [Cert.Reference4Ideal.Read.val_main_v14_eq (F := Ideal)]
  simp only [a0, a1, a2]

/-- The reference ends without a fault, with its arguments unchanged and its counters at zero. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

end Cert.DAct
-- ==== Proof.DwUp.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwUp

open Cert.Kernel5Ideal Cert.Kernel5Ideal.Gen

variable (m : (ℓ : Loc nD τ sig) → Buf (Elt Ideal) ℓ) (ρ : Dev nD → PrngReg)

/-- Every window's block index at every grid point. -/
theorem idx : ∀ t : Fin cfg0.N, win0_0.index t = ![t.val % 2, 0]
    ∧ win0_1.index t = ![t.val % 2, t.val / 2]
    ∧ win0_2.index t = ![t.val / 2, 0, 0] :=
  (by decide +kernel : ∀ t : Fin grid0.N, _)

/-- The first point of a pair leaves its own product in the accumulator. -/
theorem acc_first (c : Dev nD) (t : Fin cfg0.N) (h0 : t.val % 2 = 0) (y : S1024x512.Idx) :
    ((outsAt0 m c t.val t.isLt).2 y : EReal) = 0 + k0_pay1 (F := Ideal) (iblk m c 0 t) (iblk m c 1 t) y := by
  rw [outsAt0_A m c t h0 (by omega) (by omega), zero_add]
  frame_out
  pointwise [k0_pay2]

/-- The second adds its product to what the first left. -/
theorem acc_next (c : Dev nD) (t : Fin cfg0.N) (h0 : ¬t.val % 2 = 0) (y : S1024x512.Idx) :
    ((outsAt0 m c t.val t.isLt).2 y : EReal)
      = (outsAt0 m c (t.val - 1) (Nat.lt_of_le_of_lt (Nat.sub_le _ _) t.isLt)).2 y + k0_pay1 (F := Ideal) (iblk m c 0 t) (iblk m c 1 t) y := by
  rw [outsAt0_B m c t h0 (by omega) (by omega)]
  frame_out
  pointwise [k0_pay3]
  exact congrArg (fun z : EReal => z + _) (congrFun (Memref.IsWhole.read_unread (m := Memref.whole cc0_scratch0) _ _) y)

/-- The second point of a pair writes the accumulator out. -/
theorem out_last (c : Dev nD) (t : Fin cfg0.N) (h2 : t.val % 2 = 1) (i : Fin 1) (j : Fin 1024) (k : Fin 512) :
    ((outsAt0 m c t.val t.isLt).1 (ix3 i j k) : EReal) = (outsAt0 m c t.val t.isLt).2 (ix2 j k) := by
  rw [outsAt0_B m c t (by omega) (by omega) (by omega)]
  frame_out
  pointwise [k0_pay4, k0_pay3]

/-- After the last grid point the result array is what the reference computes. -/
theorem fin2 (c : Dev nD) : (dats m 0 c).arrAt 2 (cfgs 0).N
    = Cert.Reference5Ideal.Read.val_main_v8 (F := Ideal) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2]
  idx_vars y
  rw [out_last m c t h3,
    Pipeline.eq_sum_fin_of_reset_step_apply_of_flush (fun n h => ((outsAt0 m c n h).2 : S1024x512.Idx → EReal)) 2 (fun _ => 0) _
      (acc_first m c) (acc_next m c) t h3 _, zero_add]
  pointwise [k0_pay1, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v1]
  refine Fin.sum_mul_add_congr fun s k hl => ?_
  rw [mul_comm (G := EReal)]
  blk_point [iblk, V, idx t, idx ⟨_, Pipeline.run_point_lt_of_flush t h3 s⟩]

/-- The call for the gradient of the MLP's first weight and its reference compute the same array over the extended reals. -/
theorem algebraic : Cert.algebraic_Kernel5Ideal_Reference5Ideal := by
  intro m g m' g' _ hagree
  refine ⟨fun c => Cert.Reference5Ideal.Read.val_main_v8 (F := Ideal) (m ((c.tc : Thread nD τ).loc main_arg0)) (m ((c.tc : Thread nD τ).loc main_arg1)),
    (θ_run _ _ _).mono (fun r h c => ⟨(h c).1.trans (fin2 m c), (h c).2⟩) (Cert.Kernel5Ideal.Value.run_blocks m g),
    (θ_run _ _ _).mono (fun r h c => ⟨(h c).1.trans ?_, (h c).2⟩) (Cert.Reference5Ideal.Value.run m' g')⟩
  obtain ⟨a0, a1⟩ := hagree c
  rw [Cert.Reference5Ideal.Read.val_main_v8_eq (F := Ideal)]
  simp only [a0, a1]

/-- The reference ends without a fault, with its arguments unchanged and its counters at zero. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

end Cert.DwUp
-- ==== Proof.InProj.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProj

open Cert.Kernel6Ideal Cert.Kernel6Ideal.Gen

variable (m : (ℓ : Loc nD τ sig) → Buf (Elt Ideal) ℓ) (ρ : Dev nD → PrngReg)

/-- Every window's block index at every grid point. -/
theorem idx : ∀ t : Fin cfg0.N, win0_0.index t = ![t.val % 8, 0]
    ∧ win0_1.index t = ![t.val / 8, 0, 0]
    ∧ win0_2.index t = ![0, t.val / 8]
    ∧ win0_3.index t = ![t.val % 8, t.val / 8] :=
  (by decide +kernel : ∀ t : Fin grid0.N, _)

/-- After the last grid point the result array is what the reference computes. -/
theorem fin3 (c : Dev nD) : (dats m 0 c).arrAt 3 (cfgs 0).N
    = Cert.Reference6Ideal.Read.val_main_v4 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  pointwise [k0_pay1, Cert.Reference6Ideal.Read.val_main_v4, Cert.Reference6Ideal.Read.val_main_v3, Cert.Reference6Ideal.Read.val_main_v2, Cert.Reference6Ideal.Read.val_main_v1, Cert.Reference6Ideal.Read.val_main_v0]
  blk_point [iblk, V, idx t]

/-- The input projection's call and its reference compute the same array over the extended reals. -/
theorem algebraic : Cert.algebraic_Kernel6Ideal_Reference6Ideal := by
  intro m g m' g' _ hagree
  refine ⟨fun c => Cert.Reference6Ideal.Read.val_main_v4 (F := Ideal) (m ((c.tc : Thread nD τ).loc main_arg0)) (m ((c.tc : Thread nD τ).loc main_arg1)) (m ((c.tc : Thread nD τ).loc main_arg2)),
    (θ_run _ _ _).mono (fun r h c => ⟨(h c).1.trans (fin3 m c), (h c).2⟩) (Cert.Kernel6Ideal.Value.run_blocks m g),
    (θ_run _ _ _).mono (fun r h c => ⟨(h c).1.trans ?_, (h c).2⟩) (Cert.Reference6Ideal.Value.run m' g')⟩
  obtain ⟨a0, a1, a2⟩ := hagree c
  rw [Cert.Reference6Ideal.Read.val_main_v4_eq (F := Ideal)]
  simp only [a0, a1, a2]

/-- The reference ends without a fault, with its arguments unchanged and its counters at zero. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

end Cert.InProj
-- ==== Proof.MlpUp.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpUp

open Cert.Kernel7Ideal Cert.Kernel7Ideal.Gen

variable (m : (ℓ : Loc nD τ sig) → Buf (Elt Ideal) ℓ) (ρ : Dev nD → PrngReg)

/-- Every window's block index at every grid point. -/
theorem idx : ∀ t : Fin cfg0.N, win0_0.index t = ![t.val % 8, 0]
    ∧ win0_1.index t = ![t.val / 8, 0, 0]
    ∧ win0_2.index t = ![t.val % 8, t.val / 8] :=
  (by decide +kernel : ∀ t : Fin grid0.N, _)

set_option maxHeartbeats 1600000 in
/-- After the last grid point the result array is what the reference computes. -/
theorem fin2 (c : Dev nD) : (dats m 0 c).arrAt 2 (cfgs 0).N
    = Cert.Reference7Ideal.Read.val_main_v2 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  canon_tiles x h
  all_goals
    open_payloads
    pointwise [Cert.Reference7Ideal.Read.val_main_v2, Cert.Reference7Ideal.Read.val_main_v1, Cert.Reference7Ideal.Read.val_main_v0]
    blk_point [iblk, V, idx t]

/-- The call of the MLP's first product and its reference compute the same array over the extended reals. -/
theorem algebraic : Cert.algebraic_Kernel7Ideal_Reference7Ideal := by
  intro m g m' g' _ hagree
  refine ⟨fun c => Cert.Reference7Ideal.Read.val_main_v2 (F := Ideal) (m ((c.tc : Thread nD τ).loc main_arg0)) (m ((c.tc : Thread nD τ).loc main_arg1)),
    (θ_run _ _ _).mono (fun r h c => ⟨(h c).1.trans (fin2 m c), (h c).2⟩) (Cert.Kernel7Ideal.Value.run_blocks m g),
    (θ_run _ _ _).mono (fun r h c => ⟨(h c).1.trans ?_, (h c).2⟩) (Cert.Reference7Ideal.Value.run m' g')⟩
  obtain ⟨a0, a1⟩ := hagree c
  rw [Cert.Reference7Ideal.Read.val_main_v2_eq (F := Ideal)]
  simp only [a0, a1]

/-- The reference ends without a fault, with its arguments unchanged and its counters at zero. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

end Cert.MlpUp
-- ==== Proof.MlpDown.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpDown

open Cert.Kernel8Ideal Cert.Kernel8Ideal.Gen

variable (m : (ℓ : Loc nD τ sig) → Buf (Elt Ideal) ℓ) (ρ : Dev nD → PrngReg)

/-- Every window's block index at every grid point. -/
theorem idx : ∀ t : Fin cfg0.N, win0_0.index t = ![t.val, 0]
    ∧ win0_1.index t = ![0, 0, 0]
    ∧ win0_2.index t = ![t.val, 0]
    ∧ win0_3.index t = ![t.val, 0] :=
  (by decide +kernel : ∀ t : Fin grid0.N, _)

/-- The gathered row weights: the first 512 rows of device `d`'s part are its rows of the MLP's second weight. -/
theorem pack (c : Dev nD) (d : Fin 8) (r : Fin 512) (j : Fin 1024) :
    (V m c main_v7 (ix3 d ⟨r.val, by omega⟩ j) : EReal) = m ((c.tc : Thread nD τ).loc main_arg2) (ix2 ⟨d.val * 512 + r.val, by omega⟩ j) := by
  entry_read
  pointwise
  rw [dif_pos (by omega)]

/-- Window 1 brings those rows of every device. -/
theorem blk1 (c : Dev nD) (t : Fin cfg0.N) (d : Fin 8) (r : Fin 512) (j : Fin 1024) :
    (X0_1 m c t (ix3 d r j) : EReal) = m ((c.tc : Thread nD τ).loc main_arg2) (ix2 ⟨d.val * 512 + r.val, by omega⟩ j) := by
  refine Eq.trans ?_ (pack m c d r j)
  unfold X0_1 Pipeline.Window.fill
  rw [dif_pos (moved0_1 t _)]
  blk_ext [iblk, V, idx t]

/-- After the last grid point the result array is what the reference computes. -/
theorem fin3 (c : Dev nD) : (dats m 0 c).arrAt 3 (cfgs 0).N
    = Cert.Reference8Ideal.Read.val_main_v4 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold outsAt0
  frame_out
  pointwise [k0_pay1, Cert.Reference8Ideal.Read.val_main_v4, Cert.Reference8Ideal.Read.val_main_v3, Cert.Reference8Ideal.Read.val_main_v2, Cert.Reference8Ideal.Read.val_main_v1, Cert.Reference8Ideal.Read.val_main_call0_v0, Cert.Reference8Ideal.Read.val_main_call0_cst, Cert.Reference8Ideal.Read.val_main_v0, blk1, Nat.div_add_mod']
  rw [add_comm (G := EReal)]
  blk_point [iblk, V, idx t]

/-- The call of the MLP's second product and its reference compute the same array over the extended reals. -/
theorem algebraic : Cert.algebraic_Kernel8Ideal_Reference8Ideal := by
  intro m g m' g' _ hagree
  refine ⟨fun c => Cert.Reference8Ideal.Read.val_main_v4 (F := Ideal) (m ((c.tc : Thread nD τ).loc main_arg0)) (m ((c.tc : Thread nD τ).loc main_arg1)) (m ((c.tc : Thread nD τ).loc main_arg2)),
    (θ_run _ _ _).mono (fun r h c => ⟨(h c).1.trans (fin3 m c), (h c).2⟩) (Cert.Kernel8Ideal.Value.run_blocks m g),
    (θ_run _ _ _).mono (fun r h c => ⟨(h c).1.trans ?_, (h c).2⟩) (Cert.Reference8Ideal.Value.run m' g')⟩
  obtain ⟨a0, a1, a2, a3, a4, a5⟩ := hagree c
  rw [Cert.Reference8Ideal.Read.val_main_v4_eq (F := Ideal)]
  simp only [a0, a1, a2]

/-- The reference ends without a fault, with its arguments unchanged and its counters at zero. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

end Cert.MlpDown
-- ==== Proof.Rms.lean ====
module

public import Idealize.ShloMosaic.Lib.Pointwise
public import Idealize.ShloMosaic.Lib.Pipeline.ValueKit

@[expose] public section

noncomputable section

open Idealize.ShloMosaic

/-! The RMS norm of a row and its gradient, over the extended reals. -/

namespace Cert.Rms

/-- The row's length, as the programs write it. -/
theorem len : Ideal.ofBits .f32 0x44800000#32 = ((1024 : ℝ) : EReal) := by
  simp [Ideal.ofBits, Ideal.ieee, -EReal.coe_mul]; norm_num

/-- One over the row's length. -/
theorem invLen : Ideal.ofBits .f32 0x3A800000#32 = ((1 / 1024 : ℝ) : EReal) := by
  simp [Ideal.ofBits, Ideal.ieee, -EReal.coe_mul]; norm_num

/-- One half over the row's length. -/
theorem halfInvLen : Ideal.ofBits .f32 0x3A000000#32 = ((1 / 2048 : ℝ) : EReal) := by
  simp [Ideal.ofBits, Ideal.ieee, -EReal.coe_mul]; norm_num

/-- One half. -/
theorem half : Ideal.ofBits .f32 0x3F000000#32 = ((1 / 2 : ℝ) : EReal) := by
  simp [Ideal.ofBits, Ideal.ieee, -EReal.coe_mul]; norm_num

/-- Minus one half. -/
theorem negHalf : Ideal.ofBits .f32 0xBF000000#32 = ((-(1 / 2) : ℝ) : EReal) := by
  simp [Ideal.ofBits, Ideal.ieee, -EReal.coe_mul]; norm_num

/-- Two. -/
theorem two : Ideal.ofBits .f32 0x40000000#32 = ((2 : ℝ) : EReal) := by
  simp [Ideal.ofBits, Ideal.ieee, -EReal.coe_mul]; norm_num

/-- The small constant under the root is positive. -/
theorem eps : ∃ e : ℝ, 0 < e ∧ Ideal.ofBits .f32 0x358637BD#32 = (e : EReal) := by
  refine ⟨_, ?_, by simp [Ideal.ofBits, Ideal.ieee, -EReal.coe_mul]; rfl⟩
  positivity

/-- The mean of the squares of a row plus the small constant. -/
def ms (x : Fin 1024 → EReal) : EReal :=
  Ideal.div (∑ k, x k * x k) (Ideal.ofBits .f32 0x44800000#32) + Ideal.ofBits .f32 0x358637BD#32

/-- What the norm multiplies a row by. -/
def inv (x : Fin 1024 → EReal) : EReal := Ideal.rsqrt (ms x)

/-- A nonnegative real factor leaves a sum. -/
theorem sum_mul {ι : Type} (s : Finset ι) (f : ι → EReal) (w : ℝ) (hw : 0 ≤ w) :
    ∑ k ∈ s, f k * (w : EReal) = (∑ k ∈ s, f k) * (w : EReal) := by
  classical
  induction s using Finset.induction_on with
  | empty => simp
  | insert a s ha ih =>
    rw [Finset.sum_insert ha, Finset.sum_insert ha, ih,
      EReal.right_distrib_of_nonneg_of_ne_top (EReal.coe_nonneg.2 hw) (EReal.coe_ne_top _)]

/-- The mean square plus the small constant is positive. -/
theorem ms_pos (x : Fin 1024 → EReal) : 0 < ms x := by
  obtain ⟨e, he, h⟩ := eps
  have hs : 0 ≤ ∑ k, x k * x k := Finset.sum_nonneg fun k _ => by
    rcases le_total 0 (x k) with h0 | h0
    · exact mul_nonneg h0 h0
    · rw [← neg_mul_neg]
      have := EReal.neg_nonneg.2 h0
      exact mul_nonneg this this
  rw [ms, len, h, Ideal.div_coe (by norm_num)]
  refine lt_of_lt_of_le (EReal.coe_pos.2 he) ?_
  refine le_add_of_nonneg_left (mul_nonneg hs (EReal.coe_nonneg.2 (by norm_num)))

/-- The factor is a nonnegative real, and the factor over the mean square is its cube. -/
theorem inv_real (x : Fin 1024 → EReal) :
    ∃ r : ℝ, 0 ≤ r ∧ inv x = (r : EReal) ∧ Ideal.div (inv x) (ms x) = ((r * r * r : ℝ) : EReal) := by
  have hp := ms_pos x
  unfold inv
  generalize ms x = s at hp ⊢
  induction s with
  | bot => exact absurd hp (by simp)
  | top => exact ⟨0, le_refl _, by simp, by simp [Ideal.div]⟩
  | coe s =>
    have hs : 0 < s := EReal.coe_pos.1 hp
    refine ⟨(Real.sqrt s)⁻¹, by positivity, ?_, ?_⟩
    · rw [Ideal.rsqrt_coe, if_neg (by linarith), if_neg (by linarith)]
    · rw [Ideal.rsqrt_coe, if_neg (by linarith), if_neg (by linarith), Ideal.div_coe (by linarith), ← EReal.coe_mul]
      congr 1
      rw [mul_assoc, ← mul_inv, Real.mul_self_sqrt hs.le, one_div]

/-- The gradient of the norm at entry `j`, as the kernels compute it from a row and the gradient times the weight. -/
def grad (x p : Fin 1024 → EReal) (j : Fin 1024) : EReal :=
  inv x * (p j - x j * inv x * Ideal.div (∑ k, p k * (x k * inv x)) (Ideal.ofBits .f32 0x44800000#32))

/-- The derivative of the factor with respect to each entry's square, as differentiating the norm gives it. -/
def slope (x p : Fin 1024 → EReal) : EReal :=
  Ideal.div ((∑ k, x k * p k) * (Ideal.ofBits .f32 0xBF000000#32 * Ideal.div (inv x) (ms x))) (Ideal.ofBits .f32 0x44800000#32)

/-- The kernels' form of the gradient is the derivative. -/
theorem grad_eq (x p : Fin 1024 → EReal) (j : Fin 1024) :
    grad x p j = p j * inv x + x j * slope x p + slope x p * x j := by
  obtain ⟨r, hr, h1, h2⟩ := inv_real x
  unfold grad slope
  rw [h2, h1, len, negHalf, Ideal.div_coe (by norm_num), Ideal.div_coe (by norm_num)]
  have e : ∑ k, p k * (x k * (r : EReal)) = (∑ k, x k * p k) * (r : EReal) := by
    rw [← sum_mul _ _ r hr]
    exact Finset.sum_congr rfl fun k _ => by rw [← mul_assoc, mul_comm (p k)]
  rw [e]
  generalize ∑ k, x k * p k = q
  rw [sub_eq_add_neg, EReal.left_distrib_of_nonneg_of_ne_top (EReal.coe_nonneg.2 hr) (EReal.coe_ne_top _), mul_comm (r : EReal) (p j), add_assoc]
  congr 1
  have w : (0 : ℝ) ≤ 1 / 2 * (r * r * r) * (1 / 1024) := by positivity
  have l : x j * (q * (((-(1 / 2) : ℝ) : EReal) * ((r * r * r : ℝ) : EReal)) * ((1 / 1024 : ℝ) : EReal))
      = -(x j * q) * ((1 / 2 * (r * r * r) * (1 / 1024) : ℝ) : EReal) := by
    rw [← EReal.coe_mul, mul_assoc, ← EReal.coe_mul, ← mul_assoc, neg_mul (x j * q), ← mul_neg (x j * q), ← EReal.coe_neg]
    congr 2
    ring
  have k : (r : EReal) * -(x j * r * (q * r * ((1 / 1024 : ℝ) : EReal))) = -(x j * q) * ((r * r * r * (1 / 1024) : ℝ) : EReal) := by
    rw [mul_neg, neg_mul]
    simp only [EReal.coe_mul]
    ac_nf
  rw [mul_comm _ (x j), l, k, ← EReal.left_distrib_of_nonneg (EReal.coe_nonneg.2 w) (EReal.coe_nonneg.2 w), ← EReal.coe_add]
  congr 2
  ring

/-- A sum over the eight places in groups of eight rows, over sixteen blocks and over a block's 64 groups, is the sum over
    all rows. -/
theorem sum_parts {N : ℕ} (hN : N = 16) (f : Fin 8192 → EReal) :
    ∑ i : Fin 8, ∑ t : Fin N, ∑ n : Fin 64, f ⟨t.val * 512 + (n.val * 8 + i.val), by omega⟩ = ∑ r : Fin 8192, f r := by
  subst hN
  rw [Finset.sum_comm]
  have e : ∀ t : Fin 16, ∑ i : Fin 8, ∑ n : Fin 64, f ⟨t.val * 512 + (n.val * 8 + i.val), by omega⟩
      = ∑ q : Fin 512, f ⟨t.val * 512 + q.val, by omega⟩ := by
    intro t
    rw [Finset.sum_comm]
    exact Fin.sum_mul_add_congr (fun s k hl => rfl)
  rw [Finset.sum_congr rfl fun t _ => e t]
  exact Fin.sum_mul_add_congr (fun s k hl => rfl)

end Cert.Rms
-- ==== Proof.GradX.lean ====
module

public import proofs.«01_k».proof.Defs
public import proofs.«01_k».proof.Proof.Rms
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradX

open Cert.Kernel9Ideal Cert.Kernel9Ideal.Gen Cert.Reference9Ideal.Read

/-! The body's values, entry by entry. -/

section body

variable (x d : FVec Ideal S512x1024 .f32) (h : FVec Ideal S512x1024 .bf16) (g : FVec Ideal S1x1024 .f32) (a : FVec Ideal S8x1024 .f32)
  (r : Fin 512) (i : Fin 8) (j : Fin 1024)

/-- The factor of a row. -/
theorem pay3_at : (k0_pay3 (F := Ideal) x (ix2 r 0) : EReal) = Rms.inv fun k => x (ix2 r k) := by
  pointwise [k0_pay3, Rms.inv, Rms.ms]

/-- The norm before its weight. -/
theorem pay4_at : (k0_pay4 (F := Ideal) x (ix2 r j) : EReal) = x (ix2 r j) * Rms.inv fun k => x (ix2 r k) := by
  pointwise [k0_pay4, pay3_at]

/-- The gradient of the norm's argument plus what passes it. -/
theorem pay9_at : (k0_pay9 (F := Ideal) x h g d (ix2 r j) : EReal)
    = Rms.grad (fun k => x (ix2 r k)) (fun k => h (ix2 r k) * g (ix2 0 k)) j + d (ix2 r j) := by
  pointwise [k0_pay9, k0_pay5, pay3_at, pay4_at, Rms.grad]

/-- The sum of the parts of the weight's gradient over a block's rows that share a remainder modulo 8. -/
theorem pay6_at : (k0_pay6 (F := Ideal) x h (ix2 i j) : EReal)
    = ∑ n : Fin 64, h (ix2 ⟨n.val * 8 + i.val, by omega⟩ j) * (x (ix2 ⟨n.val * 8 + i.val, by omega⟩ j) * Rms.inv fun k => x (ix2 ⟨n.val * 8 + i.val, by omega⟩ k)) := by
  pointwise [k0_pay6, k0_pay5, pay4_at]

/-- The first point's value of the running sum. -/
theorem pay7_at : (k0_pay7 (F := Ideal) x h (ix2 i j) : EReal) = k0_pay6 (F := Ideal) x h (ix2 i j) := by
  pointwise [k0_pay7]

/-- A later point adds to the running sum. -/
theorem pay8_at : (k0_pay8 (F := Ideal) x h a (ix2 i j) : EReal) = a (ix2 i j) + k0_pay6 (F := Ideal) x h (ix2 i j) := by
  pointwise [k0_pay8]

/-- The last point's sum over the eight places. -/
theorem pay2_at : (k0_pay2 (F := Ideal) a (ix2 0 j) : EReal) = ∑ i : Fin 8, a (ix2 i j) := by
  pointwise [k0_pay2]

end body

/-! The reference's values, entry by entry. -/

section reference

variable (h : FVec Ideal S8192x1024 .bf16) (x d : FVec Ideal S8192x1024 .f32) (g : FVec Ideal S1x1024 .f32) (r : Fin 8192) (j : Fin 1024)

/-- The mean square plus the small constant. -/
theorem ref_ms : (val_main_v6 (F := Ideal) x (ix2 r 0) : EReal) = Rms.ms fun k => x (ix2 r k) := by
  pointwise [val_main_v6, val_main_v5, val_main_v4, val_main_v3, val_main_v2, val_main_v1, val_main_v0, val_main_cst, val_main_cst_0, val_main_cst_1, Rms.ms]

/-- The factor of a row. -/
theorem ref_inv : (val_main_v7 (F := Ideal) x (ix2 r 0) : EReal) = Rms.inv fun k => x (ix2 r k) := by
  pointwise [val_main_v7, ref_ms, Rms.inv]

/-- The slope of a row's factor. -/
theorem ref_slope : (val_main_v30 (F := Ideal) h x g (ix2 r j) : EReal)
    = Rms.slope (fun k => x (ix2 r k)) fun k => h (ix2 r k) * g (ix2 0 k) := by
  pointwise [val_main_v30, val_main_v29, val_main_v28, val_main_v27, val_main_v26, val_main_v23, val_main_v22, val_main_v21, val_main_v20, val_main_v19, val_main_v15,
    val_main_v10, val_main_v9, val_main_v8, val_main_cst_2, val_main_cst_4, val_main_cst_5, val_main_cst_6, ref_ms, ref_inv, Rms.slope]
  rw [Fin.sum_univ_one, ref_ms, ref_inv]

/-- The gradient of the norm's argument plus what passes it. -/
theorem ref_dx : (val_main_v35 (F := Ideal) h x g d (ix2 r j) : EReal)
    = Rms.grad (fun k => x (ix2 r k)) (fun k => h (ix2 r k) * g (ix2 0 k)) j + d (ix2 r j) := by
  rw [Rms.grad_eq]
  pointwise [val_main_v35, val_main_v34, val_main_v33, val_main_v32, val_main_v31, val_main_v25, val_main_v24, val_main_v20, val_main_v19, val_main_v15, ref_slope, ref_inv]

/-- The gradient of the norm's weight. -/
theorem ref_dg : (val_main_v18 (F := Ideal) h x (ix2 0 j) : EReal)
    = ∑ r : Fin 8192, h (ix2 r j) * (x (ix2 r j) * Rms.inv fun k => x (ix2 r k)) := by
  pointwise [val_main_v18, val_main_v17, val_main_v16, val_main_v15, val_main_v12, val_main_v11, val_main_cst_3, ref_inv]
  exact Finset.sum_congr rfl fun r _ => mul_comm _ _

end reference

variable (m : (ℓ : Loc nD τ sig) → Buf (Elt Ideal) ℓ)

/-- The incoming gradient. -/
abbrev Kh (c : Dev nD) : FVec Ideal S8192x1024 .bf16 := m ((c.tc : Thread nD τ).loc main_arg0)
/-- The norm's argument. -/
abbrev Kx (c : Dev nD) : FVec Ideal S8192x1024 .f32 := m ((c.tc : Thread nD τ).loc main_arg1)
/-- The norm's weight. -/
abbrev Kg (c : Dev nD) : FVec Ideal S1x1024 .f32 := m ((c.tc : Thread nD τ).loc main_arg2)
/-- What passes the norm. -/
abbrev Kd (c : Dev nD) : FVec Ideal S8192x1024 .f32 := m ((c.tc : Thread nD τ).loc main_arg3)

/-- The global row of row `r` of the block at grid point `t`. -/
abbrev row (t : Fin cfg0.N) (r : Fin 512) : Fin 8192 := ⟨t.val * 512 + r.val, by have := lt_of_lt_of_eq t.isLt N_0; omega⟩

/-- Every window's block index at every grid point. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

/-- Window 0 brings a block of rows of the incoming gradient. -/
theorem blk0 (c : Dev nD) (t : Fin cfg0.N) (r : Fin 512) (j : Fin 1024) :
    (iblk m c 0 t : FVec Ideal S512x1024 .bf16) (ix2 r j) = Kh m c (ix2 (row t r) j) := by
  blk_ext [iblk, V, idx t]

/-- Window 1 brings the same rows of the norm's argument. -/
theorem blk1 (c : Dev nD) (t : Fin cfg0.N) (r : Fin 512) (j : Fin 1024) :
    (iblk m c 1 t : FVec Ideal S512x1024 .f32) (ix2 r j) = Kx m c (ix2 (row t r) j) := by
  blk_ext [iblk, V, idx t]

/-- Window 2 brings the norm's weight. -/
theorem blk2 (c : Dev nD) (t : Fin cfg0.N) (j : Fin 1024) :
    (iblk m c 2 t : FVec Ideal S1x1024 .f32) (ix2 0 j) = Kg m c (ix2 0 j) := by
  blk_ext [iblk, V, idx t]

/-- Window 3 brings the same rows of what passes the norm. -/
theorem blk3 (c : Dev nD) (t : Fin cfg0.N) (r : Fin 512) (j : Fin 1024) :
    (iblk m c 3 t : FVec Ideal S512x1024 .f32) (ix2 r j) = Kd m c (ix2 (row t r) j) := by
  blk_ext [iblk, V, idx t]

/-- A grid point's block of the gradient of the norm's argument. -/
theorem dx_at (c : Dev nD) (t : Fin cfg0.N) (r : Fin 512) (j : Fin 1024) :
    (k0_pay9 (F := Ideal) (iblk m c 1 t) (iblk m c 0 t) (iblk m c 2 t) (iblk m c 3 t) (ix2 r j) : EReal)
      = val_main_v35 (F := Ideal) (Kh m c) (Kx m c) (Kg m c) (Kd m c) (ix2 (row t r) j) := by
  refine (pay9_at _ _ _ _ _ _).trans ?_
  rw [ref_dx]
  simp only [blk0, blk1, blk2, blk3]

/-- A grid point's part of the gradient of the norm's weight. -/
theorem dg_at (c : Dev nD) (t : Fin cfg0.N) (i : Fin 8) (j : Fin 1024) :
    (k0_pay6 (F := Ideal) (iblk m c 1 t) (iblk m c 0 t) (ix2 i j) : EReal)
      = ∑ n : Fin 64, Kh m c (ix2 (row t ⟨n.val * 8 + i.val, by omega⟩) j) * (Kx m c (ix2 (row t ⟨n.val * 8 + i.val, by omega⟩) j) * Rms.inv fun k => Kx m c (ix2 (row t ⟨n.val * 8 + i.val, by omega⟩) k)) := by
  refine (pay6_at _ _ _ _).trans ?_
  simp only [blk0, blk1]

/-- At every grid point the first window written is that point's block of the gradient. -/
theorem out4 (c : Dev nD) (t : Fin cfg0.N) :
    (outsAt0 m c t.val t.isLt).1 = k0_pay9 (F := Ideal) (iblk m c 1 t) (iblk m c 0 t) (iblk m c 2 t) (iblk m c 3 t) := by
  have ht := lt_of_lt_of_eq t.isLt N_0
  by_cases h0 : t.val % 16 = 0
  · rw [outsAt0_A m c t h0 (by omega) (by omega)]
    frame_out
  · by_cases h2 : t.val % 16 = 15
    · rw [outsAt0_C m c t h0 (by omega) h2]
      frame_out
    · rw [outsAt0_B m c t h0 (by omega) h2]
      frame_out

/-- At every grid point the second window written is the same block, cast. -/
theorem out5 (c : Dev nD) (t : Fin cfg0.N) :
    (outsAt0 m c t.val t.isLt).2.1 = k0_pay1 (F := Ideal) (k0_pay9 (F := Ideal) (iblk m c 1 t) (iblk m c 0 t) (iblk m c 2 t) (iblk m c 3 t)) := by
  have ht := lt_of_lt_of_eq t.isLt N_0
  by_cases h0 : t.val % 16 = 0
  · rw [outsAt0_A m c t h0 (by omega) (by omega)]
    frame_out
  · by_cases h2 : t.val % 16 = 15
    · rw [outsAt0_C m c t h0 (by omega) h2]
      frame_out
    · rw [outsAt0_B m c t h0 (by omega) h2]
      frame_out

/-- After the last grid point the gradient's array is what the reference computes. -/
theorem fin4 (c : Dev nD) : (dats m 0 c).arrAt 4 (cfgs 0).N = val_main_v35 (F := Ideal) (Kh m c) (Kx m c) (Kg m c) (Kd m c) := by
  refine (dats m 0 c).arrAt_eq_of_covers 4 _ (by decide +kernel) fun t hf y => ?_
  rw [after0_4, out4]
  idx_vars y
  refine (dx_at m c t y0 y1).trans ?_
  blk_point [idx t]

/-- After the last grid point the cast gradient's array is what the reference computes. -/
theorem fin5 (c : Dev nD) : (dats m 0 c).arrAt 5 (cfgs 0).N = val_main_v36 (F := Ideal) (Kh m c) (Kx m c) (Kg m c) (Kd m c) := by
  refine (dats m 0 c).arrAt_eq_of_covers 5 _ (by decide +kernel) fun t hf y => ?_
  rw [after0_5, out5]
  idx_vars y
  pointwise [k0_pay1, val_main_v36]
  refine (dx_at m c t y0 y1).trans ?_
  blk_point [idx t]

/-- At the first grid point the running sum is that point's part. -/
theorem first (c : Dev nD) (t : Fin cfg0.N) (h0 : t.val % 16 = 0) (i : Fin 8) (j : Fin 1024) :
    ((outsAt0 m c t.val t.isLt).2.2.2 (ix2 i j) : EReal) = k0_pay6 (F := Ideal) (iblk m c 1 t) (iblk m c 0 t) (ix2 i j) := by
  have ht := lt_of_lt_of_eq t.isLt N_0
  rw [outsAt0_A m c t h0 (by omega) (by omega)]
  frame_out
  exact pay7_at _ _ _ _

/-- At a later grid point the running sum grows by that point's part. -/
theorem next (c : Dev nD) (t : Fin cfg0.N) (h0 : ¬ t.val % 16 = 0) (i : Fin 8) (j : Fin 1024) :
    ((outsAt0 m c t.val t.isLt).2.2.2 (ix2 i j) : EReal)
      = (outsAt0 m c (t.val - 1) (Nat.lt_of_le_of_lt (Nat.sub_le _ _) t.isLt)).2.2.2 (ix2 i j) + k0_pay6 (F := Ideal) (iblk m c 1 t) (iblk m c 0 t) (ix2 i j) := by
  have ht := lt_of_lt_of_eq t.isLt N_0
  have key : (outsAt0 m c t.val t.isLt).2.2.2
      = k0_pay8 (F := Ideal) (iblk m c 1 t) (iblk m c 0 t) (outsAt0 m c (t.val - 1) (Nat.lt_of_le_of_lt (Nat.sub_le _ _) t.isLt)).2.2.2 := by
    by_cases h1 : t.val % 16 = 15
    · rw [outsAt0_C m c t h0 (by omega) h1]
      frame_out
      exact congrArg _ (Memref.IsWhole.read_unread (m := Memref.whole cc0_scratch0) _ _)
    · rw [outsAt0_B m c t h0 (by omega) h1]
      frame_out
      exact congrArg _ (Memref.IsWhole.read_unread (m := Memref.whole cc0_scratch0) _ _)
  rw [key]
  exact pay8_at _ _ _ _ _

/-- After the last grid point the running sum holds the parts of all points. -/
theorem all (c : Dev nD) (t : Fin cfg0.N) (ht : t.val + 1 = cfg0.N) (i : Fin 8) (j : Fin 1024) :
    ((outsAt0 m c t.val t.isLt).2.2.2 (ix2 i j) : EReal) = ∑ t : Fin cfg0.N, k0_pay6 (F := Ideal) (iblk m c 1 t) (iblk m c 0 t) (ix2 i j) := by
  have e := Pipeline.eq_sum_fin_of_reset_step_apply_last (M := EReal)
    (fun n h (j : Fin 1024) => (outsAt0 m c n h).2.2.2 (ix2 i j)) 16 (fun _ => 0)
    (fun t j => k0_pay6 (F := Ideal) (iblk m c 1 t) (iblk m c 0 t) (ix2 i j))
    (fun t h j => by rw [zero_add]; exact first m c t h i j) (fun t h j => next m c t h i j)
    (le_of_eq N_0) t ht j
  rw [zero_add] at e
  exact e

/-- At the last grid point the weight's block is the sum over the eight places. -/
theorem out6 (c : Dev nD) (t : Fin cfg0.N) (h1 : t.val % 16 = 15) (j : Fin 1024) :
    ((outsAt0 m c t.val t.isLt).2.2.1 (ix2 0 j) : EReal)
      = ∑ i : Fin 8, (outsAt0 m c t.val t.isLt).2.2.2 (ix2 i j) := by
  have ht := lt_of_lt_of_eq t.isLt N_0
  rw [outsAt0_C m c t (by omega) (by omega) h1]
  frame_out
  exact pay2_at _ j

/-- After the last grid point the array of the weight's gradient is what the reference computes. -/
theorem fin6 (c : Dev nD) : (dats m 0 c).arrAt 6 (cfgs 0).N = val_main_v18 (F := Ideal) (Kh m c) (Kx m c) := by
  refine (dats m 0 c).arrAt_eq_of_after_last 6 t0_15 (by decide +kernel) _ fun y => ?_
  idx_vars y
  rw [after0_6]
  obtain rfl : y0 = 0 := Subsingleton.elim _ _
  refine (out6 m c t0_15 rfl y1).trans ?_
  rw [Finset.sum_congr rfl fun i _ => (all m c t0_15 rfl i y1).trans (Finset.sum_congr rfl fun t _ => dg_at m c t i y1)]
  exact (Rms.sum_parts N_0 (fun r => Kh m c (ix2 r y1) * (Kx m c (ix2 r y1) * Rms.inv fun k => Kx m c (ix2 r k)))).trans (ref_dg _ _ _).symm

/-- The gradient of the first norm's argument and its reference compute the same arrays over the extended reals. -/
theorem algebraic : Cert.algebraic_Kernel9Ideal_Reference9Ideal := by
  intro m g m' g' _ hagree
  refine ⟨fun c => val_main_v35 (F := Ideal) (Kh m c) (Kx m c) (Kg m c) (Kd m c),
    fun c => val_main_v36 (F := Ideal) (Kh m c) (Kx m c) (Kg m c) (Kd m c),
    fun c => val_main_v18 (F := Ideal) (Kh m c) (Kx m c),
    (θ_run _ _ _).mono (fun r h c => ?_) (Cert.Kernel9Ideal.Value.run_blocks m g),
    (θ_run _ _ _).mono (fun r h c => ?_) (Cert.Reference9Ideal.Value.run m' g')⟩
  · obtain ⟨h0, h1, h2, ha⟩ := h c
    exact ⟨h0.trans (fin4 m c), h1.trans (fin5 m c), h2.trans (fin6 m c), ha⟩
  · obtain ⟨h0, h1, h2, ha⟩ := h c
    obtain ⟨a0, a1, a2, a3⟩ := hagree c
    refine ⟨h0.trans ?_, h1.trans ?_, h2.trans ?_, ha⟩
    · rw [val_main_v35_eq (F := Ideal)]; simp only [a0, a1, a2, a3]
    · rw [val_main_v36_eq (F := Ideal)]; simp only [a0, a1, a2, a3]
    · rw [val_main_v18_eq (F := Ideal)]; simp only [a0, a1, a2, a3]

/-- The reference ends without a fault, with its arguments unchanged and its counters at zero. -/
theorem frame_reference : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run m ρ)

end Cert.GradX
-- ==== Proof.Loss.lean ====
module

public import proofs.«01_k».proof.Defs
public import proofs.«01_k».proof.Proof.Rms
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Loss

open Cert.Kernel10Ideal Cert.Kernel10Ideal.Gen Cert.Reference10Ideal.Read

/-- The difference between the norm of a row and its target, at entry `j`. -/
def err (x g t : Fin 1024 → EReal) (j : Fin 1024) : EReal := x j * Rms.inv x * g j - t j

/-- The gradient of the norm's value, at entry `j`. -/
def dy (x g t : Fin 1024 → EReal) (j : Fin 1024) : EReal := err x g t j * Ideal.ofBits .f32 0x3A800000#32

/-- The derivative of half the mean of squares is the difference over the row's length. -/
theorem dy_eq (e : EReal) :
    Ideal.div (Ideal.ofBits .f32 0x3F000000#32) (Ideal.ofBits .f32 0x44800000#32) * (Ideal.ofBits .f32 0x40000000#32 * e)
      = e * Ideal.ofBits .f32 0x3A800000#32 := by
  rw [Rms.half, Rms.len, Rms.two, Rms.invLen, Ideal.div_coe (by norm_num), ← EReal.coe_mul, ← mul_assoc, ← EReal.coe_mul, mul_comm]
  congr 2
  norm_num

/-- Half the sum of the rows' means is the sum of all squares over twice the row's length. -/
theorem half_mean (f : Fin 8192 → Fin 1024 → EReal) :
    Ideal.ofBits .f32 0x3A000000#32 * ∑ j : Fin 1024, ∑ r : Fin 8192, f r j
      = Ideal.ofBits .f32 0x3F000000#32 * ∑ r : Fin 8192, Ideal.div (∑ j : Fin 1024, f r j) (Ideal.ofBits .f32 0x44800000#32) := by
  rw [Rms.half, Rms.len, Rms.halfInvLen, Finset.sum_comm]
  rw [Finset.sum_congr rfl fun r _ => Ideal.div_coe (by norm_num) _, Rms.sum_mul _ _ _ (by norm_num), mul_left_comm, ← EReal.coe_mul, mul_comm]
  congr 2
  norm_num

/-! The body's values, entry by entry. -/

section body

variable (x t : FVec Ideal S512x1024 .f32) (g : FVec Ideal S1x1024 .f32) (a : FVec Ideal S8x1024 .f32)
  (r : Fin 512) (i : Fin 8) (j : Fin 1024)

/-- The factor of a row. -/
theorem pay5_at : (k0_pay5 (F := Ideal) x (ix2 r 0) : EReal) = Rms.inv fun k => x (ix2 r k) := by
  pointwise [k0_pay5, Rms.inv, Rms.ms]

/-- The norm before its weight. -/
theorem pay6_at : (k0_pay6 (F := Ideal) x (ix2 r j) : EReal) = x (ix2 r j) * Rms.inv fun k => x (ix2 r k) := by
  pointwise [k0_pay6, pay5_at]

/-- The difference to the target. -/
theorem pay7_at : (k0_pay7 (F := Ideal) x g t (ix2 r j) : EReal) = err (fun k => x (ix2 r k)) (fun k => g (ix2 0 k)) (fun k => t (ix2 r k)) j := by
  pointwise [k0_pay7, pay6_at, err]

/-- The gradient of the norm's value. -/
theorem pay8_at : (k0_pay8 (F := Ideal) x g t (ix2 r j) : EReal) = dy (fun k => x (ix2 r k)) (fun k => g (ix2 0 k)) (fun k => t (ix2 r k)) j := by
  pointwise [k0_pay8, pay7_at, dy]

/-- The sum of the squares over a block's rows that share a remainder modulo 8. -/
theorem pay9_at : (k0_pay9 (F := Ideal) x g t (ix2 i j) : EReal)
    = ∑ n : Fin 64, err (fun k => x (ix2 ⟨n.val * 8 + i.val, by omega⟩ k)) (fun k => g (ix2 0 k)) (fun k => t (ix2 ⟨n.val * 8 + i.val, by omega⟩ k)) j
        * err (fun k => x (ix2 ⟨n.val * 8 + i.val, by omega⟩ k)) (fun k => g (ix2 0 k)) (fun k => t (ix2 ⟨n.val * 8 + i.val, by omega⟩ k)) j := by
  pointwise [k0_pay9, pay7_at]

/-- The same sum of the parts of the weight's gradient. -/
theorem pay10_at : (k0_pay10 (F := Ideal) x g t (ix2 i j) : EReal)
    = ∑ n : Fin 64, dy (fun k => x (ix2 ⟨n.val * 8 + i.val, by omega⟩ k)) (fun k => g (ix2 0 k)) (fun k => t (ix2 ⟨n.val * 8 + i.val, by omega⟩ k)) j
        * (x (ix2 ⟨n.val * 8 + i.val, by omega⟩ j) * Rms.inv fun k => x (ix2 ⟨n.val * 8 + i.val, by omega⟩ k)) := by
  pointwise [k0_pay10, pay8_at, pay6_at]

/-- The first point's value of the first running sum. -/
theorem pay11_at : (k0_pay11 (F := Ideal) x g t (ix2 i j) : EReal) = k0_pay9 (F := Ideal) x g t (ix2 i j) := by
  pointwise [k0_pay11]

/-- The first point's value of the second running sum. -/
theorem pay12_at : (k0_pay12 (F := Ideal) x g t (ix2 i j) : EReal) = k0_pay10 (F := Ideal) x g t (ix2 i j) := by
  pointwise [k0_pay12]

/-- A later point adds to the first running sum. -/
theorem pay13_at : (k0_pay13 (F := Ideal) x g t a (ix2 i j) : EReal) = a (ix2 i j) + k0_pay9 (F := Ideal) x g t (ix2 i j) := by
  pointwise [k0_pay13]

/-- A later point adds to the second running sum. -/
theorem pay14_at : (k0_pay14 (F := Ideal) x g t a (ix2 i j) : EReal) = a (ix2 i j) + k0_pay10 (F := Ideal) x g t (ix2 i j) := by
  pointwise [k0_pay14]

/-- The gradient of the norm's argument. -/
theorem pay1_at : (k0_pay1 (F := Ideal) (k0_pay5 (F := Ideal) x) (k0_pay6 (F := Ideal) x) (k0_pay15 (F := Ideal) x g t g) (k0_pay16 (F := Ideal) x g t g) (k0_pay17 (F := Ideal)) (ix2 r j) : EReal)
    = Rms.grad (fun k => x (ix2 r k)) (fun k => dy (fun k => x (ix2 r k)) (fun k => g (ix2 0 k)) (fun k => t (ix2 r k)) k * g (ix2 0 k)) j := by
  pointwise [k0_pay1, k0_pay15, k0_pay16, k0_pay17, pay5_at, pay6_at, pay8_at, Rms.grad]

/-- The last point's loss. -/
theorem pay3_at : (k0_pay3 (F := Ideal) a (ix2 0 0) : EReal) = Ideal.ofBits .f32 0x3A000000#32 * ∑ j : Fin 1024, ∑ i : Fin 8, a (ix2 i j) := by
  pointwise [k0_pay3]

/-- The last point's sum over the eight places. -/
theorem pay4_at : (k0_pay4 (F := Ideal) a (ix2 0 j) : EReal) = ∑ i : Fin 8, a (ix2 i j) := by
  pointwise [k0_pay4]

end body

/-! The reference's values, entry by entry. -/

section reference

variable (x t : FVec Ideal S8192x1024 .f32) (g : FVec Ideal S1x1024 .f32) (r : Fin 8192) (j : Fin 1024)

/-- The mean square plus the small constant. -/
theorem ref_ms : (val_main_v6 (F := Ideal) x (ix2 r 0) : EReal) = Rms.ms fun k => x (ix2 r k) := by
  pointwise [val_main_v6, val_main_v5, val_main_v4, val_main_v3, val_main_v2, val_main_v1, val_main_v0, val_main_cst, val_main_cst_0, val_main_cst_1, Rms.ms]

/-- The factor of a row. -/
theorem ref_inv : (val_main_v7 (F := Ideal) x (ix2 r 0) : EReal) = Rms.inv fun k => x (ix2 r k) := by
  pointwise [val_main_v7, ref_ms, Rms.inv]

/-- The difference to the target. -/
theorem ref_err : (val_main_v15 (F := Ideal) x g t (ix2 r j) : EReal) = err (fun k => x (ix2 r k)) (fun k => g (ix2 0 k)) (fun k => t (ix2 r k)) j := by
  pointwise [val_main_v15, val_main_v14, val_main_v13, val_main_v12, val_main_v11, ref_inv, err]

/-- The gradient of the norm's value. -/
theorem ref_dy : (val_main_v29 (F := Ideal) x g t (ix2 r j) : EReal) = dy (fun k => x (ix2 r k)) (fun k => g (ix2 0 k)) (fun k => t (ix2 r k)) j := by
  pointwise [val_main_v29, val_main_v28, val_main_v27, val_main_v26, val_main_v25, val_main_v24, val_main_v18, val_main_v17, val_main_cst_3, val_main_cst_8, val_main_cst_9, val_main_cst_10, ref_err, dy]
  exact dy_eq _

/-- The loss. -/
theorem ref_loss : (val_main_v49 (F := Ideal) x g t (ix2 0 0) : EReal)
    = Ideal.ofBits .f32 0x3A000000#32 * ∑ j : Fin 1024, ∑ r : Fin 8192, err (fun k => x (ix2 r k)) (fun k => g (ix2 0 k)) (fun k => t (ix2 r k)) j
        * err (fun k => x (ix2 r k)) (fun k => g (ix2 0 k)) (fun k => t (ix2 r k)) j := by
  rw [half_mean]
  pointwise [val_main_v49, val_main_v23, val_main_v22, val_main_v21, val_main_v20, val_main_v19, val_main_v16, val_main_cst_4, val_main_cst_5, val_main_cst_6, val_main_cst_7, ref_err]

/-- The slope of a row's factor. -/
theorem ref_slope : (val_main_v44 (F := Ideal) x g t (ix2 r j) : EReal)
    = Rms.slope (fun k => x (ix2 r k)) fun k => dy (fun k => x (ix2 r k)) (fun k => g (ix2 0 k)) (fun k => t (ix2 r k)) k * g (ix2 0 k) := by
  pointwise [val_main_v44, val_main_v43, val_main_v42, val_main_v41, val_main_v40, val_main_v37, val_main_v36, val_main_v35, val_main_v34, val_main_v33,
    val_main_v10, val_main_v9, val_main_v8, val_main_cst_2, val_main_cst_12, val_main_cst_13, val_main_cst_14, ref_dy, Rms.slope]
  rw [Fin.sum_univ_one, ref_ms, ref_inv]

/-- The gradient of the norm's argument. -/
theorem ref_dx : (val_main_v48 (F := Ideal) x g t (ix2 r j) : EReal)
    = Rms.grad (fun k => x (ix2 r k)) (fun k => dy (fun k => x (ix2 r k)) (fun k => g (ix2 0 k)) (fun k => t (ix2 r k)) k * g (ix2 0 k)) j := by
  rw [Rms.grad_eq]
  pointwise [val_main_v48, val_main_v47, val_main_v46, val_main_v45, val_main_v39, val_main_v38, val_main_v34, val_main_v33, ref_dy, ref_slope, ref_inv]

/-- The gradient of the norm's weight. -/
theorem ref_dg : (val_main_v32 (F := Ideal) x g t (ix2 0 j) : EReal)
    = ∑ r : Fin 8192, dy (fun k => x (ix2 r k)) (fun k => g (ix2 0 k)) (fun k => t (ix2 r k)) j * (x (ix2 r j) * Rms.inv fun k => x (ix2 r k)) := by
  pointwise [val_main_v32, val_main_v31, val_main_v30, val_main_v12, val_main_v11, val_main_cst_11, ref_inv, ref_dy]
  exact Finset.sum_congr rfl fun r _ => mul_comm _ _

end reference

variable (m : (ℓ : Loc nD τ sig) → Buf (Elt Ideal) ℓ)

/-- The norm's argument. -/
abbrev Kx (c : Dev nD) : FVec Ideal S8192x1024 .f32 := m ((c.tc : Thread nD τ).loc main_arg0)
/-- The norm's weight. -/
abbrev Kg (c : Dev nD) : FVec Ideal S1x1024 .f32 := m ((c.tc : Thread nD τ).loc main_arg1)
/-- The target. -/
abbrev Kt (c : Dev nD) : FVec Ideal S8192x1024 .f32 := m ((c.tc : Thread nD τ).loc main_arg2)

/-- The difference to the target in a row of the whole array. -/
abbrev errAt (c : Dev nD) (r : Fin 8192) (j : Fin 1024) : EReal := err (fun k => Kx m c (ix2 r k)) (fun k => Kg m c (ix2 0 k)) (fun k => Kt m c (ix2 r k)) j
/-- A row's part of the weight's gradient. -/
abbrev dgAt (c : Dev nD) (r : Fin 8192) (j : Fin 1024) : EReal :=
  dy (fun k => Kx m c (ix2 r k)) (fun k => Kg m c (ix2 0 k)) (fun k => Kt m c (ix2 r k)) j * (Kx m c (ix2 r j) * Rms.inv fun k => Kx m c (ix2 r k))

/-- The global row of row `r` of the block at grid point `t`. -/
abbrev row (t : Fin cfg0.N) (r : Fin 512) : Fin 8192 := ⟨t.val * 512 + r.val, by have := lt_of_lt_of_eq t.isLt N_0; omega⟩

/-- Every window's block index at every grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- Window 0 brings a block of rows of the norm's argument. -/
theorem blk0 (c : Dev nD) (t : Fin cfg0.N) (r : Fin 512) (j : Fin 1024) :
    (iblk m c 0 t : FVec Ideal S512x1024 .f32) (ix2 r j) = Kx m c (ix2 (row t r) j) := by
  blk_ext [iblk, V, idx t]

/-- Window 1 brings the norm's weight. -/
theorem blk1 (c : Dev nD) (t : Fin cfg0.N) (j : Fin 1024) :
    (iblk m c 1 t : FVec Ideal S1x1024 .f32) (ix2 0 j) = Kg m c (ix2 0 j) := by
  blk_ext [iblk, V, idx t]

/-- Window 2 brings the same rows of the target. -/
theorem blk2 (c : Dev nD) (t : Fin cfg0.N) (r : Fin 512) (j : Fin 1024) :
    (iblk m c 2 t : FVec Ideal S512x1024 .f32) (ix2 r j) = Kt m c (ix2 (row t r) j) := by
  blk_ext [iblk, V, idx t]

/-- What the body stores for the gradient of the norm's argument at a grid point. -/
abbrev dxBlk (c : Dev nD) (t : Fin cfg0.N) : FVec Ideal S512x1024 .f32 :=
  k0_pay1 (F := Ideal) (k0_pay5 (F := Ideal) (iblk m c 0 t)) (k0_pay6 (F := Ideal) (iblk m c 0 t))
    (k0_pay15 (F := Ideal) (iblk m c 0 t) (iblk m c 1 t) (iblk m c 2 t) (iblk m c 1 t))
    (k0_pay16 (F := Ideal) (iblk m c 0 t) (iblk m c 1 t) (iblk m c 2 t) (iblk m c 1 t)) (k0_pay17 (F := Ideal))

/-- A grid point's block of the gradient of the norm's argument. -/
theorem dx_at (c : Dev nD) (t : Fin cfg0.N) (r : Fin 512) (j : Fin 1024) :
    (dxBlk m c t (ix2 r j) : EReal) = val_main_v48 (F := Ideal) (Kx m c) (Kg m c) (Kt m c) (ix2 (row t r) j) := by
  refine (pay1_at _ _ _ _ _).trans ?_
  rw [ref_dx]
  simp only [blk0, blk1, blk2]

/-- A grid point's part of the squares. -/
theorem sq_at (c : Dev nD) (t : Fin cfg0.N) (i : Fin 8) (j : Fin 1024) :
    (k0_pay9 (F := Ideal) (iblk m c 0 t) (iblk m c 1 t) (iblk m c 2 t) (ix2 i j) : EReal)
      = ∑ n : Fin 64, errAt m c (row t ⟨n.val * 8 + i.val, by omega⟩) j * errAt m c (row t ⟨n.val * 8 + i.val, by omega⟩) j := by
  refine (pay9_at _ _ _ _ _).trans ?_
  simp only [blk0, blk1, blk2]

/-- A grid point's part of the gradient of the norm's weight. -/
theorem dg_at (c : Dev nD) (t : Fin cfg0.N) (i : Fin 8) (j : Fin 1024) :
    (k0_pay10 (F := Ideal) (iblk m c 0 t) (iblk m c 1 t) (iblk m c 2 t) (ix2 i j) : EReal)
      = ∑ n : Fin 64, dgAt m c (row t ⟨n.val * 8 + i.val, by omega⟩) j := by
  refine (pay10_at _ _ _ _ _).trans ?_
  simp only [blk0, blk1, blk2]

/-- At every grid point the gradient's window is that point's block. -/
theorem out4 (c : Dev nD) (t : Fin cfg0.N) : (outsAt0 m c t.val t.isLt).2.1 = dxBlk m c t := by
  have ht := lt_of_lt_of_eq t.isLt N_0
  by_cases h0 : t.val % 16 = 0
  · rw [outsAt0_A m c t h0 (by omega) (by omega)]
    frame_out
  · by_cases h2 : t.val % 16 = 15
    · rw [outsAt0_C m c t h0 (by omega) h2]
      frame_out
    · rw [outsAt0_B m c t h0 (by omega) h2]
      frame_out

/-- At every grid point the cast gradient's window is the same block, cast. -/
theorem out5 (c : Dev nD) (t : Fin cfg0.N) : (outsAt0 m c t.val t.isLt).2.2.1 = truncf .bf16 (dxBlk m c t) bitsLt_bf16_f32 := by
  have ht := lt_of_lt_of_eq t.isLt N_0
  by_cases h0 : t.val % 16 = 0
  · rw [outsAt0_A m c t h0 (by omega) (by omega)]
    frame_out
    rfl
  · by_cases h2 : t.val % 16 = 15
    · rw [outsAt0_C m c t h0 (by omega) h2]
      frame_out
      rfl
    · rw [outsAt0_B m c t h0 (by omega) h2]
      frame_out
      rfl

/-- After the last grid point the gradient's array is what the reference computes. -/
theorem fin4 (c : Dev nD) : (dats m 0 c).arrAt 4 (cfgs 0).N = val_main_v48 (F := Ideal) (Kx m c) (Kg m c) (Kt m c) := by
  refine (dats m 0 c).arrAt_eq_of_covers 4 _ (by decide +kernel) fun t hf y => ?_
  rw [after0_4, out4]
  idx_vars y
  refine (dx_at m c t y0 y1).trans ?_
  blk_point [idx t]

/-- After the last grid point the cast gradient's array is what the reference computes. -/
theorem fin5 (c : Dev nD) : (dats m 0 c).arrAt 5 (cfgs 0).N = val_main_v50 (F := Ideal) (Kx m c) (Kg m c) (Kt m c) := by
  refine (dats m 0 c).arrAt_eq_of_covers 5 _ (by decide +kernel) fun t hf y => ?_
  rw [after0_5, out5]
  idx_vars y
  pointwise [val_main_v50]
  refine (dx_at m c t y0 y1).trans ?_
  blk_point [idx t]

/-- At the first grid point each running sum is that point's part. -/
theorem first (c : Dev nD) (t : Fin cfg0.N) (h0 : t.val % 16 = 0) (i : Fin 8) (j : Fin 1024) :
    ((outsAt0 m c t.val t.isLt).2.2.2.2.1 (ix2 i j) : EReal) = k0_pay9 (F := Ideal) (iblk m c 0 t) (iblk m c 1 t) (iblk m c 2 t) (ix2 i j)
    ∧ ((outsAt0 m c t.val t.isLt).2.2.2.2.2 (ix2 i j) : EReal) = k0_pay10 (F := Ideal) (iblk m c 0 t) (iblk m c 1 t) (iblk m c 2 t) (ix2 i j) := by
  have ht := lt_of_lt_of_eq t.isLt N_0
  rw [outsAt0_A m c t h0 (by omega) (by omega)]
  constructor
  · frame_out
    exact pay11_at _ _ _ _ _
  · frame_out
    exact pay12_at _ _ _ _ _

/-- At a later grid point the sum of the squares grows by that point's part. -/
theorem next_sq (c : Dev nD) (t : Fin cfg0.N) (h0 : ¬ t.val % 16 = 0) (i : Fin 8) (j : Fin 1024) :
    ((outsAt0 m c t.val t.isLt).2.2.2.2.1 (ix2 i j) : EReal)
      = (outsAt0 m c (t.val - 1) (Nat.lt_of_le_of_lt (Nat.sub_le _ _) t.isLt)).2.2.2.2.1 (ix2 i j) + k0_pay9 (F := Ideal) (iblk m c 0 t) (iblk m c 1 t) (iblk m c 2 t) (ix2 i j) := by
  have ht := lt_of_lt_of_eq t.isLt N_0
  have key : (outsAt0 m c t.val t.isLt).2.2.2.2.1
      = k0_pay13 (F := Ideal) (iblk m c 0 t) (iblk m c 1 t) (iblk m c 2 t) (outsAt0 m c (t.val - 1) (Nat.lt_of_le_of_lt (Nat.sub_le _ _) t.isLt)).2.2.2.2.1 := by
    by_cases h1 : t.val % 16 = 15
    · rw [outsAt0_C m c t h0 (by omega) h1]
      frame_out
      exact congrArg _ (Memref.IsWhole.read_unread (m := Memref.whole cc0_scratch0) _ _)
    · rw [outsAt0_B m c t h0 (by omega) h1]
      frame_out
      exact congrArg _ (Memref.IsWhole.read_unread (m := Memref.whole cc0_scratch0) _ _)
  rw [key]
  exact pay13_at _ _ _ _ _ _

/-- At a later grid point the sum for the weight's gradient grows by that point's part. -/
theorem next_dg (c : Dev nD) (t : Fin cfg0.N) (h0 : ¬ t.val % 16 = 0) (i : Fin 8) (j : Fin 1024) :
    ((outsAt0 m c t.val t.isLt).2.2.2.2.2 (ix2 i j) : EReal)
      = (outsAt0 m c (t.val - 1) (Nat.lt_of_le_of_lt (Nat.sub_le _ _) t.isLt)).2.2.2.2.2 (ix2 i j) + k0_pay10 (F := Ideal) (iblk m c 0 t) (iblk m c 1 t) (iblk m c 2 t) (ix2 i j) := by
  have ht := lt_of_lt_of_eq t.isLt N_0
  have key : (outsAt0 m c t.val t.isLt).2.2.2.2.2
      = k0_pay14 (F := Ideal) (iblk m c 0 t) (iblk m c 1 t) (iblk m c 2 t) (outsAt0 m c (t.val - 1) (Nat.lt_of_le_of_lt (Nat.sub_le _ _) t.isLt)).2.2.2.2.2 := by
    by_cases h1 : t.val % 16 = 15
    · rw [outsAt0_C m c t h0 (by omega) h1]
      frame_out
      exact congrArg _ (Memref.IsWhole.read_unread (m := Memref.whole cc0_scratch1) _ _)
    · rw [outsAt0_B m c t h0 (by omega) h1]
      frame_out
      exact congrArg _ (Memref.IsWhole.read_unread (m := Memref.whole cc0_scratch1) _ _)
  rw [key]
  exact pay14_at _ _ _ _ _ _

/-- After the last grid point the sum of the squares holds the parts of all points. -/
theorem all_sq (c : Dev nD) (t : Fin cfg0.N) (ht : t.val + 1 = cfg0.N) (i : Fin 8) (j : Fin 1024) :
    ((outsAt0 m c t.val t.isLt).2.2.2.2.1 (ix2 i j) : EReal) = ∑ t : Fin cfg0.N, k0_pay9 (F := Ideal) (iblk m c 0 t) (iblk m c 1 t) (iblk m c 2 t) (ix2 i j) := by
  have e := Pipeline.eq_sum_fin_of_reset_step_apply_last (M := EReal)
    (fun n h (j : Fin 1024) => (outsAt0 m c n h).2.2.2.2.1 (ix2 i j)) 16 (fun _ => 0)
    (fun t j => k0_pay9 (F := Ideal) (iblk m c 0 t) (iblk m c 1 t) (iblk m c 2 t) (ix2 i j))
    (fun t h j => by rw [zero_add]; exact (first m c t h i j).1) (fun t h j => next_sq m c t h i j)
    (le_of_eq N_0) t ht j
  rw [zero_add] at e
  exact e

/-- After the last grid point the sum for the weight's gradient holds the parts of all points. -/
theorem all_dg (c : Dev nD) (t : Fin cfg0.N) (ht : t.val + 1 = cfg0.N) (i : Fin 8) (j : Fin 1024) :
    ((outsAt0 m c t.val t.isLt).2.2.2.2.2 (ix2 i j) : EReal) = ∑ t : Fin cfg0.N, k0_pay10 (F := Ideal) (iblk m c 0 t) (iblk m c 1 t) (iblk m c 2 t) (ix2 i j) := by
  have e := Pipeline.eq_sum_fin_of_reset_step_apply_last (M := EReal)
    (fun n h (j : Fin 1024) => (outsAt0 m c n h).2.2.2.2.2 (ix2 i j)) 16 (fun _ => 0)
    (fun t j => k0_pay10 (F := Ideal) (iblk m c 0 t) (iblk m c 1 t) (iblk m c 2 t) (ix2 i j))
    (fun t h j => by rw [zero_add]; exact (first m c t h i j).2) (fun t h j => next_dg m c t h i j)
    (le_of_eq N_0) t ht j
  rw [zero_add] at e
  exact e

/-- At the last grid point the loss's block is the scaled sum of all squares. -/
theorem out3 (c : Dev nD) (t : Fin cfg0.N) (h1 : t.val % 16 = 15) :
    ((outsAt0 m c t.val t.isLt).1 (ix2 0 0) : EReal)
      = Ideal.ofBits .f32 0x3A000000#32 * ∑ j : Fin 1024, ∑ i : Fin 8, (outsAt0 m c t.val t.isLt).2.2.2.2.1 (ix2 i j) := by
  have ht := lt_of_lt_of_eq t.isLt N_0
  rw [outsAt0_C m c t (by omega) (by omega) h1]
  frame_out
  exact pay3_at _

/-- At the last grid point the weight's block is the sum over the eight places. -/
theorem out6 (c : Dev nD) (t : Fin cfg0.N) (h1 : t.val % 16 = 15) (j : Fin 1024) :
    ((outsAt0 m c t.val t.isLt).2.2.2.1 (ix2 0 j) : EReal)
      = ∑ i : Fin 8, (outsAt0 m c t.val t.isLt).2.2.2.2.2 (ix2 i j) := by
  have ht := lt_of_lt_of_eq t.isLt N_0
  rw [outsAt0_C m c t (by omega) (by omega) h1]
  frame_out
  exact pay4_at _ j

/-- After the last grid point the loss is what the reference computes. -/
theorem fin3 (c : Dev nD) : (dats m 0 c).arrAt 3 (cfgs 0).N = val_main_v49 (F := Ideal) (Kx m c) (Kg m c) (Kt m c) := by
  refine (dats m 0 c).arrAt_eq_of_after_last 3 t0_15 (by decide +kernel) _ fun y => ?_
  idx_vars y
  rw [after0_3]
  obtain rfl : y0 = 0 := Subsingleton.elim _ _
  obtain rfl : y1 = 0 := Subsingleton.elim _ _
  refine (out3 m c t0_15 rfl).trans (Eq.trans (congrArg _ (Finset.sum_congr rfl fun j _ => ?_)) (ref_loss _ _ _).symm)
  rw [Finset.sum_congr rfl fun i _ => (all_sq m c t0_15 rfl i j).trans (Finset.sum_congr rfl fun t _ => sq_at m c t i j)]
  exact Rms.sum_parts N_0 fun r => errAt m c r j * errAt m c r j

/-- After the last grid point the array of the weight's gradient is what the reference computes. -/
theorem fin6 (c : Dev nD) : (dats m 0 c).arrAt 6 (cfgs 0).N = val_main_v32 (F := Ideal) (Kx m c) (Kg m c) (Kt m c) := by
  refine (dats m 0 c).arrAt_eq_of_after_last 6 t0_15 (by decide +kernel) _ fun y => ?_
  idx_vars y
  rw [after0_6]
  obtain rfl : y0 = 0 := Subsingleton.elim _ _
  refine (out6 m c t0_15 rfl y1).trans ?_
  rw [Finset.sum_congr rfl fun i _ => (all_dg m c t0_15 rfl i y1).trans (Finset.sum_congr rfl fun t _ => dg_at m c t i y1)]
  exact (Rms.sum_parts N_0 fun r => dgAt m c r y1).trans (ref_dg _ _ _ _).symm

/-- The loss with its gradients and its reference compute the same arrays over the extended reals. -/
theorem algebraic : Cert.algebraic_Kernel10Ideal_Reference10Ideal := by
  intro m g m' g' _ hagree
  refine ⟨fun c => val_main_v49 (F := Ideal) (Kx m c) (Kg m c) (Kt m c),
    fun c => val_main_v48 (F := Ideal) (Kx m c) (Kg m c) (Kt m c),
    fun c => val_main_v50 (F := Ideal) (Kx m c) (Kg m c) (Kt m c),
    fun c => val_main_v32 (F := Ideal) (Kx m c) (Kg m c) (Kt m c),
    (θ_run _ _ _).mono (fun r h c => ?_) (Cert.Kernel10Ideal.Value.run_blocks m g),
    (θ_run _ _ _).mono (fun r h c => ?_) (Cert.Reference10Ideal.Value.run m' g')⟩
  · obtain ⟨h0, h1, h2, h3, ha⟩ := h c
    exact ⟨h0.trans (fin3 m c), h1.trans (fin4 m c), h2.trans (fin5 m c), h3.trans (fin6 m c), ha⟩
  · obtain ⟨h0, h1, h2, h3, ha⟩ := h c
    obtain ⟨a0, a1, a2⟩ := hagree c
    refine ⟨h0.trans ?_, h1.trans ?_, h2.trans ?_, h3.trans ?_, ha⟩
    · rw [val_main_v49_eq (F := Ideal)]; simp only [a0, a1, a2]
    · rw [val_main_v48_eq (F := Ideal)]; simp only [a0, a1, a2]
    · rw [val_main_v50_eq (F := Ideal)]; simp only [a0, a1, a2]
    · rw [val_main_v32_eq (F := Ideal)]; simp only [a0, a1, a2]

/-- The reference ends without a fault, with its arguments unchanged and its counters at zero. -/
theorem frame_reference : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run m ρ)

end Cert.Loss
-- ==== Proof.AdamIn.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamIn

open Cert.Kernel11Ideal Cert.Kernel11Ideal.Gen Cert.Reference11Ideal.Read

variable (m : (ℓ : Loc nD τ sig) → Buf (Elt Ideal) ℓ)

/-- Every window's block index at every grid point. -/
theorem idx : ∀ t : Fin cfg0.N, win0_0.index t = ![0, if t.val < 4 then t.val else 3, 0]
    ∧ win0_1.index t = ![0, if t.val < 4 then 0 else t.val - 4, 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The grid's first axis is the layer. -/
theorem layer : ∀ t : Fin cfg0.N, Scalar.cmpi .eq (BitVec.ofNat 32 (grid0.coords t 0).val) 1#32 = if t.val < 4 then 0#1 else 1#1 :=
  (by decide +kernel : ∀ t : Fin grid0.N, _)

/-- What the body takes for the gradient at a grid point is the sum of the parts of the point's layer. -/
theorem grad (c : Dev nD) (t : Fin cfg0.N) (i : S256x1152.Idx) (j : Cert.Reference11Ideal.S2x1024x1152.Idx) (h0 : (j 0 : ℕ) = t.val / 4)
    (h1 : (j 1 : ℕ) = t.val % 4 * 256 + i 0) (h2 : (j 2 : ℕ) = i 1) :
    k0_pay10 (F := Ideal) (grid0.coords t) (iblk m c 0 t) (iblk m c 1 t) (iblk m c 2 t) (iblk m c 3 t) (iblk m c 4 t) i
      = val_main_v6 (F := Ideal) (m ((c.tc : Thread nD τ).loc main_arg0)) (m ((c.tc : Thread nD τ).loc main_arg1)) j := by
  have ht : t.val < 8 := lt_of_lt_of_eq t.isLt N_0
  have e := idx t
  unfold k0_pay10
  rw [layer t]
  by_cases h : t.val < 4
  · simp only [if_pos h] at e ⊢
    pointwise [k0_pay3, k0_pay4, val_main_v6, val_main_v4, val_main_v1, val_main_v0, val_main_cst]
    rw [dif_pos (by omega), Fin.sum_univ_eight]
    blk_point [iblk, V, e]
  · simp only [if_neg h] at e ⊢
    pointwise [k0_pay3, k0_pay4, val_main_v6, val_main_v5, val_main_v3, val_main_v2, val_main_cst_0]
    rw [dif_neg (by omega), Fin.sum_univ_eight]
    blk_point [iblk, V, e]

/-- After the last grid point the gradient's array is what the reference computes. -/
theorem fin5 (c : Dev nD) : (dats m 0 c).arrAt 5 (cfgs 0).N
    = val_main_v6 (F := Ideal) (m ((c.tc : Thread nD τ).loc main_arg0)) (m ((c.tc : Thread nD τ).loc main_arg1)) := by
  refine (dats m 0 c).arrAt_eq_of_covers 5 _ (by decide +kernel) fun t hf y => ?_
  blk_simp
  rw [after0_5]
  frame_out
  pointwise [k0_pay8]
  exact grad m c t _ _ (by blk_simp [idx t] <;> try omega) (by blk_simp [idx t] <;> try omega) (by blk_simp [idx t] <;> try omega)

/-- After the last grid point the first moment's array is what the reference computes. -/
theorem fin7 (c : Dev nD) : (dats m 0 c).arrAt 7 (cfgs 0).N
    = val_main_v11 (F := Ideal) (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  have g := grad m c t (ix2 (y 1) (y 2)) (((cfg0.win 7).blk t).view.emb y) (by blk_simp [idx t] <;> try omega)
    (by blk_simp [idx t] <;> try omega) (by blk_simp [idx t] <;> try omega)
  blk_simp
  rw [after0_7]
  frame_out
  pointwise [k0_pay1, k0_pay6, val_main_v11, val_main_v10, val_main_v9, val_main_v8, val_main_v7, val_main_cst_1, val_main_cst_2]
  rw [g]
  blk_point [iblk, V, idx t]

/-- After the last grid point the second moment's array is what the reference computes. -/
theorem fin8 (c : Dev nD) : (dats m 0 c).arrAt 8 (cfgs 0).N
    = val_main_v17 (F := Ideal) (m ((c.tc : Thread nD τ).loc main_arg0)) (m ((c.tc : Thread nD τ).loc main_arg1)) (m ((c.tc : Thread nD τ).loc main_arg4)) := by
  refine (dats m 0 c).arrAt_eq_of_covers 8 _ (by decide +kernel) fun t hf y => ?_
  have g := grad m c t (ix2 (y 1) (y 2)) (((cfg0.win 8).blk t).view.emb y) (by blk_simp [idx t] <;> try omega)
    (by blk_simp [idx t] <;> try omega) (by blk_simp [idx t] <;> try omega)
  blk_simp
  rw [after0_8]
  frame_out
  pointwise [k0_pay2, k0_pay7, val_main_v17, val_main_v16, val_main_v15, val_main_v14, val_main_v13, val_main_v12, val_main_cst_3, val_main_cst_4]
  rw [g]
  blk_point [iblk, V, idx t]

/-- After the last grid point the update's array is what the reference computes. -/
theorem fin6 (c : Dev nD) : (dats m 0 c).arrAt 6 (cfgs 0).N
    = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have g := grad m c t (ix2 (y 1) (y 2)) (((cfg0.win 6).blk t).view.emb y) (by blk_simp [idx t] <;> try omega)
    (by blk_simp [idx t] <;> try omega) (by blk_simp [idx t] <;> try omega)
  blk_simp
  rw [after0_6]
  frame_out
  pointwise [k0_pay9, k0_pay5, k0_pay6, k0_pay7, val_main_v30, val_main_v11, val_main_v10, val_main_v9, val_main_v8, val_main_v7, val_main_cst_1, val_main_cst_2, val_main_v17, val_main_v16, val_main_v15, val_main_v14, val_main_v13, val_main_v12, val_main_cst_3, val_main_cst_4, val_main_v18, val_main_v19, val_main_v20, val_main_v21, val_main_v22, val_main_v23, val_main_v24, val_main_v25, val_main_v26, val_main_v27, val_main_v28, val_main_v29, val_main_cst_5, val_main_cst_6, val_main_cst_7, val_main_cst_8, val_main_cst_9]
  rw [g]
  blk_point [iblk, V, idx t]

/-- The update of w_in and its reference compute the same arrays over the extended reals. -/
theorem algebraic : Cert.algebraic_Kernel11Ideal_Reference11Ideal := by
  intro m g m' g' _ hagree
  refine ⟨fun c => val_main_v6 (F := Ideal) (m ((c.tc : Thread nD τ).loc main_arg0)) (m ((c.tc : Thread nD τ).loc main_arg1)),
    fun c => val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => val_main_v11 (F := Ideal) (m ((c.tc : Thread nD τ).loc main_arg0)) (m ((c.tc : Thread nD τ).loc main_arg1)) (m ((c.tc : Thread nD τ).loc main_arg3)),
    fun c => val_main_v17 (F := Ideal) (m ((c.tc : Thread nD τ).loc main_arg0)) (m ((c.tc : Thread nD τ).loc main_arg1)) (m ((c.tc : Thread nD τ).loc main_arg4)),
    (θ_run _ _ _).mono (fun r h c => ?_) (Cert.Kernel11Ideal.Value.run_blocks m g),
    (θ_run _ _ _).mono (fun r h c => ?_) (Cert.Reference11Ideal.Value.run m' g')⟩
  · obtain ⟨h0, h1, h2, h3, ha⟩ := h c
    exact ⟨h0.trans (fin5 m c), h1.trans (fin6 m c), h2.trans (fin7 m c), h3.trans (fin8 m c), ha⟩
  · obtain ⟨h0, h1, h2, h3, ha⟩ := h c
    obtain ⟨a0, a1, a2, a3, a4⟩ := hagree c
    refine ⟨h0.trans ?_, h1.trans ?_, h2.trans ?_, h3.trans ?_, ha⟩
    · rw [val_main_v6_eq (F := Ideal)]; simp only [a0, a1, a2, a3, a4]
    · rw [val_main_v30_eq (F := Ideal)]; simp only [a0, a1, a2, a3, a4]
    · rw [val_main_v11_eq (F := Ideal)]; simp only [a0, a1, a2, a3, a4]
    · rw [val_main_v17_eq (F := Ideal)]; simp only [a0, a1, a2, a3, a4]

/-- The reference ends without a fault, with its arguments unchanged and its counters at zero. -/
theorem frame_reference : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run m ρ)

end Cert.AdamIn
-- ==== Proof.AdamUp.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamUp

open Cert.Kernel12Ideal Cert.Kernel12Ideal.Gen Cert.Reference12Ideal.Read

variable (m : (ℓ : Loc nD τ sig) → Buf (Elt Ideal) ℓ)

/-- Every window's block index at every grid point. -/
theorem idx : ∀ t : Fin cfg0.N, win0_0.index t = ![0, if t.val < 4 then t.val else 3, 0]
    ∧ win0_1.index t = ![0, if t.val < 4 then 0 else t.val - 4, 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The grid's first axis is the layer. -/
theorem layer : ∀ t : Fin cfg0.N, Scalar.cmpi .eq (BitVec.ofNat 32 (grid0.coords t 0).val) 1#32 = if t.val < 4 then 0#1 else 1#1 :=
  (by decide +kernel : ∀ t : Fin grid0.N, _)

/-- What the body takes for the gradient at a grid point is the sum of the parts of the point's layer. -/
theorem grad (c : Dev nD) (t : Fin cfg0.N) (i : S256x512.Idx) (j : Cert.Reference12Ideal.S2x1024x512.Idx) (h0 : (j 0 : ℕ) = t.val / 4)
    (h1 : (j 1 : ℕ) = t.val % 4 * 256 + i 0) (h2 : (j 2 : ℕ) = i 1) :
    k0_pay10 (F := Ideal) (grid0.coords t) (iblk m c 0 t) (iblk m c 1 t) (iblk m c 2 t) (iblk m c 3 t) (iblk m c 4 t) i
      = val_main_v6 (F := Ideal) (m ((c.tc : Thread nD τ).loc main_arg0)) (m ((c.tc : Thread nD τ).loc main_arg1)) j := by
  have ht : t.val < 8 := lt_of_lt_of_eq t.isLt N_0
  have e := idx t
  unfold k0_pay10
  rw [layer t]
  by_cases h : t.val < 4
  · simp only [if_pos h] at e ⊢
    pointwise [k0_pay3, k0_pay4, val_main_v6, val_main_v4, val_main_v1, val_main_v0, val_main_cst]
    rw [dif_pos (by omega), Fin.sum_univ_eight]
    blk_point [iblk, V, e]
  · simp only [if_neg h] at e ⊢
    pointwise [k0_pay3, k0_pay4, val_main_v6, val_main_v5, val_main_v3, val_main_v2, val_main_cst_0]
    rw [dif_neg (by omega), Fin.sum_univ_eight]
    blk_point [iblk, V, e]

/-- After the last grid point the gradient's array is what the reference computes. -/
theorem fin5 (c : Dev nD) : (dats m 0 c).arrAt 5 (cfgs 0).N
    = val_main_v6 (F := Ideal) (m ((c.tc : Thread nD τ).loc main_arg0)) (m ((c.tc : Thread nD τ).loc main_arg1)) := by
  refine (dats m 0 c).arrAt_eq_of_covers 5 _ (by decide +kernel) fun t hf y => ?_
  blk_simp
  rw [after0_5]
  frame_out
  pointwise [k0_pay8]
  exact grad m c t _ _ (by blk_simp [idx t] <;> try omega) (by blk_simp [idx t] <;> try omega) (by blk_simp [idx t] <;> try omega)

/-- After the last grid point the first moment's array is what the reference computes. -/
theorem fin7 (c : Dev nD) : (dats m 0 c).arrAt 7 (cfgs 0).N
    = val_main_v11 (F := Ideal) (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  have g := grad m c t (ix2 (y 1) (y 2)) (((cfg0.win 7).blk t).view.emb y) (by blk_simp [idx t] <;> try omega)
    (by blk_simp [idx t] <;> try omega) (by blk_simp [idx t] <;> try omega)
  blk_simp
  rw [after0_7]
  frame_out
  pointwise [k0_pay1, k0_pay6, val_main_v11, val_main_v10, val_main_v9, val_main_v8, val_main_v7, val_main_cst_1, val_main_cst_2]
  rw [g]
  blk_point [iblk, V, idx t]

/-- After the last grid point the second moment's array is what the reference computes. -/
theorem fin8 (c : Dev nD) : (dats m 0 c).arrAt 8 (cfgs 0).N
    = val_main_v17 (F := Ideal) (m ((c.tc : Thread nD τ).loc main_arg0)) (m ((c.tc : Thread nD τ).loc main_arg1)) (m ((c.tc : Thread nD τ).loc main_arg4)) := by
  refine (dats m 0 c).arrAt_eq_of_covers 8 _ (by decide +kernel) fun t hf y => ?_
  have g := grad m c t (ix2 (y 1) (y 2)) (((cfg0.win 8).blk t).view.emb y) (by blk_simp [idx t] <;> try omega)
    (by blk_simp [idx t] <;> try omega) (by blk_simp [idx t] <;> try omega)
  blk_simp
  rw [after0_8]
  frame_out
  pointwise [k0_pay2, k0_pay7, val_main_v17, val_main_v16, val_main_v15, val_main_v14, val_main_v13, val_main_v12, val_main_cst_3, val_main_cst_4]
  rw [g]
  blk_point [iblk, V, idx t]

/-- After the last grid point the update's array is what the reference computes. -/
theorem fin6 (c : Dev nD) : (dats m 0 c).arrAt 6 (cfgs 0).N
    = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have g := grad m c t (ix2 (y 1) (y 2)) (((cfg0.win 6).blk t).view.emb y) (by blk_simp [idx t] <;> try omega)
    (by blk_simp [idx t] <;> try omega) (by blk_simp [idx t] <;> try omega)
  blk_simp
  rw [after0_6]
  frame_out
  pointwise [k0_pay9, k0_pay5, k0_pay6, k0_pay7, val_main_v30, val_main_v11, val_main_v10, val_main_v9, val_main_v8, val_main_v7, val_main_cst_1, val_main_cst_2, val_main_v17, val_main_v16, val_main_v15, val_main_v14, val_main_v13, val_main_v12, val_main_cst_3, val_main_cst_4, val_main_v18, val_main_v19, val_main_v20, val_main_v21, val_main_v22, val_main_v23, val_main_v24, val_main_v25, val_main_v26, val_main_v27, val_main_v28, val_main_v29, val_main_cst_5, val_main_cst_6, val_main_cst_7, val_main_cst_8, val_main_cst_9]
  rw [g]
  blk_point [iblk, V, idx t]

/-- The update of w_mlp1 and its reference compute the same arrays over the extended reals. -/
theorem algebraic : Cert.algebraic_Kernel12Ideal_Reference12Ideal := by
  intro m g m' g' _ hagree
  refine ⟨fun c => val_main_v6 (F := Ideal) (m ((c.tc : Thread nD τ).loc main_arg0)) (m ((c.tc : Thread nD τ).loc main_arg1)),
    fun c => val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => val_main_v11 (F := Ideal) (m ((c.tc : Thread nD τ).loc main_arg0)) (m ((c.tc : Thread nD τ).loc main_arg1)) (m ((c.tc : Thread nD τ).loc main_arg3)),
    fun c => val_main_v17 (F := Ideal) (m ((c.tc : Thread nD τ).loc main_arg0)) (m ((c.tc : Thread nD τ).loc main_arg1)) (m ((c.tc : Thread nD τ).loc main_arg4)),
    (θ_run _ _ _).mono (fun r h c => ?_) (Cert.Kernel12Ideal.Value.run_blocks m g),
    (θ_run _ _ _).mono (fun r h c => ?_) (Cert.Reference12Ideal.Value.run m' g')⟩
  · obtain ⟨h0, h1, h2, h3, ha⟩ := h c
    exact ⟨h0.trans (fin5 m c), h1.trans (fin6 m c), h2.trans (fin7 m c), h3.trans (fin8 m c), ha⟩
  · obtain ⟨h0, h1, h2, h3, ha⟩ := h c
    obtain ⟨a0, a1, a2, a3, a4⟩ := hagree c
    refine ⟨h0.trans ?_, h1.trans ?_, h2.trans ?_, h3.trans ?_, ha⟩
    · rw [val_main_v6_eq (F := Ideal)]; simp only [a0, a1, a2, a3, a4]
    · rw [val_main_v30_eq (F := Ideal)]; simp only [a0, a1, a2, a3, a4]
    · rw [val_main_v11_eq (F := Ideal)]; simp only [a0, a1, a2, a3, a4]
    · rw [val_main_v17_eq (F := Ideal)]; simp only [a0, a1, a2, a3, a4]

/-- The reference ends without a fault, with its arguments unchanged and its counters at zero. -/
theorem frame_reference : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run m ρ)

end Cert.AdamUp
-- ==== Proof.AdamDown.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamDown

open Cert.Kernel13Ideal Cert.Kernel13Ideal.Gen Cert.Reference13Ideal.Read

variable (m : (ℓ : Loc nD τ sig) → Buf (Elt Ideal) ℓ)

/-- Every window's block index at every grid point. -/
theorem idx : ∀ t : Fin cfg0.N, win0_0.index t = ![0, if t.val < 2 then t.val else 1, 0]
    ∧ win0_1.index t = ![0, if t.val < 2 then 0 else t.val - 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0] :=
  (by decide +kernel : ∀ t : Fin grid0.N, _)

/-- The grid's first axis is the layer. -/
theorem layer : ∀ t : Fin cfg0.N, Scalar.cmpi .eq (BitVec.ofNat 32 (grid0.coords t 0).val) 1#32 = if t.val < 2 then 0#1 else 1#1 :=
  (by decide +kernel : ∀ t : Fin grid0.N, _)

/-- The first input window's buffer holds whole blocks of the first layer's pack. -/
theorem x0 (c : Dev nD) (t : Fin cfg0.N) (i : S8x256x1024.Idx) (j : S8x896x1024.Idx) (h0 : (j 0 : ℕ) = i 0)
    (h1 : (j 1 : ℕ) = (if t.val < 2 then t.val else 1) * 256 + i 1) (h2 : (j 2 : ℕ) = i 2) :
    X0_0 (F := Ideal) m c t i = m ((c.tc : Thread nD τ).loc main_arg0) j := by
  unfold X0_0 Idealize.ShloMosaic.Pipeline.Window.fill
  rw [dif_pos (moved0_0 t i)]
  blk_point [iblk, V, idx t]

/-- The second input window's buffer holds whole blocks of the second layer's pack. -/
theorem x1 (c : Dev nD) (t : Fin cfg0.N) (i : S8x256x1024.Idx) (j : S8x896x1024.Idx) (h0 : (j 0 : ℕ) = i 0)
    (h1 : (j 1 : ℕ) = (if t.val < 2 then 0 else t.val - 2) * 256 + i 1) (h2 : (j 2 : ℕ) = i 2) :
    X0_1 (F := Ideal) m c t i = m ((c.tc : Thread nD τ).loc main_arg1) j := by
  unfold X0_1 Idealize.ShloMosaic.Pipeline.Window.fill
  rw [dif_pos (moved0_1 t i)]
  blk_point [iblk, V, idx t]

/-- What the body takes for the gradient at a grid point. -/
def taken (c : Dev nD) (t : Fin cfg0.N) : FVec Ideal S256x1024 .f32 :=
  k0_pay4 (F := Ideal) (k0_pay3 (F := Ideal) (View.ld (X0_0 m c t) (Rect.unit ![0, 0, 0] ![1, 256, 1024] inb_S8x256x1024_S1x256x1024_0_0_0)) (View.ld (X0_0 m c t) (Rect.unit ![1, 0, 0] ![1, 256, 1024] inb_S8x256x1024_S1x256x1024_1_0_0)) (View.ld (X0_0 m c t) (Rect.unit ![2, 0, 0] ![1, 256, 1024] inb_S8x256x1024_S1x256x1024_2_0_0)) (View.ld (X0_0 m c t) (Rect.unit ![3, 0, 0] ![1, 256, 1024] inb_S8x256x1024_S1x256x1024_3_0_0)) (View.ld (X0_0 m c t) (Rect.unit ![4, 0, 0] ![1, 256, 1024] inb_S8x256x1024_S1x256x1024_4_0_0)) (View.ld (X0_0 m c t) (Rect.unit ![5, 0, 0] ![1, 256, 1024] inb_S8x256x1024_S1x256x1024_5_0_0)) (View.ld (X0_0 m c t) (Rect.unit ![6, 0, 0] ![1, 256, 1024] inb_S8x256x1024_S1x256x1024_6_0_0)) (View.ld (X0_0 m c t) (Rect.unit ![7, 0, 0] ![1, 256, 1024] inb_S8x256x1024_S1x256x1024_7_0_0)))
    (Scalar.cmpi .eq (BitVec.ofNat 32 (grid0.coords t 0).val) 1#32) (View.ld (X0_1 m c t) (Rect.unit ![0, 0, 0] ![1, 256, 1024] inb_S8x256x1024_S1x256x1024_0_0_0)) (View.ld (X0_1 m c t) (Rect.unit ![1, 0, 0] ![1, 256, 1024] inb_S8x256x1024_S1x256x1024_1_0_0)) (View.ld (X0_1 m c t) (Rect.unit ![2, 0, 0] ![1, 256, 1024] inb_S8x256x1024_S1x256x1024_2_0_0)) (View.ld (X0_1 m c t) (Rect.unit ![3, 0, 0] ![1, 256, 1024] inb_S8x256x1024_S1x256x1024_3_0_0)) (View.ld (X0_1 m c t) (Rect.unit ![4, 0, 0] ![1, 256, 1024] inb_S8x256x1024_S1x256x1024_4_0_0)) (View.ld (X0_1 m c t) (Rect.unit ![5, 0, 0] ![1, 256, 1024] inb_S8x256x1024_S1x256x1024_5_0_0)) (View.ld (X0_1 m c t) (Rect.unit ![6, 0, 0] ![1, 256, 1024] inb_S8x256x1024_S1x256x1024_6_0_0)) (View.ld (X0_1 m c t) (Rect.unit ![7, 0, 0] ![1, 256, 1024] inb_S8x256x1024_S1x256x1024_7_0_0))

/-- What the body takes for the gradient at a grid point is the sum of the parts of the point's layer. -/
theorem grad (c : Dev nD) (t : Fin cfg0.N) (i : S256x1024.Idx) (j : Cert.Reference13Ideal.S2x512x1024.Idx) (h0 : (j 0 : ℕ) = t.val / 2)
    (h1 : (j 1 : ℕ) = t.val % 2 * 256 + i 0) (h2 : (j 2 : ℕ) = i 1) :
    taken m c t i
      = val_main_v8 (F := Ideal) (m ((c.tc : Thread nD τ).loc main_arg0)) (m ((c.tc : Thread nD τ).loc main_arg1)) j := by
  have ht : t.val < 4 := lt_of_lt_of_eq t.isLt N_0
  have e := idx t
  unfold taken
  rw [layer t]
  by_cases h : t.val < 2
  · simp only [if_pos h]
    have q : ∀ k : Fin 8, X0_0 (F := Ideal) m c t (ix3 k (i 0) (i 1)) = m ((c.tc : Thread nD τ).loc main_arg0) (ix3 k ⟨j 1, Nat.lt_of_lt_of_le (j 1).isLt (by decide)⟩ (j 2)) :=
      fun k => x0 m c t _ _ rfl (by rw [if_pos h]; show (j 1 : ℕ) = _; rw [h1]; show _ = _ + (i 0 : ℕ); omega) h2
    pointwise [k0_pay3, k0_pay4, val_main_v8, val_main_v6, val_main_v3, val_main_v2, val_main_v0, val_main_cst]
    rw [dif_pos (by omega), Fin.sum_univ_eight]
    simp only [q]
  · simp only [if_neg h]
    have q : ∀ k : Fin 8, X0_1 (F := Ideal) m c t (ix3 k (i 0) (i 1)) = m ((c.tc : Thread nD τ).loc main_arg1) (ix3 k ⟨j 1, Nat.lt_of_lt_of_le (j 1).isLt (by decide)⟩ (j 2)) :=
      fun k => x1 m c t _ _ rfl (by rw [if_neg h]; show (j 1 : ℕ) = _; rw [h1]; show _ = _ + (i 0 : ℕ); omega) h2
    pointwise [k0_pay3, k0_pay4, val_main_v8, val_main_v7, val_main_v5, val_main_v4, val_main_v1, val_main_cst_0]
    rw [dif_neg (by omega), Fin.sum_univ_eight]
    simp only [q]

/-- After the last grid point the gradient's array is what the reference computes. -/
theorem fin5 (c : Dev nD) : (dats m 0 c).arrAt 5 (cfgs 0).N
    = val_main_v8 (F := Ideal) (m ((c.tc : Thread nD τ).loc main_arg0)) (m ((c.tc : Thread nD τ).loc main_arg1)) := by
  refine (dats m 0 c).arrAt_eq_of_covers 5 _ (by decide +kernel) fun t hf y => ?_
  blk_simp
  rw [after0_5]
  unfold outsAt0
  frame_out
  refine (show _ = k0_pay8 (F := Ideal) (taken m c t) y from rfl).trans ?_
  pointwise [k0_pay8]
  exact grad m c t _ _ (by blk_simp [idx t] <;> try omega) (by blk_simp [idx t] <;> try omega) (by blk_simp [idx t] <;> try omega)

/-- After the last grid point the first moment's array is what the reference computes. -/
theorem fin7 (c : Dev nD) : (dats m 0 c).arrAt 7 (cfgs 0).N
    = val_main_v13 (F := Ideal) (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  have g := grad m c t (ix2 (y 1) (y 2)) (((cfg0.win 7).blk t).view.emb y) (by blk_simp [idx t] <;> try omega)
    (by blk_simp [idx t] <;> try omega) (by blk_simp [idx t] <;> try omega)
  blk_simp
  rw [after0_7]
  unfold outsAt0
  frame_out
  refine (show _ = k0_pay1 (F := Ideal) (k0_pay6 (F := Ideal) (taken m c t) (iblk m c 3 t)) y from rfl).trans ?_
  pointwise [k0_pay1, k0_pay6, val_main_v13, val_main_v12, val_main_v11, val_main_v10, val_main_v9, val_main_cst_1, val_main_cst_2]
  rw [g]
  blk_point [iblk, V, idx t]

/-- After the last grid point the second moment's array is what the reference computes. -/
theorem fin8 (c : Dev nD) : (dats m 0 c).arrAt 8 (cfgs 0).N
    = val_main_v19 (F := Ideal) (m ((c.tc : Thread nD τ).loc main_arg0)) (m ((c.tc : Thread nD τ).loc main_arg1)) (m ((c.tc : Thread nD τ).loc main_arg4)) := by
  refine (dats m 0 c).arrAt_eq_of_covers 8 _ (by decide +kernel) fun t hf y => ?_
  have g := grad m c t (ix2 (y 1) (y 2)) (((cfg0.win 8).blk t).view.emb y) (by blk_simp [idx t] <;> try omega)
    (by blk_simp [idx t] <;> try omega) (by blk_simp [idx t] <;> try omega)
  blk_simp
  rw [after0_8]
  unfold outsAt0
  frame_out
  refine (show _ = k0_pay2 (F := Ideal) (k0_pay7 (F := Ideal) (taken m c t) (iblk m c 4 t)) y from rfl).trans ?_
  pointwise [k0_pay2, k0_pay7, val_main_v19, val_main_v18, val_main_v17, val_main_v16, val_main_v15, val_main_v14, val_main_cst_3, val_main_cst_4]
  rw [g]
  blk_point [iblk, V, idx t]

/-- After the last grid point the update's array is what the reference computes. -/
theorem fin6 (c : Dev nD) : (dats m 0 c).arrAt 6 (cfgs 0).N
    = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have g := grad m c t (ix2 (y 1) (y 2)) (((cfg0.win 6).blk t).view.emb y) (by blk_simp [idx t] <;> try omega)
    (by blk_simp [idx t] <;> try omega) (by blk_simp [idx t] <;> try omega)
  blk_simp
  rw [after0_6]
  unfold outsAt0
  frame_out
  refine (show _ = k0_pay9 (F := Ideal) (taken m c t) (k0_pay5 (F := Ideal) (iblk m c 2 t)) (iblk m c 3 t) (iblk m c 4 t) y from rfl).trans ?_
  pointwise [k0_pay9, k0_pay5, k0_pay6, k0_pay7, val_main_v32, val_main_v13, val_main_v12, val_main_v11, val_main_v10, val_main_v9, val_main_cst_1, val_main_cst_2, val_main_v19, val_main_v18, val_main_v17, val_main_v16, val_main_v15, val_main_v14, val_main_cst_3, val_main_cst_4, val_main_v20, val_main_v21, val_main_v22, val_main_v23, val_main_v24, val_main_v25, val_main_v26, val_main_v27, val_main_v28, val_main_v29, val_main_v30, val_main_v31, val_main_cst_5, val_main_cst_6, val_main_cst_7, val_main_cst_8, val_main_cst_9]
  rw [g]
  blk_point [iblk, V, idx t]

/-- The update of w_mlp2 and its reference compute the same arrays over the extended reals. -/
theorem algebraic : Cert.algebraic_Kernel13Ideal_Reference13Ideal := by
  intro m g m' g' _ hagree
  refine ⟨fun c => val_main_v8 (F := Ideal) (m ((c.tc : Thread nD τ).loc main_arg0)) (m ((c.tc : Thread nD τ).loc main_arg1)),
    fun c => val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => val_main_v13 (F := Ideal) (m ((c.tc : Thread nD τ).loc main_arg0)) (m ((c.tc : Thread nD τ).loc main_arg1)) (m ((c.tc : Thread nD τ).loc main_arg3)),
    fun c => val_main_v19 (F := Ideal) (m ((c.tc : Thread nD τ).loc main_arg0)) (m ((c.tc : Thread nD τ).loc main_arg1)) (m ((c.tc : Thread nD τ).loc main_arg4)),
    (θ_run _ _ _).mono (fun r h c => ?_) (Cert.Kernel13Ideal.Value.run_blocks m g),
    (θ_run _ _ _).mono (fun r h c => ?_) (Cert.Reference13Ideal.Value.run m' g')⟩
  · obtain ⟨h0, h1, h2, h3, ha⟩ := h c
    exact ⟨h0.trans (fin5 m c), h1.trans (fin6 m c), h2.trans (fin7 m c), h3.trans (fin8 m c), ha⟩
  · obtain ⟨h0, h1, h2, h3, ha⟩ := h c
    obtain ⟨a0, a1, a2, a3, a4⟩ := hagree c
    refine ⟨h0.trans ?_, h1.trans ?_, h2.trans ?_, h3.trans ?_, ha⟩
    · rw [val_main_v8_eq (F := Ideal)]; simp only [a0, a1, a2, a3, a4]
    · rw [val_main_v32_eq (F := Ideal)]; simp only [a0, a1, a2, a3, a4]
    · rw [val_main_v13_eq (F := Ideal)]; simp only [a0, a1, a2, a3, a4]
    · rw [val_main_v19_eq (F := Ideal)]; simp only [a0, a1, a2, a3, a4]

/-- The reference ends without a fault, with its arguments unchanged and its counters at zero. -/
theorem frame_reference : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run m ρ)

end Cert.AdamDown
-- ==== Proof.AdamOutA.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOutA

open Cert.Kernel14Ideal Cert.Kernel14Ideal.Gen Cert.Reference14Ideal.Read

variable (m : (ℓ : Loc nD τ sig) → Buf (Elt Ideal) ℓ)

/-- Every window's block index at every grid point. -/
theorem idx : ∀ t : Fin cfg0.N, win0_0.index t = ![0, 4, 0]
    ∧ win0_1.index t = ![0, 4, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

/-- The grid's first axis is the layer. -/
theorem layer : ∀ t : Fin cfg0.N, Scalar.cmpi .eq (BitVec.ofNat 32 (grid0.coords t 0).val) 1#32 = if t.val < 1 then 0#1 else 1#1 :=
  (by decide +kernel : ∀ t : Fin grid0.N, _)

/-- What the body takes for the gradient at a grid point is the sum of the parts of the point's layer. -/
theorem grad (c : Dev nD) (t : Fin cfg0.N) (i : S128x1024.Idx) (j : Cert.Reference14Ideal.S2x128x1024.Idx) (h0 : (j 0 : ℕ) = t.val)
    (h1 : (j 1 : ℕ) = 0 + i 0) (h2 : (j 2 : ℕ) = i 1) :
    k0_pay10 (F := Ideal) (grid0.coords t) (iblk m c 0 t) (iblk m c 1 t) (iblk m c 2 t) (iblk m c 3 t) (iblk m c 4 t) i
      = val_main_v8 (F := Ideal) (m ((c.tc : Thread nD τ).loc main_arg0)) (m ((c.tc : Thread nD τ).loc main_arg1)) j := by
  have ht : t.val < 2 := lt_of_lt_of_eq t.isLt N_0
  have e := idx t
  unfold k0_pay10
  rw [layer t]
  by_cases h : t.val < 1
  · simp only [if_pos h] at e ⊢
    pointwise [k0_pay3, k0_pay4, val_main_v8, val_main_v6, val_main_v3, val_main_v2, val_main_v0, val_main_cst]
    rw [dif_pos (by omega), Fin.sum_univ_eight]
    blk_point [iblk, V, e]
  · simp only [if_neg h] at e ⊢
    pointwise [k0_pay3, k0_pay4, val_main_v8, val_main_v7, val_main_v5, val_main_v4, val_main_v1, val_main_cst_0]
    rw [dif_neg (by omega), Fin.sum_univ_eight]
    blk_point [iblk, V, e]

/-- After the last grid point the gradient's array is what the reference computes. -/
theorem fin5 (c : Dev nD) : (dats m 0 c).arrAt 5 (cfgs 0).N
    = val_main_v8 (F := Ideal) (m ((c.tc : Thread nD τ).loc main_arg0)) (m ((c.tc : Thread nD τ).loc main_arg1)) := by
  refine (dats m 0 c).arrAt_eq_of_covers 5 _ (by decide +kernel) fun t hf y => ?_
  blk_simp
  rw [after0_5]
  frame_out
  pointwise [k0_pay8]
  exact grad m c t _ _ (by blk_simp [idx t] <;> try omega) (by blk_simp [idx t] <;> try omega) (by blk_simp [idx t] <;> try omega)

/-- After the last grid point the first moment's array is what the reference computes. -/
theorem fin7 (c : Dev nD) : (dats m 0 c).arrAt 7 (cfgs 0).N
    = val_main_v13 (F := Ideal) (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  have g := grad m c t (ix2 (y 1) (y 2)) (((cfg0.win 7).blk t).view.emb y) (by blk_simp [idx t] <;> try omega)
    (by blk_simp [idx t] <;> try omega) (by blk_simp [idx t] <;> try omega)
  blk_simp
  rw [after0_7]
  frame_out
  pointwise [k0_pay1, k0_pay6, val_main_v13, val_main_v12, val_main_v11, val_main_v10, val_main_v9, val_main_cst_1, val_main_cst_2]
  rw [g]
  blk_point [iblk, V, idx t]

/-- After the last grid point the second moment's array is what the reference computes. -/
theorem fin8 (c : Dev nD) : (dats m 0 c).arrAt 8 (cfgs 0).N
    = val_main_v19 (F := Ideal) (m ((c.tc : Thread nD τ).loc main_arg0)) (m ((c.tc : Thread nD τ).loc main_arg1)) (m ((c.tc : Thread nD τ).loc main_arg4)) := by
  refine (dats m 0 c).arrAt_eq_of_covers 8 _ (by decide +kernel) fun t hf y => ?_
  have g := grad m c t (ix2 (y 1) (y 2)) (((cfg0.win 8).blk t).view.emb y) (by blk_simp [idx t] <;> try omega)
    (by blk_simp [idx t] <;> try omega) (by blk_simp [idx t] <;> try omega)
  blk_simp
  rw [after0_8]
  frame_out
  pointwise [k0_pay2, k0_pay7, val_main_v19, val_main_v18, val_main_v17, val_main_v16, val_main_v15, val_main_v14, val_main_cst_3, val_main_cst_4]
  rw [g]
  blk_point [iblk, V, idx t]

/-- After the last grid point the update's array is what the reference computes. -/
theorem fin6 (c : Dev nD) : (dats m 0 c).arrAt 6 (cfgs 0).N
    = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have g := grad m c t (ix2 (y 1) (y 2)) (((cfg0.win 6).blk t).view.emb y) (by blk_simp [idx t] <;> try omega)
    (by blk_simp [idx t] <;> try omega) (by blk_simp [idx t] <;> try omega)
  blk_simp
  rw [after0_6]
  frame_out
  pointwise [k0_pay9, k0_pay5, k0_pay6, k0_pay7, val_main_v32, val_main_v13, val_main_v12, val_main_v11, val_main_v10, val_main_v9, val_main_cst_1, val_main_cst_2, val_main_v19, val_main_v18, val_main_v17, val_main_v16, val_main_v15, val_main_v14, val_main_cst_3, val_main_cst_4, val_main_v20, val_main_v21, val_main_v22, val_main_v23, val_main_v24, val_main_v25, val_main_v26, val_main_v27, val_main_v28, val_main_v29, val_main_v30, val_main_v31, val_main_cst_5, val_main_cst_6, val_main_cst_7, val_main_cst_8, val_main_cst_9]
  rw [g]
  blk_point [iblk, V, idx t]

/-- The update of w_out_a and its reference compute the same arrays over the extended reals. -/
theorem algebraic : Cert.algebraic_Kernel14Ideal_Reference14Ideal := by
  intro m g m' g' _ hagree
  refine ⟨fun c => val_main_v8 (F := Ideal) (m ((c.tc : Thread nD τ).loc main_arg0)) (m ((c.tc : Thread nD τ).loc main_arg1)),
    fun c => val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => val_main_v13 (F := Ideal) (m ((c.tc : Thread nD τ).loc main_arg0)) (m ((c.tc : Thread nD τ).loc main_arg1)) (m ((c.tc : Thread nD τ).loc main_arg3)),
    fun c => val_main_v19 (F := Ideal) (m ((c.tc : Thread nD τ).loc main_arg0)) (m ((c.tc : Thread nD τ).loc main_arg1)) (m ((c.tc : Thread nD τ).loc main_arg4)),
    (θ_run _ _ _).mono (fun r h c => ?_) (Cert.Kernel14Ideal.Value.run_blocks m g),
    (θ_run _ _ _).mono (fun r h c => ?_) (Cert.Reference14Ideal.Value.run m' g')⟩
  · obtain ⟨h0, h1, h2, h3, ha⟩ := h c
    exact ⟨h0.trans (fin5 m c), h1.trans (fin6 m c), h2.trans (fin7 m c), h3.trans (fin8 m c), ha⟩
  · obtain ⟨h0, h1, h2, h3, ha⟩ := h c
    obtain ⟨a0, a1, a2, a3, a4⟩ := hagree c
    refine ⟨h0.trans ?_, h1.trans ?_, h2.trans ?_, h3.trans ?_, ha⟩
    · rw [val_main_v8_eq (F := Ideal)]; simp only [a0, a1, a2, a3, a4]
    · rw [val_main_v32_eq (F := Ideal)]; simp only [a0, a1, a2, a3, a4]
    · rw [val_main_v13_eq (F := Ideal)]; simp only [a0, a1, a2, a3, a4]
    · rw [val_main_v19_eq (F := Ideal)]; simp only [a0, a1, a2, a3, a4]

/-- The reference ends without a fault, with its arguments unchanged and its counters at zero. -/
theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run m ρ)

end Cert.AdamOutA
-- ==== Proof.AdamOutB.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOutB

open Cert.Kernel15Ideal Cert.Kernel15Ideal.Gen Cert.Reference15Ideal.Read

variable (m : (ℓ : Loc nD τ sig) → Buf (Elt Ideal) ℓ)

/-- Every window's block index at every grid point. -/
theorem idx : ∀ t : Fin cfg0.N, win0_0.index t = ![0, 5, 0]
    ∧ win0_1.index t = ![0, 5, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

/-- The grid's first axis is the layer. -/
theorem layer : ∀ t : Fin cfg0.N, Scalar.cmpi .eq (BitVec.ofNat 32 (grid0.coords t 0).val) 1#32 = if t.val < 1 then 0#1 else 1#1 :=
  (by decide +kernel : ∀ t : Fin grid0.N, _)

/-- What the body takes for the gradient at a grid point is the sum of the parts of the point's layer. -/
theorem grad (c : Dev nD) (t : Fin cfg0.N) (i : S128x1024.Idx) (j : Cert.Reference15Ideal.S2x128x1024.Idx) (h0 : (j 0 : ℕ) = t.val)
    (h1 : (j 1 : ℕ) = 0 + i 0) (h2 : (j 2 : ℕ) = i 1) :
    k0_pay10 (F := Ideal) (grid0.coords t) (iblk m c 0 t) (iblk m c 1 t) (iblk m c 2 t) (iblk m c 3 t) (iblk m c 4 t) i
      = val_main_v8 (F := Ideal) (m ((c.tc : Thread nD τ).loc main_arg0)) (m ((c.tc : Thread nD τ).loc main_arg1)) j := by
  have ht : t.val < 2 := lt_of_lt_of_eq t.isLt N_0
  have e := idx t
  unfold k0_pay10
  rw [layer t]
  by_cases h : t.val < 1
  · simp only [if_pos h] at e ⊢
    pointwise [k0_pay3, k0_pay4, val_main_v8, val_main_v6, val_main_v3, val_main_v2, val_main_v0, val_main_cst]
    rw [dif_pos (by omega), Fin.sum_univ_eight]
    blk_point [iblk, V, e]
  · simp only [if_neg h] at e ⊢
    pointwise [k0_pay3, k0_pay4, val_main_v8, val_main_v7, val_main_v5, val_main_v4, val_main_v1, val_main_cst_0]
    rw [dif_neg (by omega), Fin.sum_univ_eight]
    blk_point [iblk, V, e]

/-- After the last grid point the gradient's array is what the reference computes. -/
theorem fin5 (c : Dev nD) : (dats m 0 c).arrAt 5 (cfgs 0).N
    = val_main_v8 (F := Ideal) (m ((c.tc : Thread nD τ).loc main_arg0)) (m ((c.tc : Thread nD τ).loc main_arg1)) := by
  refine (dats m 0 c).arrAt_eq_of_covers 5 _ (by decide +kernel) fun t hf y => ?_
  blk_simp
  rw [after0_5]
  frame_out
  pointwise [k0_pay8]
  exact grad m c t _ _ (by blk_simp [idx t] <;> try omega) (by blk_simp [idx t] <;> try omega) (by blk_simp [idx t] <;> try omega)

/-- After the last grid point the first moment's array is what the reference computes. -/
theorem fin7 (c : Dev nD) : (dats m 0 c).arrAt 7 (cfgs 0).N
    = val_main_v13 (F := Ideal) (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  have g := grad m c t (ix2 (y 1) (y 2)) (((cfg0.win 7).blk t).view.emb y) (by blk_simp [idx t] <;> try omega)
    (by blk_simp [idx t] <;> try omega) (by blk_simp [idx t] <;> try omega)
  blk_simp
  rw [after0_7]
  frame_out
  pointwise [k0_pay1, k0_pay6, val_main_v13, val_main_v12, val_main_v11, val_main_v10, val_main_v9, val_main_cst_1, val_main_cst_2]
  rw [g]
  blk_point [iblk, V, idx t]

/-- After the last grid point the second moment's array is what the reference computes. -/
theorem fin8 (c : Dev nD) : (dats m 0 c).arrAt 8 (cfgs 0).N
    = val_main_v19 (F := Ideal) (m ((c.tc : Thread nD τ).loc main_arg0)) (m ((c.tc : Thread nD τ).loc main_arg1)) (m ((c.tc : Thread nD τ).loc main_arg4)) := by
  refine (dats m 0 c).arrAt_eq_of_covers 8 _ (by decide +kernel) fun t hf y => ?_
  have g := grad m c t (ix2 (y 1) (y 2)) (((cfg0.win 8).blk t).view.emb y) (by blk_simp [idx t] <;> try omega)
    (by blk_simp [idx t] <;> try omega) (by blk_simp [idx t] <;> try omega)
  blk_simp
  rw [after0_8]
  frame_out
  pointwise [k0_pay2, k0_pay7, val_main_v19, val_main_v18, val_main_v17, val_main_v16, val_main_v15, val_main_v14, val_main_cst_3, val_main_cst_4]
  rw [g]
  blk_point [iblk, V, idx t]

/-- After the last grid point the update's array is what the reference computes. -/
theorem fin6 (c : Dev nD) : (dats m 0 c).arrAt 6 (cfgs 0).N
    = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have g := grad m c t (ix2 (y 1) (y 2)) (((cfg0.win 6).blk t).view.emb y) (by blk_simp [idx t] <;> try omega)
    (by blk_simp [idx t] <;> try omega) (by blk_simp [idx t] <;> try omega)
  blk_simp
  rw [after0_6]
  frame_out
  pointwise [k0_pay9, k0_pay5, k0_pay6, k0_pay7, val_main_v32, val_main_v13, val_main_v12, val_main_v11, val_main_v10, val_main_v9, val_main_cst_1, val_main_cst_2, val_main_v19, val_main_v18, val_main_v17, val_main_v16, val_main_v15, val_main_v14, val_main_cst_3, val_main_cst_4, val_main_v20, val_main_v21, val_main_v22, val_main_v23, val_main_v24, val_main_v25, val_main_v26, val_main_v27, val_main_v28, val_main_v29, val_main_v30, val_main_v31, val_main_cst_5, val_main_cst_6, val_main_cst_7, val_main_cst_8, val_main_cst_9]
  rw [g]
  blk_point [iblk, V, idx t]

/-- The update of w_out_b and its reference compute the same arrays over the extended reals. -/
theorem algebraic : Cert.algebraic_Kernel15Ideal_Reference15Ideal := by
  intro m g m' g' _ hagree
  refine ⟨fun c => val_main_v8 (F := Ideal) (m ((c.tc : Thread nD τ).loc main_arg0)) (m ((c.tc : Thread nD τ).loc main_arg1)),
    fun c => val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => val_main_v13 (F := Ideal) (m ((c.tc : Thread nD τ).loc main_arg0)) (m ((c.tc : Thread nD τ).loc main_arg1)) (m ((c.tc : Thread nD τ).loc main_arg3)),
    fun c => val_main_v19 (F := Ideal) (m ((c.tc : Thread nD τ).loc main_arg0)) (m ((c.tc : Thread nD τ).loc main_arg1)) (m ((c.tc : Thread nD τ).loc main_arg4)),
    (θ_run _ _ _).mono (fun r h c => ?_) (Cert.Kernel15Ideal.Value.run_blocks m g),
    (θ_run _ _ _).mono (fun r h c => ?_) (Cert.Reference15Ideal.Value.run m' g')⟩
  · obtain ⟨h0, h1, h2, h3, ha⟩ := h c
    exact ⟨h0.trans (fin5 m c), h1.trans (fin6 m c), h2.trans (fin7 m c), h3.trans (fin8 m c), ha⟩
  · obtain ⟨h0, h1, h2, h3, ha⟩ := h c
    obtain ⟨a0, a1, a2, a3, a4⟩ := hagree c
    refine ⟨h0.trans ?_, h1.trans ?_, h2.trans ?_, h3.trans ?_, ha⟩
    · rw [val_main_v8_eq (F := Ideal)]; simp only [a0, a1, a2, a3, a4]
    · rw [val_main_v32_eq (F := Ideal)]; simp only [a0, a1, a2, a3, a4]
    · rw [val_main_v13_eq (F := Ideal)]; simp only [a0, a1, a2, a3, a4]
    · rw [val_main_v19_eq (F := Ideal)]; simp only [a0, a1, a2, a3, a4]

/-- The reference ends without a fault, with its arguments unchanged and its counters at zero. -/
theorem frame_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run m ρ)

end Cert.AdamOutB
-- ==== Proof.AdamO.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamO

open Cert.Kernel16Ideal Cert.Kernel16Ideal.Gen Cert.Reference16Ideal.Read

variable (m : (ℓ : Loc nD τ sig) → Buf (Elt Ideal) ℓ)

/-- Every window's block index at every grid point. -/
theorem idx : ∀ t : Fin cfg0.N, win0_0.index t = ![0, 6, 0]
    ∧ win0_1.index t = ![0, 6, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

/-- The grid's first axis is the layer. -/
theorem layer : ∀ t : Fin cfg0.N, Scalar.cmpi .eq (BitVec.ofNat 32 (grid0.coords t 0).val) 1#32 = if t.val < 1 then 0#1 else 1#1 :=
  (by decide +kernel : ∀ t : Fin grid0.N, _)

/-- What the body takes for the gradient at a grid point is the sum of the parts of the point's layer. -/
theorem grad (c : Dev nD) (t : Fin cfg0.N) (i : S128x1024.Idx) (j : Cert.Reference16Ideal.S2x128x1024.Idx) (h0 : (j 0 : ℕ) = t.val)
    (h1 : (j 1 : ℕ) = 0 + i 0) (h2 : (j 2 : ℕ) = i 1) :
    k0_pay10 (F := Ideal) (grid0.coords t) (iblk m c 0 t) (iblk m c 1 t) (iblk m c 2 t) (iblk m c 3 t) (iblk m c 4 t) i
      = val_main_v8 (F := Ideal) (m ((c.tc : Thread nD τ).loc main_arg0)) (m ((c.tc : Thread nD τ).loc main_arg1)) j := by
  have ht : t.val < 2 := lt_of_lt_of_eq t.isLt N_0
  have e := idx t
  unfold k0_pay10
  rw [layer t]
  by_cases h : t.val < 1
  · simp only [if_pos h] at e ⊢
    pointwise [k0_pay3, k0_pay4, val_main_v8, val_main_v6, val_main_v3, val_main_v2, val_main_v0, val_main_cst]
    rw [dif_pos (by omega), Fin.sum_univ_eight]
    blk_point [iblk, V, e]
  · simp only [if_neg h] at e ⊢
    pointwise [k0_pay3, k0_pay4, val_main_v8, val_main_v7, val_main_v5, val_main_v4, val_main_v1, val_main_cst_0]
    rw [dif_neg (by omega), Fin.sum_univ_eight]
    blk_point [iblk, V, e]

/-- After the last grid point the gradient's array is what the reference computes. -/
theorem fin5 (c : Dev nD) : (dats m 0 c).arrAt 5 (cfgs 0).N
    = val_main_v8 (F := Ideal) (m ((c.tc : Thread nD τ).loc main_arg0)) (m ((c.tc : Thread nD τ).loc main_arg1)) := by
  refine (dats m 0 c).arrAt_eq_of_covers 5 _ (by decide +kernel) fun t hf y => ?_
  blk_simp
  rw [after0_5]
  frame_out
  pointwise [k0_pay8]
  exact grad m c t _ _ (by blk_simp [idx t] <;> try omega) (by blk_simp [idx t] <;> try omega) (by blk_simp [idx t] <;> try omega)

/-- After the last grid point the first moment's array is what the reference computes. -/
theorem fin7 (c : Dev nD) : (dats m 0 c).arrAt 7 (cfgs 0).N
    = val_main_v13 (F := Ideal) (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  have g := grad m c t (ix2 (y 1) (y 2)) (((cfg0.win 7).blk t).view.emb y) (by blk_simp [idx t] <;> try omega)
    (by blk_simp [idx t] <;> try omega) (by blk_simp [idx t] <;> try omega)
  blk_simp
  rw [after0_7]
  frame_out
  pointwise [k0_pay1, k0_pay6, val_main_v13, val_main_v12, val_main_v11, val_main_v10, val_main_v9, val_main_cst_1, val_main_cst_2]
  rw [g]
  blk_point [iblk, V, idx t]

/-- After the last grid point the second moment's array is what the reference computes. -/
theorem fin8 (c : Dev nD) : (dats m 0 c).arrAt 8 (cfgs 0).N
    = val_main_v19 (F := Ideal) (m ((c.tc : Thread nD τ).loc main_arg0)) (m ((c.tc : Thread nD τ).loc main_arg1)) (m ((c.tc : Thread nD τ).loc main_arg4)) := by
  refine (dats m 0 c).arrAt_eq_of_covers 8 _ (by decide +kernel) fun t hf y => ?_
  have g := grad m c t (ix2 (y 1) (y 2)) (((cfg0.win 8).blk t).view.emb y) (by blk_simp [idx t] <;> try omega)
    (by blk_simp [idx t] <;> try omega) (by blk_simp [idx t] <;> try omega)
  blk_simp
  rw [after0_8]
  frame_out
  pointwise [k0_pay2, k0_pay7, val_main_v19, val_main_v18, val_main_v17, val_main_v16, val_main_v15, val_main_v14, val_main_cst_3, val_main_cst_4]
  rw [g]
  blk_point [iblk, V, idx t]

/-- After the last grid point the update's array is what the reference computes. -/
theorem fin6 (c : Dev nD) : (dats m 0 c).arrAt 6 (cfgs 0).N
    = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have g := grad m c t (ix2 (y 1) (y 2)) (((cfg0.win 6).blk t).view.emb y) (by blk_simp [idx t] <;> try omega)
    (by blk_simp [idx t] <;> try omega) (by blk_simp [idx t] <;> try omega)
  blk_simp
  rw [after0_6]
  frame_out
  pointwise [k0_pay9, k0_pay5, k0_pay6, k0_pay7, val_main_v32, val_main_v13, val_main_v12, val_main_v11, val_main_v10, val_main_v9, val_main_cst_1, val_main_cst_2, val_main_v19, val_main_v18, val_main_v17, val_main_v16, val_main_v15, val_main_v14, val_main_cst_3, val_main_cst_4, val_main_v20, val_main_v21, val_main_v22, val_main_v23, val_main_v24, val_main_v25, val_main_v26, val_main_v27, val_main_v28, val_main_v29, val_main_v30, val_main_v31, val_main_cst_5, val_main_cst_6, val_main_cst_7, val_main_cst_8, val_main_cst_9]
  rw [g]
  blk_point [iblk, V, idx t]

/-- The update of w_o and its reference compute the same arrays over the extended reals. -/
theorem algebraic : Cert.algebraic_Kernel16Ideal_Reference16Ideal := by
  intro m g m' g' _ hagree
  refine ⟨fun c => val_main_v8 (F := Ideal) (m ((c.tc : Thread nD τ).loc main_arg0)) (m ((c.tc : Thread nD τ).loc main_arg1)),
    fun c => val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => val_main_v13 (F := Ideal) (m ((c.tc : Thread nD τ).loc main_arg0)) (m ((c.tc : Thread nD τ).loc main_arg1)) (m ((c.tc : Thread nD τ).loc main_arg3)),
    fun c => val_main_v19 (F := Ideal) (m ((c.tc : Thread nD τ).loc main_arg0)) (m ((c.tc : Thread nD τ).loc main_arg1)) (m ((c.tc : Thread nD τ).loc main_arg4)),
    (θ_run _ _ _).mono (fun r h c => ?_) (Cert.Kernel16Ideal.Value.run_blocks m g),
    (θ_run _ _ _).mono (fun r h c => ?_) (Cert.Reference16Ideal.Value.run m' g')⟩
  · obtain ⟨h0, h1, h2, h3, ha⟩ := h c
    exact ⟨h0.trans (fin5 m c), h1.trans (fin6 m c), h2.trans (fin7 m c), h3.trans (fin8 m c), ha⟩
  · obtain ⟨h0, h1, h2, h3, ha⟩ := h c
    obtain ⟨a0, a1, a2, a3, a4⟩ := hagree c
    refine ⟨h0.trans ?_, h1.trans ?_, h2.trans ?_, h3.trans ?_, ha⟩
    · rw [val_main_v8_eq (F := Ideal)]; simp only [a0, a1, a2, a3, a4]
    · rw [val_main_v32_eq (F := Ideal)]; simp only [a0, a1, a2, a3, a4]
    · rw [val_main_v13_eq (F := Ideal)]; simp only [a0, a1, a2, a3, a4]
    · rw [val_main_v19_eq (F := Ideal)]; simp only [a0, a1, a2, a3, a4]

/-- The reference ends without a fault, with its arguments unchanged and its counters at zero. -/
theorem frame_reference : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run m ρ)

end Cert.AdamO
-- ==== Proof.AdamPool.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamPool

open Cert.Kernel17Ideal Cert.Kernel17Ideal.Gen Cert.Reference17Ideal.Read

variable (m : (ℓ : Loc nD τ sig) → Buf (Elt Ideal) ℓ)

/-- Every window's block index at every grid point. -/
theorem idx : ∀ t : Fin cfg0.N, win0_0.index t = ![0, 0, 0, 0]
    ∧ win0_1.index t = ![0, 0, 0, 0]
    ∧ win0_2.index t = ![t.val, 0, 0, 0]
    ∧ win0_3.index t = ![t.val, 0, 0, 0]
    ∧ win0_4.index t = ![t.val, 0, 0, 0]
    ∧ win0_5.index t = ![t.val, 0, 0, 0]
    ∧ win0_6.index t = ![t.val, 0, 0, 0]
    ∧ win0_7.index t = ![t.val, 0, 0, 0]
    ∧ win0_8.index t = ![t.val, 0, 0, 0] :=
  (by decide +kernel : ∀ t : Fin grid0.N, _)

/-- The grid's first axis is the layer. -/
theorem layer : ∀ t : Fin cfg0.N, Scalar.cmpi .eq (BitVec.ofNat 32 (grid0.coords t 0).val) 1#32 = if t.val < 1 then 0#1 else 1#1 :=
  (by decide +kernel : ∀ t : Fin grid0.N, _)

/-- What the body takes for the gradient at a grid point is the sum of the parts of the point's layer. -/
theorem grad (c : Dev nD) (t : Fin cfg0.N) (i : S4x32x256.Idx) (j : Cert.Reference17Ideal.S2x4x32x256.Idx) (h0 : (j 0 : ℕ) = t.val)
    (h1 : (j 1 : ℕ) = i 0) (h2 : (j 2 : ℕ) = i 1) (h3 : (j 3 : ℕ) = i 2) :
    (k0_pay9 (F := Ideal) (k0_pay13 (F := Ideal) (grid0.coords t) (iblk m c 0 t) (iblk m c 1 t) (iblk m c 2 t) (iblk m c 3 t) (iblk m c 4 t)) (Scalar.cmpi .eq (BitVec.ofNat 32 (grid0.coords t 0).val) 1#32) (k0_pay14 (F := Ideal) (grid0.coords t) (iblk m c 0 t) (iblk m c 1 t) (iblk m c 2 t) (iblk m c 3 t) (iblk m c 4 t)) (k0_pay15 (F := Ideal) (grid0.coords t) (iblk m c 0 t) (iblk m c 1 t) (iblk m c 2 t) (iblk m c 3 t) (iblk m c 4 t)) (View.ld (iblk m c 1 t) r0_7)) i
      = val_main_v6 (F := Ideal) (m ((c.tc : Thread nD τ).loc main_arg0)) (m ((c.tc : Thread nD τ).loc main_arg1)) j := by
  have ht : t.val < 2 := lt_of_lt_of_eq t.isLt N_0
  have e := idx t
  rw [layer t]
  by_cases h : t.val < 1
  · simp only [if_pos h] at e ⊢
    pointwise [k0_pay5, k0_pay6, k0_pay7, k0_pay8, k0_pay9, k0_pay13, k0_pay14, k0_pay15, val_main_v6, val_main_v4, val_main_v1, val_main_v0, val_main_cst]
    rw [dif_pos (by omega), Fin.sum_univ_eight]
    blk_point [iblk, V, e]
  · simp only [if_neg h] at e ⊢
    pointwise [k0_pay5, k0_pay6, k0_pay7, k0_pay8, k0_pay9, k0_pay13, k0_pay14, k0_pay15, val_main_v6, val_main_v5, val_main_v3, val_main_v2, val_main_cst_0]
    rw [dif_neg (by omega), Fin.sum_univ_eight]
    blk_point [iblk, V, e]

/-- After the last grid point the gradient's array is what the reference computes. -/
theorem fin5 (c : Dev nD) : (dats m 0 c).arrAt 5 (cfgs 0).N
    = val_main_v6 (F := Ideal) (m ((c.tc : Thread nD τ).loc main_arg0)) (m ((c.tc : Thread nD τ).loc main_arg1)) := by
  refine (dats m 0 c).arrAt_eq_of_covers 5 _ (by decide +kernel) fun t hf y => ?_
  blk_simp
  rw [after0_5]
  frame_out
  pointwise [k0_pay1]
  exact grad m c t _ _ (by blk_simp [idx t] <;> try omega) (by blk_simp [idx t] <;> try omega) (by blk_simp [idx t] <;> try omega) (by blk_simp [idx t] <;> try omega)

/-- After the last grid point the first moment's array is what the reference computes. -/
theorem fin7 (c : Dev nD) : (dats m 0 c).arrAt 7 (cfgs 0).N
    = val_main_v11 (F := Ideal) (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  have g := grad m c t (ix3 (y 1) (y 2) (y 3)) (((cfg0.win 7).blk t).view.emb y) (by blk_simp [idx t] <;> try omega)
    (by blk_simp [idx t] <;> try omega) (by blk_simp [idx t] <;> try omega) (by blk_simp [idx t] <;> try omega)
  blk_simp
  rw [after0_7]
  frame_out
  pointwise [k0_pay3, k0_pay10, val_main_v11, val_main_v10, val_main_v9, val_main_v8, val_main_v7, val_main_cst_1, val_main_cst_2]
  erw [g]
  blk_point [iblk, V, idx t]

/-- After the last grid point the second moment's array is what the reference computes. -/
theorem fin8 (c : Dev nD) : (dats m 0 c).arrAt 8 (cfgs 0).N
    = val_main_v17 (F := Ideal) (m ((c.tc : Thread nD τ).loc main_arg0)) (m ((c.tc : Thread nD τ).loc main_arg1)) (m ((c.tc : Thread nD τ).loc main_arg4)) := by
  refine (dats m 0 c).arrAt_eq_of_covers 8 _ (by decide +kernel) fun t hf y => ?_
  have g := grad m c t (ix3 (y 1) (y 2) (y 3)) (((cfg0.win 8).blk t).view.emb y) (by blk_simp [idx t] <;> try omega)
    (by blk_simp [idx t] <;> try omega) (by blk_simp [idx t] <;> try omega) (by blk_simp [idx t] <;> try omega)
  blk_simp
  rw [after0_8]
  frame_out
  pointwise [k0_pay4, k0_pay11, val_main_v17, val_main_v16, val_main_v15, val_main_v14, val_main_v13, val_main_v12, val_main_cst_3, val_main_cst_4]
  erw [g]
  blk_point [iblk, V, idx t]

/-- After the last grid point the update's array is what the reference computes. -/
theorem fin6 (c : Dev nD) : (dats m 0 c).arrAt 6 (cfgs 0).N
    = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have g := grad m c t (ix3 (y 1) (y 2) (y 3)) (((cfg0.win 6).blk t).view.emb y) (by blk_simp [idx t] <;> try omega)
    (by blk_simp [idx t] <;> try omega) (by blk_simp [idx t] <;> try omega) (by blk_simp [idx t] <;> try omega)
  blk_simp
  rw [after0_6]
  frame_out
  pointwise [k0_pay2, k0_pay12, k0_pay10, k0_pay11, val_main_v30, val_main_v11, val_main_v10, val_main_v9, val_main_v8, val_main_v7, val_main_cst_1, val_main_cst_2, val_main_v17, val_main_v16, val_main_v15, val_main_v14, val_main_v13, val_main_v12, val_main_cst_3, val_main_cst_4, val_main_v18, val_main_v19, val_main_v20, val_main_v21, val_main_v22, val_main_v23, val_main_v24, val_main_v25, val_main_v26, val_main_v27, val_main_v28, val_main_v29, val_main_cst_5, val_main_cst_6, val_main_cst_7, val_main_cst_8, val_main_cst_9]
  erw [g]
  blk_point [iblk, V, idx t]

/-- The update of w_pool and its reference compute the same arrays over the extended reals. -/
theorem algebraic : Cert.algebraic_Kernel17Ideal_Reference17Ideal := by
  intro m g m' g' _ hagree
  refine ⟨fun c => val_main_v6 (F := Ideal) (m ((c.tc : Thread nD τ).loc main_arg0)) (m ((c.tc : Thread nD τ).loc main_arg1)),
    fun c => val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => val_main_v11 (F := Ideal) (m ((c.tc : Thread nD τ).loc main_arg0)) (m ((c.tc : Thread nD τ).loc main_arg1)) (m ((c.tc : Thread nD τ).loc main_arg3)),
    fun c => val_main_v17 (F := Ideal) (m ((c.tc : Thread nD τ).loc main_arg0)) (m ((c.tc : Thread nD τ).loc main_arg1)) (m ((c.tc : Thread nD τ).loc main_arg4)),
    (θ_run _ _ _).mono (fun r h c => ?_) (Cert.Kernel17Ideal.Value.run_blocks m g),
    (θ_run _ _ _).mono (fun r h c => ?_) (Cert.Reference17Ideal.Value.run m' g')⟩
  · obtain ⟨h0, h1, h2, h3, ha⟩ := h c
    exact ⟨h0.trans (fin5 m c), h1.trans (fin6 m c), h2.trans (fin7 m c), h3.trans (fin8 m c), ha⟩
  · obtain ⟨h0, h1, h2, h3, ha⟩ := h c
    obtain ⟨a0, a1, a2, a3, a4⟩ := hagree c
    refine ⟨h0.trans ?_, h1.trans ?_, h2.trans ?_, h3.trans ?_, ha⟩
    · rw [val_main_v6_eq (F := Ideal)]; simp only [a0, a1, a2, a3, a4]
    · rw [val_main_v30_eq (F := Ideal)]; simp only [a0, a1, a2, a3, a4]
    · rw [val_main_v11_eq (F := Ideal)]; simp only [a0, a1, a2, a3, a4]
    · rw [val_main_v17_eq (F := Ideal)]; simp only [a0, a1, a2, a3, a4]

/-- The reference ends without a fault, with its arguments unchanged and its counters at zero. -/
theorem frame_reference : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run m ρ)

end Cert.AdamPool
-- ==== Proof.AdamConvA.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamConvA

open Cert.Kernel18Ideal Cert.Kernel18Ideal.Gen Cert.Reference18Ideal.Read

variable (m : (ℓ : Loc nD τ sig) → Buf (Elt Ideal) ℓ)

/-- Every window's block index at the one grid point. -/
theorem idx : ∀ t : Fin cfg0.N, win0_0.index t = ![0, 0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0]
    ∧ win0_7.index t = ![0, 0, 0] :=
  (by decide +kernel : ∀ t : Fin cfg0.N, _)

/-- The gradient's array after the call is what the reference computes. -/
theorem fin4 (c : Dev nD) : (dats m 0 c).arrAt 4 (cfgs 0).N = (m ((c.tc : Thread nD τ).loc main_arg0)) := by
  refine (dats m 0 c).arrAt_eq_of_after_last 4 t0_0 (by decide +kernel) _ fun j => ?_
  blk_simp
  rw [after0_4]
  frame_out
  pointwise [k0_pay1]
  blk_point [iblk, V, idx t0_0]

/-- The first moment's array after the call is what the reference computes. -/
theorem fin6 (c : Dev nD) : (dats m 0 c).arrAt 6 (cfgs 0).N = val_main_v4 (F := Ideal) (m ((c.tc : Thread nD τ).loc main_arg0)) (m ((c.tc : Thread nD τ).loc main_arg2)) := by
  refine (dats m 0 c).arrAt_eq_of_after_last 6 t0_0 (by decide +kernel) _ fun j => ?_
  blk_simp
  rw [after0_6]
  frame_out
  pointwise [k0_pay1, k0_pay2, val_main_v4, val_main_v3, val_main_v2, val_main_v1, val_main_v0, val_main_cst, val_main_cst_0]
  blk_point [iblk, V, idx t0_0]

/-- The second moment's array after the call is what the reference computes. -/
theorem fin7 (c : Dev nD) : (dats m 0 c).arrAt 7 (cfgs 0).N = val_main_v10 (F := Ideal) (m ((c.tc : Thread nD τ).loc main_arg0)) (m ((c.tc : Thread nD τ).loc main_arg3)) := by
  refine (dats m 0 c).arrAt_eq_of_after_last 7 t0_0 (by decide +kernel) _ fun j => ?_
  blk_simp
  rw [after0_7]
  frame_out
  pointwise [k0_pay1, k0_pay3, val_main_v10, val_main_v9, val_main_v8, val_main_v7, val_main_v6, val_main_v5, val_main_cst_1, val_main_cst_2]
  blk_point [iblk, V, idx t0_0]

/-- The update's array after the call is what the reference computes. -/
theorem fin5 (c : Dev nD) : (dats m 0 c).arrAt 5 (cfgs 0).N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_after_last 5 t0_0 (by decide +kernel) _ fun j => ?_
  blk_simp
  rw [after0_5]
  frame_out
  pointwise [k0_pay1, k0_pay2, k0_pay3, k0_pay4, val_main_v23, val_main_v4, val_main_v3, val_main_v2, val_main_v1, val_main_v0, val_main_cst, val_main_cst_0, val_main_v10, val_main_v9, val_main_v8, val_main_v7, val_main_v6, val_main_v5, val_main_cst_1, val_main_cst_2, val_main_v11, val_main_v12, val_main_v13, val_main_v14, val_main_v15, val_main_v16, val_main_v17, val_main_v18, val_main_v19, val_main_v20, val_main_v21, val_main_v22, val_main_cst_3, val_main_cst_4, val_main_cst_5, val_main_cst_6, val_main_cst_7]
  blk_point [iblk, V, idx t0_0]

/-- The update of conv_a and its reference compute the same arrays over the extended reals. -/
theorem algebraic : Cert.algebraic_Kernel18Ideal_Reference18Ideal := by
  intro m g m' g' _ hagree
  refine ⟨fun c => (m ((c.tc : Thread nD τ).loc main_arg0)),
    fun c => val_main_v23 (F := Ideal) (m ((c.tc : Thread nD τ).loc main_arg0)) (m ((c.tc : Thread nD τ).loc main_arg1)) (m ((c.tc : Thread nD τ).loc main_arg2)) (m ((c.tc : Thread nD τ).loc main_arg3)),
    fun c => val_main_v4 (F := Ideal) (m ((c.tc : Thread nD τ).loc main_arg0)) (m ((c.tc : Thread nD τ).loc main_arg2)),
    fun c => val_main_v10 (F := Ideal) (m ((c.tc : Thread nD τ).loc main_arg0)) (m ((c.tc : Thread nD τ).loc main_arg3)),
    (θ_run _ _ _).mono (fun r h c => ?_) (Cert.Kernel18Ideal.Value.run_blocks m g),
    (θ_run _ _ _).mono (fun r h c => ?_) (Cert.Reference18Ideal.Value.run m' g')⟩
  · obtain ⟨h0, h1, h2, h3, ha⟩ := h c
    exact ⟨h0.trans (fin4 m c), h1.trans (fin5 m c), h2.trans (fin6 m c), h3.trans (fin7 m c), ha⟩
  · obtain ⟨h0, h1, h2, h3, ha⟩ := h c
    obtain ⟨a0, a1, a2, a3⟩ := hagree c
    refine ⟨h0.trans ?_, h1.trans ?_, h2.trans ?_, h3.trans ?_, ha⟩
    · simp only [a0, a1, a2, a3]
    · rw [val_main_v23_eq (F := Ideal)]; simp only [a0, a1, a2, a3]
    · rw [val_main_v4_eq (F := Ideal)]; simp only [a0, a1, a2, a3]
    · rw [val_main_v10_eq (F := Ideal)]; simp only [a0, a1, a2, a3]

/-- The reference ends without a fault, with its arguments unchanged and its counters at zero. -/
theorem frame_reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run m ρ)

end Cert.AdamConvA
-- ==== Proof.AdamConvB.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamConvB

open Cert.Kernel19Ideal Cert.Kernel19Ideal.Gen Cert.Reference19Ideal.Read

variable (m : (ℓ : Loc nD τ sig) → Buf (Elt Ideal) ℓ)

/-- Every window's block index at the one grid point. -/
theorem idx : ∀ t : Fin cfg0.N, win0_0.index t = ![0, 0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0]
    ∧ win0_7.index t = ![0, 0, 0] :=
  (by decide +kernel : ∀ t : Fin cfg0.N, _)

/-- The gradient's array after the call is what the reference computes. -/
theorem fin4 (c : Dev nD) : (dats m 0 c).arrAt 4 (cfgs 0).N = (m ((c.tc : Thread nD τ).loc main_arg0)) := by
  refine (dats m 0 c).arrAt_eq_of_after_last 4 t0_0 (by decide +kernel) _ fun j => ?_
  blk_simp
  rw [after0_4]
  frame_out
  pointwise [k0_pay1]
  blk_point [iblk, V, idx t0_0]

/-- The first moment's array after the call is what the reference computes. -/
theorem fin6 (c : Dev nD) : (dats m 0 c).arrAt 6 (cfgs 0).N = val_main_v4 (F := Ideal) (m ((c.tc : Thread nD τ).loc main_arg0)) (m ((c.tc : Thread nD τ).loc main_arg2)) := by
  refine (dats m 0 c).arrAt_eq_of_after_last 6 t0_0 (by decide +kernel) _ fun j => ?_
  blk_simp
  rw [after0_6]
  frame_out
  pointwise [k0_pay1, k0_pay2, val_main_v4, val_main_v3, val_main_v2, val_main_v1, val_main_v0, val_main_cst, val_main_cst_0]
  blk_point [iblk, V, idx t0_0]

/-- The second moment's array after the call is what the reference computes. -/
theorem fin7 (c : Dev nD) : (dats m 0 c).arrAt 7 (cfgs 0).N = val_main_v10 (F := Ideal) (m ((c.tc : Thread nD τ).loc main_arg0)) (m ((c.tc : Thread nD τ).loc main_arg3)) := by
  refine (dats m 0 c).arrAt_eq_of_after_last 7 t0_0 (by decide +kernel) _ fun j => ?_
  blk_simp
  rw [after0_7]
  frame_out
  pointwise [k0_pay1, k0_pay3, val_main_v10, val_main_v9, val_main_v8, val_main_v7, val_main_v6, val_main_v5, val_main_cst_1, val_main_cst_2]
  blk_point [iblk, V, idx t0_0]

/-- The update's array after the call is what the reference computes. -/
theorem fin5 (c : Dev nD) : (dats m 0 c).arrAt 5 (cfgs 0).N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_after_last 5 t0_0 (by decide +kernel) _ fun j => ?_
  blk_simp
  rw [after0_5]
  frame_out
  pointwise [k0_pay1, k0_pay2, k0_pay3, k0_pay4, val_main_v23, val_main_v4, val_main_v3, val_main_v2, val_main_v1, val_main_v0, val_main_cst, val_main_cst_0, val_main_v10, val_main_v9, val_main_v8, val_main_v7, val_main_v6, val_main_v5, val_main_cst_1, val_main_cst_2, val_main_v11, val_main_v12, val_main_v13, val_main_v14, val_main_v15, val_main_v16, val_main_v17, val_main_v18, val_main_v19, val_main_v20, val_main_v21, val_main_v22, val_main_cst_3, val_main_cst_4, val_main_cst_5, val_main_cst_6, val_main_cst_7]
  blk_point [iblk, V, idx t0_0]

/-- The update of conv_b and its reference compute the same arrays over the extended reals. -/
theorem algebraic : Cert.algebraic_Kernel19Ideal_Reference19Ideal := by
  intro m g m' g' _ hagree
  refine ⟨fun c => (m ((c.tc : Thread nD τ).loc main_arg0)),
    fun c => val_main_v23 (F := Ideal) (m ((c.tc : Thread nD τ).loc main_arg0)) (m ((c.tc : Thread nD τ).loc main_arg1)) (m ((c.tc : Thread nD τ).loc main_arg2)) (m ((c.tc : Thread nD τ).loc main_arg3)),
    fun c => val_main_v4 (F := Ideal) (m ((c.tc : Thread nD τ).loc main_arg0)) (m ((c.tc : Thread nD τ).loc main_arg2)),
    fun c => val_main_v10 (F := Ideal) (m ((c.tc : Thread nD τ).loc main_arg0)) (m ((c.tc : Thread nD τ).loc main_arg3)),
    (θ_run _ _ _).mono (fun r h c => ?_) (Cert.Kernel19Ideal.Value.run_blocks m g),
    (θ_run _ _ _).mono (fun r h c => ?_) (Cert.Reference19Ideal.Value.run m' g')⟩
  · obtain ⟨h0, h1, h2, h3, ha⟩ := h c
    exact ⟨h0.trans (fin4 m c), h1.trans (fin5 m c), h2.trans (fin6 m c), h3.trans (fin7 m c), ha⟩
  · obtain ⟨h0, h1, h2, h3, ha⟩ := h c
    obtain ⟨a0, a1, a2, a3⟩ := hagree c
    refine ⟨h0.trans ?_, h1.trans ?_, h2.trans ?_, h3.trans ?_, ha⟩
    · simp only [a0, a1, a2, a3]
    · rw [val_main_v23_eq (F := Ideal)]; simp only [a0, a1, a2, a3]
    · rw [val_main_v4_eq (F := Ideal)]; simp only [a0, a1, a2, a3]
    · rw [val_main_v10_eq (F := Ideal)]; simp only [a0, a1, a2, a3]

/-- The reference ends without a fault, with its arguments unchanged and its counters at zero. -/
theorem frame_reference : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run m ρ)

end Cert.AdamConvB
-- ==== Proof.LossTile.lean ====
/-
  The loss over all devices, run: each device takes its rows in sixteen tiles, keeps the sum of the
  squares and of the gain's gradient in two scratch buffers, and writes both out after the last tile;
  the losses of the devices are then added by an all-reduce.
-/
module

public import proofs.«01_k».proof.Proof.Gen.Kernel20Ideal.Launch
public import proofs.«01_k».proof.Proof.Gen.Kernel20Ideal.Skeleton
public import proofs.«01_k».proof.Proof.Gen.Kernel20Ideal.Points
public import Idealize.ShloMosaic.Lib.Pipeline.FrameBody
public import Idealize.ShloMosaic.Lib.Pipeline.RegionArrays
public import Idealize.ShloMosaic.Lib.Pipeline.ValueKit
public import Idealize.ShloMosaic.Lib.Tactic
public import Idealize.ShloMosaic.Lib.VecWindow
public import Idealize.ShloMosaic.Lib.WordCmp

@[expose] public section

noncomputable section

namespace Cert.LossRun

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

abbrev UU : Type := UR sig nD τ × Sites.UC

local notation "𝕄" => MT nD τ sig ℕ (Elt F) ℕ UU ℕ

/-! ## One tile -/

/-- The tile is the first one. -/
abbrev First (i : grid0.Coords) : Prop :=
  Scalar.cmpi .ne (Scalar.extui (Scalar.cmpi .eq (BitVec.ofNat 32 (i 0).val) 0#32)) 0#32 = 1#1
/-- The tile is a later one. -/
abbrev Later (i : grid0.Coords) : Prop :=
  Scalar.cmpi .ne (Scalar.extui (Scalar.cmpi .sgt (BitVec.ofNat 32 (i 0).val) 0#32)) 0#32 = 1#1
/-- The tile is the last one. -/
abbrev Last (i : grid0.Coords) : Prop := k0_cond3 i = 1#1

theorem first_iff : ∀ t : Fin cfg0.N, First (grid0.coords t) ↔ t.val = 0 :=
  (by decide +kernel : ∀ t : Fin grid0.N, First (grid0.coords t) ↔ t.val = 0)
theorem later_iff : ∀ t : Fin cfg0.N, Later (grid0.coords t) ↔ ¬t.val = 0 :=
  (by decide +kernel : ∀ t : Fin grid0.N, Later (grid0.coords t) ↔ ¬t.val = 0)
theorem last_iff : ∀ t : Fin cfg0.N, Last (grid0.coords t) ↔ t.val = 15 :=
  (by decide +kernel : ∀ t : Fin grid0.N, Last (grid0.coords t) ↔ t.val = 15)

section Tile

variable (x : Vec F S512x1024 .f32) (g : Vec F S1x1024 .f32) (y : Vec F S512x1024 .f32)

/-- The gradient of a tile's rows. -/
def dxOf : FVec F S512x1024 .f32 := k0_pay1 (k0_pay6 x) (k0_pay7 x) (k0_pay16 x g y g) (k0_pay17 x g y g)
/-- The same, narrowed. -/
def dx16Of : FVec F S512x1024 .bf16 := k0_pay2 (k0_pay6 x) (k0_pay7 x) (k0_pay16 x g y g) (k0_pay17 x g y g)

end Tile

set_option maxHeartbeats 4000000 in
/-- The body on one tile: the two gradients are written, the sums start or grow (`a`, `b`), and the last
    tile writes them out. -/
theorem tile (c : Dev nD) (i : grid0.Coords)
    (arg1 : Memref sig .tc .vmem S512x1024 .f32) (h1 : arg1.IsWhole) (arg2 : Memref sig .tc .vmem S1x1024 .f32) (h2 : arg2.IsWhole)
    (arg3 : Memref sig .tc .vmem S512x1024 .f32) (h3 : arg3.IsWhole) (arg4 : Memref sig .tc .vmem S1x1 .f32) (h4 : arg4.IsWhole)
    (arg5 : Memref sig .tc .vmem S512x1024 .f32) (h5 : arg5.IsWhole) (arg6 : Memref sig .tc .vmem S512x1024 .bf16) (h6 : arg6.IsWhole)
    (arg7 : Memref sig .tc .vmem S1x1024 .f32) (h7 : arg7.IsWhole) (arg8 : Memref sig .tc .vmem S8x1024 .f32) (h8 : arg8.IsWhole)
    (arg9 : Memref sig .tc .vmem S8x1024 .f32) (h9 : arg9.IsWhole)
    (x : Vec F S512x1024 .f32) (g : Vec F S1x1024 .f32) (y : Vec F S512x1024 .f32)
    (o4 o4' : Vec F S1x1 .f32) (o7 o7' : Vec F S1x1024 .f32) (s r a b : Vec F S8x1024 .f32)
    (hcase : (First i ∧ ¬Later i ∧ ¬Last i ∧ a = k0_pay12 x g y ∧ b = k0_pay13 x g y ∧ o4' = o4 ∧ o7' = o7)
      ∨ (¬First i ∧ Later i ∧ ¬Last i ∧ a = k0_pay14 x g y s ∧ b = k0_pay15 x g y r ∧ o4' = o4 ∧ o7' = o7)
      ∨ (¬First i ∧ Later i ∧ Last i ∧ a = k0_pay14 x g y s ∧ b = k0_pay15 x g y r ∧ o4' = k0_pay3 a ∧ o7' = k0_pay4 b))
    (K : PUnit → sProp 𝕄) :
    iprop(owns (c : Thread nD τ) arg1 fullShare x ∗ owns (c : Thread nD τ) arg2 fullShare g ∗ owns (c : Thread nD τ) arg3 fullShare y
        ∗ owns (c : Thread nD τ) arg4 fullShare o4 ∗ (∃ d, owns (c : Thread nD τ) arg5 fullShare d) ∗ (∃ d, owns (c : Thread nD τ) arg6 fullShare d)
        ∗ owns (c : Thread nD τ) arg7 fullShare o7 ∗ owns (c : Thread nD τ) arg8 fullShare s ∗ owns (c : Thread nD τ) arg9 fullShare r
        ∗ (iprop(owns (c : Thread nD τ) arg1 fullShare x ∗ owns (c : Thread nD τ) arg2 fullShare g ∗ owns (c : Thread nD τ) arg3 fullShare y
            ∗ owns (c : Thread nD τ) arg4 fullShare o4' ∗ owns (c : Thread nD τ) arg5 fullShare (dxOf x g y) ∗ owns (c : Thread nD τ) arg6 fullShare (dx16Of x g y)
            ∗ owns (c : Thread nD τ) arg7 fullShare o7' ∗ owns (c : Thread nD τ) arg8 fullShare a ∗ owns (c : Thread nD τ) arg9 fullShare b) -∗ K ⟨⟩))
      ⊢ wp frame (wpE (defs₀ (F := F)) Variants.none c none) Set.univ (cc0_loss_head i arg1 h1 arg2 h2 arg3 h3 arg4 h4 arg5 h5 arg6 h6 arg7 h7 arg8 h8 arg9 h9) K := by
  simp only [cc0_loss_head_eq_skeleton]; unfold cc0_loss_head_skel
  simp only [k0_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  obtain rfl := h1.eq_unread hf1; obtain rfl := h2.eq_unread hf2; obtain rfl := h3.eq_unread hf3; obtain rfl := h4.eq_unread hf4
  obtain rfl := h7.eq_unread hf7; obtain rfl := h8.eq_unread hf8; obtain rfl := h9.eq_unread hf9
  rcases hcase with ⟨c0, c1, c2, rfl, rfl, rfl, rfl⟩ | ⟨c0, c1, c2, rfl, rfl, rfl, rfl⟩ | ⟨c0, c1, c2, rfl, rfl, rfl, rfl⟩
  all_goals
    sl_exec (disch := first | sl_exact c0 | sl_exact c1 | sl_exact c2)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; swap; · iexact H4
      ipureintro
      first | exact h4.read_unread _ | (frame_out; exact View.read_writes_full _ _ _ _ _)
    isplitl [H5]
    · iexists _; isplitr; swap; · iexact H5
      ipureintro
      unfold dxOf; frame_out; exact View.read_writes_full _ _ _ _ _
    isplitl [H6]
    · iexists _; isplitr; swap; · iexact H6
      ipureintro
      unfold dx16Of; frame_out; exact View.read_writes_full _ _ _ _ _
    isplitl [H7]
    · iexists _; isplitr; swap; · iexact H7
      ipureintro
      first | exact h7.read_unread _ | (frame_out; exact View.read_writes_full _ _ _ _ _)
    isplitl [H8]
    · iexists _; isplitr; swap; · iexact H8
      ipureintro
      frame_out; exact View.read_writes_full _ _ _ _ _
    iexists _; isplitr; swap; · iexact H9
    ipureintro
    frame_out; exact View.read_writes_full _ _ _ _ _

end Cert.LossRun

end
-- ==== Proof.LossBody.lean ====
/-
  The loss's pipeline on one device: what the two running sums hold after each tile, and the body at every
  tile (LossTile's one lemma at the tile's blocks).
-/
module

public import proofs.«01_k».proof.Proof.LossTile

@[expose] public section

noncomputable section

namespace Cert.LossRun

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The tiles and the running sums -/

/-- Device `c`'s tile of the activation, -/
def xt (c : Dev nD) (t : Fin cfg0.N) : Vec F S512x1024 .f32 :=
  ((cfg0.win 0).blk t).view.read (Elt F) (m ((cfg0.win 0).arr.view.loc (c : Thread nD τ)))
/-- the gain -/
def gt (c : Dev nD) (t : Fin cfg0.N) : Vec F S1x1024 .f32 :=
  ((cfg0.win 1).blk t).view.read (Elt F) (m ((cfg0.win 1).arr.view.loc (c : Thread nD τ)))
/-- and the tile of the target. -/
def yt (c : Dev nD) (t : Fin cfg0.N) : Vec F S512x1024 .f32 :=
  ((cfg0.win 2).blk t).view.read (Elt F) (m ((cfg0.win 2).arr.view.loc (c : Thread nD τ)))

/-- The squares' sum after tile `n`, -/
def sq (c : Dev nD) : (n : ℕ) → n < cfg0.N → Vec F S8x1024 .f32
  | 0, h => k0_pay12 (xt m c ⟨0, h⟩) (gt m c ⟨0, h⟩) (yt m c ⟨0, h⟩)
  | n + 1, h => k0_pay14 (xt m c ⟨n + 1, h⟩) (gt m c ⟨n + 1, h⟩) (yt m c ⟨n + 1, h⟩) (sq c n (Nat.lt_of_succ_lt h))
/-- and the gain's gradient. -/
def dg (c : Dev nD) : (n : ℕ) → n < cfg0.N → Vec F S8x1024 .f32
  | 0, h => k0_pay13 (xt m c ⟨0, h⟩) (gt m c ⟨0, h⟩) (yt m c ⟨0, h⟩)
  | n + 1, h => k0_pay15 (xt m c ⟨n + 1, h⟩) (gt m c ⟨n + 1, h⟩) (yt m c ⟨n + 1, h⟩) (dg c n (Nat.lt_of_succ_lt h))

/-- Between the tiles the two scratch buffers hold the sums so far. -/
def inv (c : Dev nD) : (n : ℕ) → n ≤ cfg0.N → sProp 𝕄
  | 0, _ => Pipeline.scopedRest spec0 c
  | n + 1, h => iprop(owns (c : Thread nD τ) (Memref.whole cc0_scratch0) fullShare (sq m c n h)
      ∗ owns (c : Thread nD τ) (Memref.whole cc0_scratch1) fullShare (dg m c n h))

/-- The pipeline's data. -/
def dat (c : Dev nD) : Dat τ (Elt F) ℕ ℕ UU ℕ cfg0 c where
  A w := m ((cfg0.win w).arr.view.loc (c : Thread nD τ))
  after w t := match w with
    | ⟨0, _⟩ => xt m c t
    | ⟨1, _⟩ => gt m c t
    | ⟨2, _⟩ => yt m c t
    | ⟨3, _⟩ => k0_pay3 (sq m c t.val t.isLt)
    | ⟨4, _⟩ => dxOf (xt m c t) (gt m c t) (yt m c t)
    | ⟨5, _⟩ => dx16Of (xt m c t) (gt m c t) (yt m c t)
    | ⟨6, _⟩ => k0_pay4 (dg m c t.val t.isLt)
  Φ t := inv m c t.val (Nat.le_of_lt_succ t.isLt)
  q _ := fullShare
  owed _ := Sites.O0 (F := F) c

theorem before_x (c : Dev nD) (t : Fin cfg0.N) (d) : (dat m c).before 0 t d = xt m c t :=
  ((dat m c).before_in_eq_fetched 0 rfl (fun _ => rfl) (fun _ _ _ => rfl) (fun t => rfl) t d).trans rfl
theorem before_g (c : Dev nD) (t : Fin cfg0.N) (d) : (dat m c).before 1 t d = gt m c t :=
  ((dat m c).before_in_eq_fetched 1 rfl (fun _ => rfl) (fun _ _ _ => rfl) (fun t => rfl) t d).trans rfl
theorem before_y (c : Dev nD) (t : Fin cfg0.N) (d) : (dat m c).before 2 t d = yt m c t :=
  ((dat m c).before_in_eq_fetched 2 rfl (fun _ => rfl) (fun _ _ _ => rfl) (fun t => rfl) t d).trans rfl

/-! ## The two outputs that only the last tile writes -/

theorem idle3 : ∀ t : Fin cfg0.N, ¬t.val = 15 → cfg0.idle 3 (grid0.coords t) = true :=
  (by decide +kernel : ∀ t : Fin grid0.N, ¬t.val = 15 → idle0 3 (grid0.coords t) = true)
theorem live3 : ∀ t : Fin cfg0.N, t.val = 15 → cfg0.idle 3 (grid0.coords t) = false :=
  (by decide +kernel : ∀ t : Fin grid0.N, t.val = 15 → idle0 3 (grid0.coords t) = false)
theorem idle6 : ∀ t : Fin cfg0.N, ¬t.val = 15 → cfg0.idle 6 (grid0.coords t) = true := idle3
theorem live6 : ∀ t : Fin cfg0.N, t.val = 15 → cfg0.idle 6 (grid0.coords t) = false := live3

theorem lt16 (t : Fin cfg0.N) : t.val < 16 := lt_of_lt_of_eq t.isLt (show cfg0.N = 16 from N_0)

theorem quiet3 (t : Fin cfg0.N) (h : ¬t.val = 15) : (cfg0.win 3).flush t = false := by
  rw [← Bool.not_eq_true, flush0_3]; have := lt16 t; omega
theorem quiet6 (t : Fin cfg0.N) (h : ¬t.val = 15) : (cfg0.win 6).flush t = false := by
  rw [← Bool.not_eq_true, flush0_6]; have := lt16 t; omega

theorem leaves3 (c : Dev nD) (t : Fin cfg0.N) (d) :
    owns (c : Thread nD τ) (st0_3 t) fullShare (if t.val = 15 then k0_pay3 (sq m c t.val t.isLt) else (dat m c).before 3 t d)
      ⊢ ((dat m c).leavesExact 3 t : sProp 𝕄) := by
  split_ifs with h
  · unfold Dat.leavesExact; rw [live3 t h]; exact .rfl
  · rw [Dat.leavesExact_idle _ 3 t (idle3 t h) (quiet3 t h)]
    iintro H; iexists d; iexact H
theorem leaves6 (c : Dev nD) (t : Fin cfg0.N) (d) :
    owns (c : Thread nD τ) (st0_6 t) fullShare (if t.val = 15 then k0_pay4 (dg m c t.val t.isLt) else (dat m c).before 6 t d)
      ⊢ ((dat m c).leavesExact 6 t : sProp 𝕄) := by
  split_ifs with h
  · unfold Dat.leavesExact; rw [live6 t h]; exact .rfl
  · rw [Dat.leavesExact_idle _ 6 t (idle6 t h) (quiet6 t h)]
    iintro H; iexists d; iexact H

/-! ## The sums from tile to tile -/

/-- What the scratch buffers hold before a tile: the sums of the tiles before it. -/
theorem inv_open (c : Dev nD) (n : ℕ) (h : n ≤ cfg0.N) :
    inv m c n h ⊢ iprop(∃ s r, ⌜∀ k hk, n = k + 1 → s = sq m c k hk ∧ r = dg m c k hk⌝
      ∗ owns (c : Thread nD τ) (Memref.whole cc0_scratch0) fullShare s ∗ owns (c : Thread nD τ) (Memref.whole cc0_scratch1) fullShare r) := by
  cases n with
  | zero =>
    unfold inv; rw [scopedRest0_eq]; simp only [owns_whole]
    iintro ⟨⟨%s, Hs⟩, ⟨%r, Hr⟩⟩
    iexists s; iexists r
    isplitr; · ipureintro; exact fun k hk e => absurd e (by omega)
    isplitl [Hs] <;> iassumption
  | succ n =>
    unfold inv
    iintro ⟨Hs, Hr⟩
    iexists sq m c n h; iexists dg m c n h
    isplitr; · ipureintro; intro k hk e; obtain rfl : n = k := by omega
               exact ⟨rfl, rfl⟩
    isplitl [Hs] <;> iassumption

/-- The tile's case, with the sums it leaves. -/
theorem cases (c : Dev nD) (t : Fin cfg0.N) (s r : Vec F S8x1024 .f32) (o4 : Vec F S1x1 .f32) (o7 : Vec F S1x1024 .f32)
    (h : ∀ k hk, t.val = k + 1 → s = sq m c k hk ∧ r = dg m c k hk) :
    (First (grid0.coords t) ∧ ¬Later (grid0.coords t) ∧ ¬Last (grid0.coords t) ∧ sq m c t.val t.isLt = k0_pay12 (xt m c t) (gt m c t) (yt m c t) ∧ dg m c t.val t.isLt = k0_pay13 (xt m c t) (gt m c t) (yt m c t)
        ∧ (if t.val = 15 then k0_pay3 (sq m c t.val t.isLt) else o4) = o4 ∧ (if t.val = 15 then k0_pay4 (dg m c t.val t.isLt) else o7) = o7)
      ∨ (¬First (grid0.coords t) ∧ Later (grid0.coords t) ∧ ¬Last (grid0.coords t) ∧ sq m c t.val t.isLt = k0_pay14 (xt m c t) (gt m c t) (yt m c t) s ∧ dg m c t.val t.isLt = k0_pay15 (xt m c t) (gt m c t) (yt m c t) r
        ∧ (if t.val = 15 then k0_pay3 (sq m c t.val t.isLt) else o4) = o4 ∧ (if t.val = 15 then k0_pay4 (dg m c t.val t.isLt) else o7) = o7)
      ∨ (¬First (grid0.coords t) ∧ Later (grid0.coords t) ∧ Last (grid0.coords t) ∧ sq m c t.val t.isLt = k0_pay14 (xt m c t) (gt m c t) (yt m c t) s ∧ dg m c t.val t.isLt = k0_pay15 (xt m c t) (gt m c t) (yt m c t) r
        ∧ (if t.val = 15 then k0_pay3 (sq m c t.val t.isLt) else o4) = k0_pay3 (sq m c t.val t.isLt)
        ∧ (if t.val = 15 then k0_pay4 (dg m c t.val t.isLt) else o7) = k0_pay4 (dg m c t.val t.isLt)) := by
  rw [first_iff, later_iff, last_iff]
  obtain ⟨n, hn⟩ := t
  cases n with
  | zero => exact .inl ⟨rfl, fun h => h rfl, fun h => by simp at h, rfl, rfl, if_neg (by simp), if_neg (by simp)⟩
  | succ n =>
    obtain ⟨rfl, rfl⟩ := h n (Nat.lt_of_succ_lt hn) rfl
    by_cases h15 : n + 1 = 15
    · exact .inr (.inr ⟨by simp, by simp, h15, rfl, rfl, if_pos h15, if_pos h15⟩)
    · exact .inr (.inl ⟨by simp, by simp, h15, rfl, rfl, if_neg h15, if_neg h15⟩)

/-! ## The body at a tile -/

/-- What the body is called with at tile `t` -/
def bodyPre (c : Dev nD) (t : Fin cfg0.N) : sProp 𝕄 :=
  iprop((dat m c).Φ t.castSucc ∗ (dat m c).owesAt 0 t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d)))
/-- and what it returns. -/
def bodyPost (c : Dev nD) (t : Fin cfg0.N) : sProp 𝕄 :=
  iprop((dat m c).Φ t.succ ∗ (dat m c).owesAt 0 t.succ
    ∗ (dat m c).leavesExact 0 t ∗ (dat m c).leavesExact 1 t ∗ (dat m c).leavesExact 2 t ∗ (dat m c).leavesExact 3 t
    ∗ (dat m c).leavesExact 4 t ∗ (dat m c).leavesExact 5 t ∗ (dat m c).leavesExact 6 t)

theorem leaves0 (c : Dev nD) (t : Fin cfg0.N) :
    ((dat m c).leavesExact 0 t : sProp 𝕄) = owns (c : Thread nD τ) (st0_0 t) fullShare (xt m c t) := rfl
theorem leaves1 (c : Dev nD) (t : Fin cfg0.N) :
    ((dat m c).leavesExact 1 t : sProp 𝕄) = owns (c : Thread nD τ) (st0_1 t) fullShare (gt m c t) := rfl
theorem leaves2 (c : Dev nD) (t : Fin cfg0.N) :
    ((dat m c).leavesExact 2 t : sProp 𝕄) = owns (c : Thread nD τ) (st0_2 t) fullShare (yt m c t) := rfl
theorem leaves4 (c : Dev nD) (t : Fin cfg0.N) :
    ((dat m c).leavesExact 4 t : sProp 𝕄) = owns (c : Thread nD τ) (st0_4 t) fullShare (dxOf (xt m c t) (gt m c t) (yt m c t)) := rfl
theorem leaves5 (c : Dev nD) (t : Fin cfg0.N) :
    ((dat m c).leavesExact 5 t : sProp 𝕄) = owns (c : Thread nD τ) (st0_5 t) fullShare (dx16Of (xt m c t) (gt m c t) (yt m c t)) := rfl

theorem body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_g, before_y, leaves0, leaves1, leaves2, leaves4, leaves5]
  rw [show (dat m c).owesAt 0 t.succ = (dat m c).owesAt 0 t.castSucc from rfl,
    show (dat m c).Φ t.castSucc = inv m c t.val (Nat.le_of_lt t.isLt) from rfl,
    show (dat m c).Φ t.succ = iprop(owns (c : Thread nD τ) (Memref.whole cc0_scratch0) fullShare (sq m c t.val t.isLt)
      ∗ owns (c : Thread nD τ) (Memref.whole cc0_scratch1) fullShare (dg m c t.val t.isLt)) from rfl]
  iintro ⟨Hi, Ho, ⟨%d0, H0⟩, ⟨%d1, H1⟩, ⟨%d2, H2⟩, ⟨%d3, H3⟩, ⟨%d4, H4⟩, ⟨%d5, H5⟩, ⟨%d6, H6⟩⟩
  ihave Hj := (inv_open m c t.val (Nat.le_of_lt t.isLt)) $$ Hi
  icases Hj with ⟨%s, %r, %hs, Hs, Hr⟩
  iapply (tile c (grid0.coords t) (st0_0 t) _ (st0_1 t) _ (st0_2 t) _ (st0_3 t) _ (st0_4 t) _ (st0_5 t) _ (st0_6 t) _
    (Memref.whole cc0_scratch0) _ (Memref.whole cc0_scratch1) _ (xt m c t) (gt m c t) (yt m c t)
    ((dat m c).before 3 t d3) (if t.val = 15 then k0_pay3 (sq m c t.val t.isLt) else (dat m c).before 3 t d3)
    ((dat m c).before 6 t d6) (if t.val = 15 then k0_pay4 (dg m c t.val t.isLt) else (dat m c).before 6 t d6)
    s r (sq m c t.val t.isLt) (dg m c t.val t.isLt) (cases m c t s r _ _ hs) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [Hs]; · iexact Hs
  isplitl [Hr]; · iexact Hr
  iintro ⟨H0, H1, H2, H3, H4, H5, H6, Hs, Hr⟩
  isplitl [Hs Hr]; · isplitl [Hs] <;> iassumption
  isplitl [Ho]; · iexact Ho
  isplitl [H0]; · iexact H0
  isplitl [H1]; · iexact H1
  isplitl [H2]; · iexact H2
  isplitl [H3]; · iapply (leaves3 m c t d3); iexact H3
  isplitl [H4]; · iexact H4
  isplitl [H5]; · iexact H5
  iapply (leaves6 m c t d6); iexact H6

theorem row (t : Fin cfg0.N) : defs₀ (F := F) .tc cfg0.body (cfg0.bodyArgs t (cfg0.slots t)) = bodyAt0 t := by
  unfold defs₀; rw [Defs.onTc_tc]

/-- The body at every tile. -/
theorem obligation (c : Dev nD) : BodyObligation (dat (F := F) m c) (defs₀ (F := F)) Variants.none 0 Set.univ := fun t => by
  rw [bigSep_W0, bigSep_W0, row]
  exact triple_restated (body m c t) rfl .rfl fun _ => .rfl

end Cert.LossRun

end
-- ==== Proof.LossRun.lean ====
/-
  The loss over all devices, run: on each device the pipeline (LossBody), the reshape of its one number, and
  the all-reduce that adds the devices' numbers. Every run ends, the counters at zero, with each unscoped
  buffer at what the three statements leave (`V2`).
-/
module

public import proofs.«01_k».proof.Proof.LossBody
public import Idealize.ShloMosaic.Lib.Pipeline.CollectiveSegs

@[expose] public section

noncomputable section

namespace Cert.LossRun

open Cert.Kernel20Ideal Cert.Kernel20Ideal.Gen
open Cert.Kernel20Ideal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m
abbrev 𝒱₀ : Variants := Variants.none

local notation "ℍ" => Pipeline.HostSeg (Ix := ℕ) (Name := ℕ) (U := UU) (Lvl := ℕ) (pcfgs (F := F)) defs₀ 𝒱₀ L lv
local notation "ℝ𝕊" => Pipeline.RegionSeg (pcfgs (F := F)) adm (pdats m) 0 defs₀ 𝒱₀ L lv

/-! ## The buffers after each statement -/

/-- What output `w` of the pipeline holds at its end. -/
abbrev out (c : Dev nD) (w : Fin cfg0.W) : Buf (Elt F) ((cfg0.win w).arr.view.loc (c : Thread nD τ)) := (dat m c).arrAt w cfg0.N

/-- Device `c`'s buffers at the start, -/
def V (c : Dev nD) : Valuation τ sig (Elt F) := fun b => m ((c : Dev nD), b)
/-- after the pipeline, -/
def V0 (c : Dev nD) : Valuation τ sig (Elt F) :=
  Function.update (Function.update (Function.update (Function.update (V m c) (Proc.devRef .tc main_v1_0) (out m c 3))
    (Proc.devRef .tc main_v1_1) (out m c 4)) (Proc.devRef .tc main_v1_2) (out m c 5)) (Proc.devRef .tc main_v1_3) (out m c 6)
/-- after the reshape, -/
def V1 (c : Dev nD) : Valuation τ sig (Elt F) := StableHlo.after (hostOps1 (F := F)) (V0 m c)
/-- and after the all-reduce. -/
def V2 (c : Dev nD) : Valuation τ sig (Elt F) := (ar0 (F := F)).after₀ (V1 m) c

theorem V0_of_ne (c : Dev nD) (b : DevRef τ sig) (h0 : b ≠ Proc.devRef .tc main_v1_0) (h1 : b ≠ Proc.devRef .tc main_v1_1)
    (h2 : b ≠ Proc.devRef .tc main_v1_2) (h3 : b ≠ Proc.devRef .tc main_v1_3) : V0 m c b = V m c b := by
  unfold V0
  rw [Function.update_of_ne h3, Function.update_of_ne h2, Function.update_of_ne h1, Function.update_of_ne h0]
theorem V0_0 (c : Dev nD) : V0 m c (Proc.devRef .tc main_v1_0) = out m c 3 := by
  unfold V0
  rw [Function.update_of_ne (by decide), Function.update_of_ne (by decide), Function.update_of_ne (by decide), Function.update_self]
theorem V0_1 (c : Dev nD) : V0 m c (Proc.devRef .tc main_v1_1) = out m c 4 := by
  unfold V0
  rw [Function.update_of_ne (by decide), Function.update_of_ne (by decide), Function.update_self]
theorem V0_2 (c : Dev nD) : V0 m c (Proc.devRef .tc main_v1_2) = out m c 5 := by
  unfold V0
  rw [Function.update_of_ne (by decide), Function.update_self]
theorem V0_3 (c : Dev nD) : V0 m c (Proc.devRef .tc main_v1_3) = out m c 6 := by
  unfold V0
  rw [Function.update_self]

/-! ## The three statements -/

/-- The all-reduce's cells are under their invariants. -/
abbrev invs : sProp 𝕄 := iprop(∃ κ, (AllReduce.Dat.once (ar0 (F := F)) (V1 m)).cellInvs (Sites.E0 EC) κ)

/-- What passes the pipeline by: the other buffers, the generator register, the all-reduce's launch state. -/
def aside (c : Dev nD) : sProp 𝕄 :=
  iprop(StableHlo.held (c : Thread nD τ) (Pipeline.ucRefs τ sig \ Pipeline.arrRefs spec0) (V m c)
    ∗ (∃ r, prngReg c r) ∗ Sites.rides0 EC (V1 m) c ∗ invs m)

theorem levelCut : Pipeline.LevelCut (pcfgs (F := F)) adm 0 L lv 0 (Sites.O0 (F := F)) fun _ => 0 where
  hι c w s := Sites.mem_L c _ (by decide)
  hιb c w s := le_refl _
  hD c g i h := ⟨(Sites.O0_pos h).1, (Sites.O0_pos h).2⟩

theorem entry_eq (c : Dev nD) (w : Fin cfg0.W) : (dat m c).arrAt w 0 = V m c (Proc.devRef .tc (Pipeline.arrRef spec0 w)) := rfl

theorem exit_eq (c : Dev nD) (w : Fin cfg0.W) : (dat m c).arrAt w cfg0.N = V0 m c (Proc.devRef .tc (Pipeline.arrRef spec0 w)) := by
  fin_cases w
  · exact ((dat m c).arrAt_in 0 rfl _).trans (V0_of_ne m c (Proc.devRef .tc main_arg0) (by decide) (by decide) (by decide) (by decide)).symm
  · exact ((dat m c).arrAt_in 1 rfl _).trans (V0_of_ne m c (Proc.devRef .tc main_arg1) (by decide) (by decide) (by decide) (by decide)).symm
  · exact ((dat m c).arrAt_in 2 rfl _).trans (V0_of_ne m c (Proc.devRef .tc main_arg2) (by decide) (by decide) (by decide) (by decide)).symm
  · exact (V0_0 m c).symm
  · exact (V0_1 m c).symm
  · exact (V0_2 m c).symm
  · exact (V0_3 m c).symm

theorem last_inv (c : Dev nD) : (dat m c).Φ (Fin.last cfg0.N) ⊢ iprop(Pipeline.scopedRest spec0 c ∗ emp) := by
  rw [show (dat m c).Φ (Fin.last cfg0.N) = inv m c cfg0.N (le_refl _) from rfl, scopedRest0_eq]
  refine (inv_open m c cfg0.N (le_refl _)).trans ?_
  simp only [owns_whole]
  iintro ⟨%s, %r, -, Hs, Hr⟩
  isplitl [Hs Hr]
  · isplitl [Hs]
    · iexists _; iexact Hs
    iexists _; iexact Hr
  iempintro

theorem first_inv (c : Dev nD) : iprop(Pipeline.scopedRest spec0 c ∗ emp) ⊢ (dat m c).Φ 0 := by
  rw [show (dat m c).Φ 0 = Pipeline.scopedRest spec0 c from rfl]
  iintro ⟨H, -⟩; iexact H

/-- The pipeline. -/
def region : ℝ𝕊 0 :=
  Pipeline.RegionSeg.ofHeld (pcfgs (F := F)) adm (pdats m) 0 defs₀ 𝒱₀ L lv 0 (Sites.O0 (F := F)) (fun _ => iprop(emp)) (fun _ => iprop(emp))
    launch0.toP rfl (fun c => (obligation m c).loose) (fun _ _ => rfl) (fun _ => rfl) (fun c w => (dat m c).share_full (fun _ => rfl) w)
    (first_inv m) (last_inv m) (fun _ => 0) levelCut (aside m) (V m) (V0 m) (entry_eq m) (exit_eq m)

theorem ops_sub : ∀ op ∈ (hostOps1 : List (HloOp τ sig (Elt F))), op.bufs ⊆ Pipeline.ucRefs τ sig := fun op h => by
  obtain rfl := List.mem_singleton.mp h; exact Pipeline.sub_ucRefs _ (by simp)
theorem ops_fresh : ∀ op ∈ (hostOps1 : List (HloOp τ sig (Elt F))), op.fresh = ∅ := fun op h => by
  obtain rfl := List.mem_singleton.mp h; rfl

/-- The reshape. -/
def reshaped : ℍ := Pipeline.HostSeg.ofOps _ _ _ _ _ (Pipeline.ucRefs τ sig) (hostOps1 (F := F)) ops_sub ops_fresh (V0 m)
  (fun c => iprop(Sites.Es EC (V1 m) 0 c ∗ invs m))
/-- The all-reduce. -/
def summed : ℍ := Sites.seg0 EC 𝒱₀ (V1 m) (Sites.Rest0 (V1 m) fun _ => invs m)

def segs : List (Pipeline.Seg (pcfgs (F := F)) adm (pdats m) 0 defs₀ 𝒱₀ L lv) := [.region (region m), .host (reshaped m), .host (summed m)]

theorem main_eq (c : Dev nD) : main (F := F) c = Pipeline.Seg.run (segs m) := main_segs adm (pdats m) 0 𝒱₀ L lv (reshaped m) (summed m) (region m) rfl rfl c

/-! ## From statement to statement -/

abbrev T₀ (c : Dev nD) : sProp 𝕄 := (region m).pre c
abbrev Tₙ (c : Dev nD) : sProp 𝕄 :=
  iprop(StableHlo.held (c : Thread nD τ) (Pipeline.ucRefs τ sig) (V2 m c) ∗ (invs m ∗ Sites.Ghost0 EC c))

theorem arr_sub : Pipeline.arrRefs (τ := τ) spec0 ⊆ Pipeline.ucRefs τ sig := Pipeline.arrRefs_sub_ucRefs _ launch0.win.arr_unscoped

theorem not_arr {b : DevRef τ sig} (hb : b ∉ Pipeline.arrRefs (τ := τ) spec0) (w : Fin cfg0.W) : b ≠ Proc.devRef .tc (Pipeline.arrRef spec0 w) := fun h =>
  hb (h ▸ Finset.mem_map_of_mem _ (Finset.mem_image_of_mem _ (Finset.mem_univ w)))

theorem region_reshaped (c : Dev nD) : (region m).post c ⊢ (reshaped (F := F) m).pre c := by
  dsimp only [region, reshaped, Pipeline.RegionSeg.ofHeld, Pipeline.HostSeg.ofOps]
  unfold aside
  rw [Sites.Es_0, StableHlo.held_sub_split (c : Thread nD τ) arr_sub (V0 m c),
    StableHlo.held_congr (c : Thread nD τ) (S := Pipeline.ucRefs τ sig \ Pipeline.arrRefs spec0) (V := V0 m c) (V' := V m c)
      fun b hb => V0_of_ne m c b (not_arr (Finset.mem_sdiff.mp hb).2 3) (not_arr (Finset.mem_sdiff.mp hb).2 4)
        (not_arr (Finset.mem_sdiff.mp hb).2 5) (not_arr (Finset.mem_sdiff.mp hb).2 6)]
  iintro ⟨Ha, -, ⟨Hr, Hp, Hg, Hi⟩, HO⟩
  isplitl [Ha Hr]; · isplitl [Ha] <;> iassumption
  isplitr [Hi]
  · isplitl [HO]; · iexact HO
    isplitl [Hp] <;> iassumption
  iexact Hi

theorem reshaped_summed (c : Dev nD) : (reshaped m).post c ⊢ (summed (F := F) m).pre c :=
  Sites.pre0 EC 𝒱₀ (V1 m) (fun _ => invs m) c

theorem summed_Tₙ (c : Dev nD) : (summed (F := F) m).post c ⊢ iprop(Tₙ m c ∗ ∃ W, owes (c : Thread nD τ) (0 : CellTallies nD τ sig ℕ) W) := by
  refine (Sites.post0 EC 𝒱₀ (V1 m) (fun _ => invs m) c).trans ?_
  iintro ⟨Hh, HE, Hg, Hi⟩
  isplitr [HE]
  · isplitl [Hh]; · iexact Hh
    isplitl [Hi] <;> iassumption
  iapply (Sites.hE_last EC (V1 m) c); iexact HE

/-! ## The launch -/

def u₀ : UU :=
  (initOf (Pipeline.cells (Pipeline.pin (pcfgs (F := F)) adm) cellOf_inj) (Pipeline.launchToks (Pipeline.pin (pcfgs (F := F)) adm) cellOf_inj),
    Sites.uC (U := UU) (V1 m))

/-- The machine's launch state gives every device its first state: the counters and the launch credit fund the all-reduce. -/
theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V1 m) c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (Sites.O0 (F := F) c) ∅ ∗ Pipeline.launchCred (Sites.O0 (F := F)) c ∗ prngReg c (ρ c) ∗ Sites.G EC (V1 m) c)
      ⊢ iprop((unscopedSems0 c ∗ owes (c : Thread nD τ) (Sites.O0 (F := F) c) ∅ ∗ Pipeline.launchCred (Sites.O0 (F := F)) c ∗ prngReg c (ρ c) ∗ Sites.G EC (V1 m) c)
          ∗ unscopedBufs c (fun b => m ((c : Thread nD τ).loc b))) := by
    iintro ⟨Hub, Hus, HO, Hcr, Hp, HG⟩
    isplitr [Hub]
    · isplitl [Hus]; · iexact Hus
      isplitl [HO]; · iexact HO
      isplitl [Hcr]; · iexact Hcr
      isplitl [Hp]; · iexact Hp
      iexact HG
    · iexact Hub
  have h2 (c : Dev nD) : iprop(Sites.Es EC (V1 m) 0 c ∗ unscopedBufs c (fun b => m ((c : Thread nD τ).loc b))) ⊢ T₀ m c := by
    unfold T₀; dsimp only [region, Pipeline.RegionSeg.ofHeld]
    unfold aside
    rw [Sites.Es_0, show (unscopedBufs c fun b => m ((c : Thread nD τ).loc b) : sProp 𝕄)
        = StableHlo.held (c.tc : Thread nD τ) (Pipeline.ucRefs τ sig) (V m c) from Pipeline.unscopedBufs_held c (V m c),
      StableHlo.held_sub_split (c : Thread nD τ) arr_sub (V m c)]
    iintro ⟨⟨HO, Hp, Hg⟩, Ha, Hr⟩
    ihave #Hi := (show Sites.rides0 EC (V1 m) c ⊢ invs m from by
      unfold Sites.rides0 AllReduce.Dat.rides; iintro ⟨Hi, -⟩; iexact Hi) $$ Hg
    isplitl [Ha]; · iexact Ha
    isplitr; · iempintro
    isplitr [HO]
    · isplitl [Hr]; · iexact Hr
      isplitl [Hp]; · iexact Hp
      isplitl [Hg]; · iexact Hg
      iexact Hi
    iexact HO
  iintro ⟨H, Hlv⟩
  ihave H' := (show _ ⊢ iprop((bigSep Finset.univ fun c : Dev nD => iprop(unscopedSems0 c ∗ owes (c : Thread nD τ) (Sites.O0 (F := F) c) ∅ ∗ Pipeline.launchCred (Sites.O0 (F := F)) c ∗ prngReg c (ρ c) ∗ Sites.G EC (V1 m) c))
        ∗ bigSep Finset.univ fun c : Dev nD => unscopedBufs (Ix := ℕ) (Name := ℕ) (U := UU) (Lvl := ℕ) c (fun b => m ((c : Thread nD τ).loc b)))
      from by rw [← bigSep_sep']; exact bigSep_mono fun c _ => h1 c) $$ H
  icases H' with ⟨Hs, Hub⟩
  imod (Sites.hE0 EC (V1 m) ρ) $$ [Hs Hlv] with HE
  · isplitl [Hs]; · iexact Hs
    iexact Hlv
  imodintro
  iapply (show iprop((bigSep Finset.univ (Sites.Es EC (V1 m) 0)) ∗ bigSep Finset.univ fun c : Dev nD => unscopedBufs (Ix := ℕ) (Name := ℕ) (U := UU) (Lvl := ℕ) c (fun b => m ((c : Thread nD τ).loc b)))
      ⊢ bigSep Finset.univ (T₀ m) from by rw [← bigSep_sep']; exact bigSep_mono fun c _ => h2 c)
  isplitl [HE]; · iexact HE
  iexact Hub

/-! ## The run -/

/-- On every device every unscoped buffer is at what the three statements leave. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = V2 m c (Proc.devRef .tc b)

set_option backward.isDefEq.respectTransparency.types false in
/-- From any memory with zero counters every run ends, so and with zero counters. -/
theorem run_main : θ_run defs (onTc (τ := τ) (main (F := F))) ⟨m, fun _ => 0, ρ⟩ (fun r => Final m r.2 ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := Sites.O0 (F := F)) (hL := Sites.hL) (G := Sites.G EC (V1 m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨fun c => .rfl, region_reshaped m, reshaped_summed m, summed_Tₙ m⟩)
    (hinit := init m ρ)
    (QY := fun c s => (∀ b : Ref sig .tc, (Proc.devRef .tc b : DevRef τ sig) ∈ Pipeline.ucRefs τ sig →
        s.mem ((c : Thread nD τ).loc b) = V2 m c (Proc.devRef .tc b))
      ∧ s.sem ((ar0 (F := F)).barrierCell c) = 0 ∧ s.sem ((ar0 (F := F)).recvCell c) = 0 ∧ s.sem ((ar0 (F := F)).sendCell c) = 0)
    (hfin := fun c s' => by
      unfold Tₙ StableHlo.held
      iintro ⟨⟨Hh, He⟩, HSI⟩
      ihave %h := (SI_pointsTo_bufs_agree (qs := fun _ => fullShare) (Pipeline.ucRefs τ sig)) $$ [HSI Hh]
      · isplitl [HSI]; · iexact HSI
        iexact Hh
      imod ((AllReduce.Dat.once (ar0 (F := F)) (V1 m)).ghostAfter_read (Sites.E0 EC) c (k := 0) le_rfl s') $$ [He HSI] with ⟨%hz, HSI⟩
      · isplitl [He] <;> iassumption
      imodintro
      isplitr; · ipureintro; exact ⟨fun b hb => h _ hb, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-! ## What the buffers hold at the end -/

/-- The reshape and the all-reduce leave the arguments as they were. -/
theorem V2_arg0 (c : Dev nD) : V2 m c (Proc.devRef .tc main_arg0) = m ((c : Thread nD τ).loc main_arg0) := by
  simp only [V2, V1, StableHlo.after_cons, StableHlo.after_nil, hostOps1]
  rfl
theorem V2_arg1 (c : Dev nD) : V2 m c (Proc.devRef .tc main_arg1) = m ((c : Thread nD τ).loc main_arg1) := by
  simp only [V2, V1, StableHlo.after_cons, StableHlo.after_nil, hostOps1]
  rfl
theorem V2_arg2 (c : Dev nD) : V2 m c (Proc.devRef .tc main_arg2) = m ((c : Thread nD τ).loc main_arg2) := by
  simp only [V2, V1, StableHlo.after_cons, StableHlo.after_nil, hostOps1]
  rfl

/-- Each device sends its one number. -/
theorem V1_part (c : Dev nD) : V1 m c (Proc.devRef .tc main_v2) = shapeCast S_ (out m c 3 : FVec F S1x1 .f32) shapeCasts_S1x1_S_ := by
  simp only [V1, StableHlo.after_cons, StableHlo.after_nil, hostOps1]
  rfl

/-- The result is the sum of the devices' numbers. -/
theorem V2_sum (c : Dev nD) : V2 m c (Proc.devRef .tc main_v3)
    = (ar0 (F := F)).toResult ((ar0 (F := F)).foldGroup fun j => V1 m ((ar0 (F := F)).peer c j) (ar0 (F := F)).operand) :=
  (ar0 (F := F)).after₀_result ..

theorem unscoped (b : Ref sig .tc) (h : b.isScoped = false) : (Proc.devRef .tc b : DevRef τ sig) ∈ Pipeline.ucRefs τ sig :=
  Finset.mem_filter.mpr ⟨StableHlo.devRef_mem_tcRefs _, fun h' => Bool.false_ne_true (h.symm.trans h')⟩

/-- The arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c main_arg0 (unscoped _ rfl)).trans (V2_arg0 m c),
    (h.1 c main_arg1 (unscoped _ rfl)).trans (V2_arg1 m c), (h.1 c main_arg2 (unscoped _ rfl)).trans (V2_arg2 m c)⟩, h.2⟩) (run_main m ρ)

end Cert.LossRun

end
-- ==== Proof.LossAll.lean ====
module

public import proofs.«01_k».proof.Defs
public import proofs.«01_k».proof.Proof.Loss
public import proofs.«01_k».proof.Proof.LossRun
public import proofs.«01_k».proof.Proof.Gen.Kernel20
public import proofs.«01_k».proof.Proof.Gen.Reference20Ideal.Run
public import proofs.«01_k».proof.Proof.Gen.Reference20Ideal.Read
public import Idealize.ShloMosaic.Lib.Pipeline.ValueKit
public import Idealize.ShloMosaic.Lib.StableHlo.AllReduceFold
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The loss over all devices and its reference, over the extended reals: both are half of the mean of squares of the
    difference to the target, added over all rows of all devices. -/

namespace Cert.LossAll

open Cert.Kernel20Ideal Cert.Kernel20Ideal.Gen Cert.Reference20Ideal.Read
open Cert.Loss (err)
open Cert.LossRun (xt gt yt sq dat out V1 V2)

/-- The sum of the squares of a row's differences. -/
def errs (x g t : Fin 1024 → EReal) : EReal := ∑ j, err x g t j * err x g t j

/-- Half the sum of the rows' means is the sum of all squares over twice the row's length. -/
theorem half_mean {n : ℕ} (f : Fin n → EReal) :
    Ideal.ofBits .f32 0x3F000000#32 * ∑ r, Ideal.div (f r) (Ideal.ofBits .f32 0x44800000#32) = (∑ r, f r) * Ideal.ofBits .f32 0x3A000000#32 := by
  rw [Rms.half, Rms.len, Rms.halfInvLen]
  rw [Finset.sum_congr rfl fun r _ => Ideal.div_coe (by norm_num) _, Rms.sum_mul _ _ _ (by norm_num), mul_left_comm, ← EReal.coe_mul]
  congr 2
  norm_num

/-! The body's values, entry by entry. -/

section body

variable (x t : FVec Ideal S512x1024 .f32) (g : FVec Ideal S1x1024 .f32) (a : FVec Ideal S8x1024 .f32)
  (r : Fin 512) (i : Fin 8) (j : Fin 1024)

/-- The block as it was read. -/
theorem pay5_at : (k0_pay5 (F := Ideal) x (ix2 r j) : EReal) = x (ix2 r j) := by
  pointwise [k0_pay5]

/-- The factor of a row. -/
theorem pay6_at : (k0_pay6 (F := Ideal) x (ix2 r 0) : EReal) = Rms.inv fun k => x (ix2 r k) := by
  pointwise [k0_pay6, pay5_at, Rms.inv, Rms.ms]

/-- The norm before its weight. -/
theorem pay7_at : (k0_pay7 (F := Ideal) x (ix2 r j) : EReal) = x (ix2 r j) * Rms.inv fun k => x (ix2 r k) := by
  pointwise [k0_pay7, pay5_at, pay6_at]

/-- The difference to the target. -/
theorem pay8_at : (k0_pay8 (F := Ideal) x g t (ix2 r j) : EReal) = err (fun k => x (ix2 r k)) (fun k => g (ix2 0 k)) (fun k => t (ix2 r k)) j := by
  pointwise [k0_pay8, pay7_at, err]

/-- The sum of the squares over a block's rows that share a remainder modulo 8. -/
theorem pay10_at : (k0_pay10 (F := Ideal) x g t (ix2 i j) : EReal)
    = ∑ n : Fin 64, err (fun k => x (ix2 ⟨n.val * 8 + i.val, by omega⟩ k)) (fun k => g (ix2 0 k)) (fun k => t (ix2 ⟨n.val * 8 + i.val, by omega⟩ k)) j
        * err (fun k => x (ix2 ⟨n.val * 8 + i.val, by omega⟩ k)) (fun k => g (ix2 0 k)) (fun k => t (ix2 ⟨n.val * 8 + i.val, by omega⟩ k)) j := by
  pointwise [k0_pay10, pay8_at]

/-- The first point's value of the running sum. -/
theorem pay12_at : (k0_pay12 (F := Ideal) x g t (ix2 i j) : EReal) = k0_pay10 (F := Ideal) x g t (ix2 i j) := by
  pointwise [k0_pay12]

/-- A later point adds to the running sum. -/
theorem pay14_at : (k0_pay14 (F := Ideal) x g t a (ix2 i j) : EReal) = a (ix2 i j) + k0_pay10 (F := Ideal) x g t (ix2 i j) := by
  pointwise [k0_pay14]

/-- The last point's loss. -/
theorem pay3_at : (k0_pay3 (F := Ideal) a (ix2 0 0) : EReal) = Ideal.ofBits .f32 0x3A000000#32 * ∑ j : Fin 1024, ∑ i : Fin 8, a (ix2 i j) := by
  pointwise [k0_pay3]

end body

/-! The reference's values, entry by entry. -/

section reference

variable (x t : FVec Ideal Cert.Reference20Ideal.S65536x1024 .f32) (g : FVec Ideal S1x1024 .f32) (r : Fin 65536) (j : Fin 1024)

/-- The mean square plus the small constant. -/
theorem ref_ms : (val_main_v6 (F := Ideal) x (ix2 r 0) : EReal) = Rms.ms fun k => x (ix2 r k) := by
  pointwise [val_main_v6, val_main_v5, val_main_v4, val_main_v3, val_main_v2, val_main_v1, val_main_v0, val_main_cst, val_main_cst_0, val_main_cst_1, Rms.ms]

/-- The difference to the target. -/
theorem ref_err : (val_main_v12 (F := Ideal) x g t (ix2 r j) : EReal) = err (fun k => x (ix2 r k)) (fun k => g (ix2 0 k)) (fun k => t (ix2 r k)) j := by
  pointwise [val_main_v12, val_main_v11, val_main_v10, val_main_v9, val_main_v8, val_main_v7, ref_ms, Rms.inv, err]

/-- A row's mean of squares. -/
theorem ref_mean : (val_main_v16 (F := Ideal) x g t (ix1 r) : EReal)
    = Ideal.div (errs (fun k => x (ix2 r k)) (fun k => g (ix2 0 k)) (fun k => t (ix2 r k))) (Ideal.ofBits .f32 0x44800000#32) := by
  pointwise [val_main_v16, val_main_v15, val_main_v14, val_main_v13, val_main_cst_2, val_main_cst_3, ref_err, errs]

/-- The loss. -/
theorem ref_loss (y : S_.Idx) : (val_main_v18 (F := Ideal) x g t y : EReal)
    = (∑ r : Fin 65536, errs (fun k => x (ix2 r k)) (fun k => g (ix2 0 k)) (fun k => t (ix2 r k))) * Ideal.ofBits .f32 0x3A000000#32 := by
  rw [← half_mean]
  pointwise [val_main_v18, val_main_v17, val_main_cst_4, val_main_cst_5, ref_mean]

end reference

variable (m : (ℓ : Loc nD τ sig) → Buf (Elt Ideal) ℓ)

/-- The norm's argument. -/
abbrev Kx (c : Dev nD) : FVec Ideal S8192x1024 .f32 := m ((c.tc : Thread nD τ).loc main_arg0)
/-- The norm's weight. -/
abbrev Kg (c : Dev nD) : FVec Ideal S1x1024 .f32 := m ((c.tc : Thread nD τ).loc main_arg1)
/-- The target. -/
abbrev Kt (c : Dev nD) : FVec Ideal S8192x1024 .f32 := m ((c.tc : Thread nD τ).loc main_arg2)

/-- The difference to the target in a row of a device's array. -/
abbrev errAt (c : Dev nD) (r : Fin 8192) (j : Fin 1024) : EReal := err (fun k => Kx m c (ix2 r k)) (fun k => Kg m c (ix2 0 k)) (fun k => Kt m c (ix2 r k)) j

/-- The device's row of row `r` of the block at grid point `t`. -/
abbrev row (t : Fin cfg0.N) (r : Fin 512) : Fin 8192 := ⟨t.val * 512 + r.val, by have := lt_of_lt_of_eq t.isLt N_0; omega⟩

/-- The input windows' block indices at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- Window 0 brings a block of rows of the norm's argument. -/
theorem blk0 (c : Dev nD) (t : Fin cfg0.N) (r : Fin 512) (j : Fin 1024) : xt m c t (ix2 r j) = Kx m c (ix2 (row t r) j) := by
  blk_ext [xt, idx t]

/-- Window 1 brings the norm's weight. -/
theorem blk1 (c : Dev nD) (t : Fin cfg0.N) (j : Fin 1024) : gt m c t (ix2 0 j) = Kg m c (ix2 0 j) := by
  blk_ext [gt, idx t]

/-- Window 2 brings the same rows of the target. -/
theorem blk2 (c : Dev nD) (t : Fin cfg0.N) (r : Fin 512) (j : Fin 1024) : yt m c t (ix2 r j) = Kt m c (ix2 (row t r) j) := by
  blk_ext [yt, idx t]

/-- A grid point's part of the squares. -/
theorem sq_at (c : Dev nD) (t : Fin cfg0.N) (i : Fin 8) (j : Fin 1024) :
    (k0_pay10 (F := Ideal) (xt m c t) (gt m c t) (yt m c t) (ix2 i j) : EReal)
      = ∑ n : Fin 64, errAt m c (row t ⟨n.val * 8 + i.val, by omega⟩) j * errAt m c (row t ⟨n.val * 8 + i.val, by omega⟩) j := by
  refine (pay10_at _ _ _ _ _).trans ?_
  simp only [blk0, blk1, blk2]

/-- At the first grid point the running sum is that point's part. -/
theorem first (c : Dev nD) (t : Fin cfg0.N) (h0 : t.val % 16 = 0) (i : Fin 8) (j : Fin 1024) :
    (sq m c t.val t.isLt (ix2 i j) : EReal) = k0_pay10 (F := Ideal) (xt m c t) (gt m c t) (yt m c t) (ix2 i j) := by
  obtain ⟨n, h⟩ := t
  have := lt_of_lt_of_eq h N_0
  obtain rfl : n = 0 := by simp only at h0; omega
  exact pay12_at _ _ _ _ _

/-- At a later grid point it grows by that point's part. -/
theorem next (c : Dev nD) (t : Fin cfg0.N) (h0 : ¬ t.val % 16 = 0) (i : Fin 8) (j : Fin 1024) :
    (sq m c t.val t.isLt (ix2 i j) : EReal)
      = sq m c (t.val - 1) (Nat.lt_of_le_of_lt (Nat.sub_le _ _) t.isLt) (ix2 i j) + k0_pay10 (F := Ideal) (xt m c t) (gt m c t) (yt m c t) (ix2 i j) := by
  obtain ⟨n, h⟩ := t
  cases n with
  | zero => exact absurd rfl h0
  | succ n => exact pay14_at _ _ _ _ _ _

/-- After the last grid point it holds the parts of all points. -/
theorem all_sq (c : Dev nD) (t : Fin cfg0.N) (ht : t.val + 1 = cfg0.N) (i : Fin 8) (j : Fin 1024) :
    (sq m c t.val t.isLt (ix2 i j) : EReal) = ∑ t : Fin cfg0.N, k0_pay10 (F := Ideal) (xt m c t) (gt m c t) (yt m c t) (ix2 i j) := by
  have e := Pipeline.eq_sum_fin_of_reset_step_apply_last (M := EReal)
    (fun n h (j : Fin 1024) => sq m c n h (ix2 i j)) 16 (fun _ => 0)
    (fun t j => k0_pay10 (F := Ideal) (xt m c t) (gt m c t) (yt m c t) (ix2 i j))
    (fun t h j => by rw [zero_add]; exact first m c t h i j) (fun t h j => next m c t h i j)
    (le_of_eq N_0) t ht j
  rw [zero_add] at e
  exact e

/-- A device's number. -/
def part (c : Dev nD) : EReal :=
  (∑ r : Fin 8192, errs (fun k => Kx m c (ix2 r k)) (fun k => Kg m c (ix2 0 k)) (fun k => Kt m c (ix2 r k))) * Ideal.ofBits .f32 0x3A000000#32

/-- After the last grid point the loss's array holds the device's number. -/
theorem fin3 (c : Dev nD) : (out m c 3 : FVec Ideal S1x1 .f32) = fun _ => part m c := by
  refine (dat m c).arrAt_eq_of_after_last 3 t0_15 (by decide +kernel) _ fun y => ?_
  idx_vars y
  obtain rfl : y0 = 0 := Subsingleton.elim _ _
  obtain rfl : y1 = 0 := Subsingleton.elim _ _
  refine (pay3_at (sq m c t0_15.val t0_15.isLt)).trans (Eq.trans ?_ (mul_comm _ _))
  refine congrArg _ (Eq.trans (Finset.sum_congr rfl fun j _ => ?_) Finset.sum_comm)
  rw [Finset.sum_congr rfl fun i _ => (all_sq m c t0_15 rfl i j).trans (Finset.sum_congr rfl fun t _ => sq_at m c t i j)]
  exact Rms.sum_parts N_0 fun r => errAt m c r j * errAt m c r j

/-- Every device's neighbour `j` in the group is device `j`. -/
theorem peer_eq : ∀ c j : Fin 8, (ar0 (F := Ideal)).peer c j = j := by decide

/-- Each device sends its number, -/
theorem sent (c : Dev nD) : V1 m c (Proc.devRef .tc main_v2) = fun _ => part m c := by
  rw [LossRun.V1_part, fin3]
  rfl

/-- The all-reduce adds what the devices send, -/
theorem fold_at (v : Fin 8 → FVec Ideal S_ .f32) (t : Fin 8 → EReal) (y : S_.Idx) (h : ∀ j, v j y = t j) :
    ((ar0 (F := Ideal)).foldGroup v y : EReal) = ∑ j, t j := by
  have g := AllReduce.Cfg.foldGroup_graded (ar0 (F := Ideal)) (Grading.ofHom (M := EReal) (fun a : EReal => a) fun _ _ => rfl) v y 0 t h
  exact g

/-- and each receives the sum of all. -/
theorem received (c : Dev nD) (y : S_.Idx) : (V2 m c (Proc.devRef .tc main_v3) y : EReal) = ∑ d : Dev nD, part m d := by
  have h (j : Fin 8) : V1 m ((ar0 (F := Ideal)).peer c j) (Proc.devRef .tc main_v2) y = part m j :=
    (congrFun (congrArg (fun d => V1 m d (Proc.devRef .tc main_v2)) (peer_eq c j)) y).trans (congrFun (sent m j) y)
  have k := congrFun (LossRun.V2_sum m c) y
  generalize V1 m = V at h k
  refine k.trans ?_
  exact fold_at (fun j => V ((ar0 (F := Ideal)).peer c j) (Proc.devRef .tc main_v2)) (part m) y h

/-- The row of the whole array that is row `r` of device `c`. -/
abbrev glob (c : Fin 8) (r : Fin 8192) : Fin 65536 := ⟨c.val * 8192 + r.val, by omega⟩

theorem block_at (X : FVec Ideal Cert.Reference20Ideal.S65536x1024 .f32) (c : Fin 8) (r : Fin 8192) (j : Fin 1024)
    (h : Layout.Tiles ⟨2, ![8192, 1024]⟩ ⟨2, ![65536, 1024]⟩ 0 8) :
    Layout.block ⟨2, ![8192, 1024]⟩ ⟨2, ![65536, 1024]⟩ 0 8 c X h (ix2 r j) = X (ix2 (glob c r) j) :=
  congrArg X (funext fun b => by fin_cases b <;> exact Fin.ext rfl)

/-- The devices' numbers add up to the reference's loss. -/
theorem sum_all (X T : FVec Ideal Cert.Reference20Ideal.S65536x1024 .f32) (g : FVec Ideal S1x1024 .f32)
    (hx : ∀ c, Kx m c = Layout.block ⟨2, ![8192, 1024]⟩ ⟨2, ![65536, 1024]⟩ 0 8 c X) (hg : ∀ c, Kg m c = g)
    (ht : ∀ c, Kt m c = Layout.block ⟨2, ![8192, 1024]⟩ ⟨2, ![65536, 1024]⟩ 0 8 c T) (y : S_.Idx) :
    ∑ d : Dev nD, part m d = val_main_v18 (F := Ideal) X g T y := by
  rw [ref_loss]
  unfold part
  rw [Rms.halfInvLen, Rms.sum_mul _ _ _ (by norm_num)]
  refine congrArg (· * _) ?_
  exact Fin.sum_mul_add_congr (fun c r hl => by simp only [hx, hg, ht, block_at])

/-- The kernel and its reference compute the same loss over the extended reals. -/
theorem algebraic : Cert.algebraic_Kernel20Ideal_Reference20Ideal := by
  intro m g m' g' _ hagree
  refine ⟨val_main_v18 (F := Ideal) (m' (((0 : Dev Cert.Reference20Ideal.nD).tc : Thread Cert.Reference20Ideal.nD Cert.Reference20Ideal.τ).loc Cert.Reference20Ideal.main_arg0))
      (m' (((0 : Dev Cert.Reference20Ideal.nD).tc : Thread Cert.Reference20Ideal.nD Cert.Reference20Ideal.τ).loc Cert.Reference20Ideal.main_arg1))
      (m' (((0 : Dev Cert.Reference20Ideal.nD).tc : Thread Cert.Reference20Ideal.nD Cert.Reference20Ideal.τ).loc Cert.Reference20Ideal.main_arg2)),
    (θ_run _ _ _).mono (fun r h c => ⟨?_, (h.1 c main_arg0 (LossRun.unscoped _ rfl)).trans (LossRun.V2_arg0 m c),
      (h.1 c main_arg1 (LossRun.unscoped _ rfl)).trans (LossRun.V2_arg1 m c), (h.1 c main_arg2 (LossRun.unscoped _ rfl)).trans (LossRun.V2_arg2 m c)⟩) (LossRun.run_main m g),
    (θ_run _ _ _).mono (fun r h => ?_) (Cert.Reference20Ideal.Value.run m' g')⟩
  · refine (h.1 c main_v3 (LossRun.unscoped _ rfl)).trans (funext fun y => ?_)
    exact (received m c y).trans (sum_all m _ _ _ (fun c => (hagree c).1) (fun c => (hagree c).2.1) (fun c => (hagree c).2.2) y)
  · obtain ⟨h0, ha⟩ := h 0
    exact ⟨h0.trans (by rw [val_main_v18_eq (F := Ideal)]), ha⟩

/-- The reference ends without a fault, with its arguments unchanged and its counters at zero. -/
theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

/-! The program is printed twice, once for the machine's own numbers; the two texts are the same. -/

theorem defs₀_eq : Kernel20.defs₀ (F := Bits) = Kernel20Ideal.defs₀ (F := Bits) := by
  unfold Kernel20.defs₀ Kernel20Ideal.defs₀
  refine congrArg Defs.onTc (funext fun l => funext fun a => ?_)
  match l, a with
  | 0, (t, s) => rfl
theorem defs_eq : Kernel20.defs (F := Bits) = Kernel20Ideal.defs (F := Bits) := congrArg (Pipeline.defs Kernel20.pcfgs) defs₀_eq
theorem main_eq : Kernel20.main (F := Bits) = Kernel20Ideal.main (F := Bits) := rfl

/-- The kernel ends without a fault, with its arguments unchanged and its counters at zero. -/
theorem frame_kernel : Cert.quiescent_Kernel20 := fun m ρ _ => by
  have h := LossRun.frame (F := Bits) m ρ
  rw [← defs_eq, ← main_eq] at h
  exact h

/-- So does the ideal kernel: it is the same run. -/
theorem frame_ideal : Cert.quiescent_Kernel20Ideal := fun m ρ _ => LossRun.frame m ρ

end Cert.LossAll
-- ==== Proof.Norm.lean ====
module

public import proofs.«01_k».proof.Defs
public import proofs.«01_k».proof.Proof.Rms
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm

open Cert.Kernel21Ideal Cert.Kernel21Ideal.Gen Cert.Reference21Ideal.Read

variable (m : (ℓ : Loc nD τ sig) → Buf (Elt Ideal) ℓ)

/-- An entry of a block's norm. -/
theorem pay1_at (x : FVec Ideal S512x1024 .f32) (g : FVec Ideal S1x1024 .f32) (r : Fin 512) (j : Fin 1024) :
    (k0_pay1 (F := Ideal) x g (ix2 r j) : EReal) = x (ix2 r j) * Rms.inv (fun k => x (ix2 r k)) * g (ix2 0 j) := by
  pointwise [k0_pay1, Rms.inv, Rms.ms]

/-- An entry of the reference's norm. -/
theorem ref_at (x : FVec Ideal S8192x1024 .f32) (g : FVec Ideal S1x1024 .f32) (r : Fin 8192) (j : Fin 1024) :
    (val_main_v12 (F := Ideal) x g (ix2 r j) : EReal) = x (ix2 r j) * Rms.inv (fun k => x (ix2 r k)) * g (ix2 0 j) := by
  pointwise [val_main_v12, val_main_v11, val_main_v10, val_main_v9, val_main_v8, val_main_v7, val_main_v6, val_main_v5, val_main_v4, val_main_v3, val_main_v2, val_main_v1,
    val_main_v0, val_main_cst, val_main_cst_0, val_main_cst_1, Rms.inv, Rms.ms]

/-- Every window's block index at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The global row of row `r` of the block at grid point `t`. -/
abbrev row (t : Fin cfg0.N) (r : Fin 512) : Fin 8192 := ⟨t.val * 512 + r.val, by have := lt_of_lt_of_eq t.isLt N_0; omega⟩

/-- Window 0 brings a block of rows of the norm's argument. -/
theorem blk0 (c : Dev nD) (t : Fin cfg0.N) (r : Fin 512) (j : Fin 1024) :
    (iblk m c 0 t : FVec Ideal S512x1024 .f32) (ix2 r j) = m ((c.tc : Thread nD τ).loc main_arg0) (ix2 (row t r) j) := by
  blk_ext [iblk, V, idx t]

/-- Window 1 brings the norm's weight. -/
theorem blk1 (c : Dev nD) (t : Fin cfg0.N) (j : Fin 1024) :
    (iblk m c 1 t : FVec Ideal S1x1024 .f32) (ix2 0 j) = m ((c.tc : Thread nD τ).loc main_arg1) (ix2 0 j) := by
  blk_ext [iblk, V, idx t]

/-- After the last grid point the result array is what the reference computes. -/
theorem fin2 (c : Dev nD) : (dats m 0 c).arrAt 2 (cfgs 0).N
    = val_main_v12 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  idx_vars y
  refine (pay1_at _ _ _ _).trans ?_
  simp only [blk0, blk1]
  rw [← ref_at]
  blk_point [idx t]

/-- The first RMS norm and its reference compute the same array over the extended reals. -/
theorem algebraic : Cert.algebraic_Kernel21Ideal_Reference21Ideal := by
  intro m g m' g' _ hagree
  refine ⟨fun c => val_main_v12 (F := Ideal) (m ((c.tc : Thread nD τ).loc main_arg0)) (m ((c.tc : Thread nD τ).loc main_arg1)),
    (θ_run _ _ _).mono (fun r h c => ⟨(h c).1.trans (fin2 m c), (h c).2⟩) (Cert.Kernel21Ideal.Value.run_blocks m g),
    (θ_run _ _ _).mono (fun r h c => ⟨(h c).1.trans ?_, (h c).2⟩) (Cert.Reference21Ideal.Value.run m' g')⟩
  obtain ⟨a0, a1⟩ := hagree c
  rw [val_main_v12_eq (F := Ideal)]
  simp only [a0, a1]

/-- The reference ends without a fault, with its arguments unchanged and its counters at zero. -/
theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run m ρ)

end Cert.Norm
-- ==== Proof.DUp.lean ====
module

public import proofs.«01_k».proof.Defs
public import proofs.«01_k».proof.Proof.Rms
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DUp

open Cert.Kernel22Ideal Cert.Kernel22Ideal.Gen Cert.Reference22Ideal.Read

/-! The body's values, entry by entry. The incoming gradient is the product `k0_pay6`. -/

section body

variable (v : FVec Ideal S512x4096 .bf16) (p : FVec Ideal S512x1024 .f32) (q : FVec Ideal S512x512 .bf16) (u u' : FVec Ideal S1x1024x512 .bf16)
  (w0 w1 w2 w3 w4 w5 w6 w7 : FVec Ideal S1x1024x512 .bf16)
  (x d : FVec Ideal S512x1024 .f32) (g : FVec Ideal S1x1024 .f32) (a : FVec Ideal S8x1024 .f32)
  (r : Fin 512) (i : Fin 8) (j : Fin 1024)

/-- The product, over the eight parts of the contraction. -/
theorem prod_at : (k0_pay6 (F := Ideal) v (k0_pay4 v w0 w1 w2 w3 w4 w5) (k0_pay5 v) w6 w7 (ix2 r j) : EReal)
    = ∑ d : Fin 8, ∑ k : Fin 512, v (ix2 r ⟨d.val * 512 + k.val, by omega⟩) * (![w0, w1, w2, w3, w4, w5, w6, w7] d) (ix3 0 j k) := by
  rw [Fin.sum_univ_eight]
  pointwise [k0_pay6, k0_pay5, k0_pay4]

/-- The factor of a row. -/
theorem pay7_at : (k0_pay7 (F := Ideal) x (ix2 r 0) : EReal) = Rms.inv fun k => x (ix2 r k) := by
  pointwise [k0_pay7, Rms.inv, Rms.ms]

/-- The norm before its weight. -/
theorem pay8_at : (k0_pay8 (F := Ideal) x (ix2 r j) : EReal) = x (ix2 r j) * Rms.inv fun k => x (ix2 r k) := by
  pointwise [k0_pay8, pay7_at]

/-- A grid point's block of the result, from its blocks and the product of its slabs. -/
abbrev out (x : FVec Ideal S512x1024 .f32) (g : FVec Ideal S1x1024 .f32) (d : FVec Ideal S512x1024 .f32) : FVec Ideal S512x1024 .f32 :=
  k0_pay1 (F := Ideal) (k0_pay7 x) (k0_pay8 x) (k0_pay12 v p q u u' g) (k0_pay13 v p q u u' x g) d

/-- The gradient of the norm's argument plus what passes it. -/
theorem out_at : (out v p q u u' x g d (ix2 r j) : EReal)
    = Rms.grad (fun k => x (ix2 r k)) (fun k => k0_pay6 (F := Ideal) v p q u u' (ix2 r k) * g (ix2 0 k)) j + d (ix2 r j) := by
  pointwise [out, k0_pay1, k0_pay12, k0_pay13, pay7_at, pay8_at, Rms.grad]

/-- The sum of the parts of the weight's gradient over a block's rows that share a remainder modulo 8. -/
theorem pay9_at : (k0_pay9 (F := Ideal) v p q u u' x (ix2 i j) : EReal)
    = ∑ n : Fin 64, k0_pay6 (F := Ideal) v p q u u' (ix2 ⟨n.val * 8 + i.val, by omega⟩ j) * (x (ix2 ⟨n.val * 8 + i.val, by omega⟩ j) * Rms.inv fun k => x (ix2 ⟨n.val * 8 + i.val, by omega⟩ k)) := by
  pointwise [k0_pay9, pay8_at]

/-- The first point's value of the running sum. -/
theorem pay10_at : (k0_pay10 (F := Ideal) v p q u u' x (ix2 i j) : EReal) = k0_pay9 (F := Ideal) v p q u u' x (ix2 i j) := by
  pointwise [k0_pay10]

/-- A later point adds to the running sum. -/
theorem pay11_at : (k0_pay11 (F := Ideal) v p q u u' x a (ix2 i j) : EReal) = a (ix2 i j) + k0_pay9 (F := Ideal) v p q u u' x (ix2 i j) := by
  pointwise [k0_pay11]

/-- The last point's sum over the eight places. -/
theorem pay3_at : (k0_pay3 (F := Ideal) a (ix2 0 j) : EReal) = ∑ i : Fin 8, a (ix2 i j) := by
  pointwise [k0_pay3]

end body

/-! The reference's values, entry by entry. -/

section reference

variable (a : FVec Ideal S8192x4096 .bf16) (w : FVec Ideal S1024x4096 .f32) (x d : FVec Ideal S8192x1024 .f32) (g : FVec Ideal S1x1024 .f32) (r : Fin 8192) (j : Fin 1024)

/-- The mean square plus the small constant. -/
theorem ref_ms : (val_main_v6 (F := Ideal) x (ix2 r 0) : EReal) = Rms.ms fun k => x (ix2 r k) := by
  pointwise [val_main_v6, val_main_v5, val_main_v4, val_main_v3, val_main_v2, val_main_v1, val_main_v0, val_main_cst, val_main_cst_0, val_main_cst_1, Rms.ms]

/-- The factor of a row. -/
theorem ref_inv : (val_main_v7 (F := Ideal) x (ix2 r 0) : EReal) = Rms.inv fun k => x (ix2 r k) := by
  pointwise [val_main_v7, ref_ms, Rms.inv]

/-- The slope of a row's factor. -/
theorem ref_slope : (val_main_v32 (F := Ideal) a x g w (ix2 r j) : EReal)
    = Rms.slope (fun k => x (ix2 r k)) fun k => val_main_v17 (F := Ideal) a w (ix2 r k) * g (ix2 0 k) := by
  pointwise [val_main_v32, val_main_v31, val_main_v30, val_main_v29, val_main_v28, val_main_v25, val_main_v24, val_main_v23, val_main_v22, val_main_v21,
    val_main_v10, val_main_v9, val_main_v8, val_main_cst_2, val_main_cst_4, val_main_cst_5, val_main_cst_6, ref_ms, ref_inv, Rms.slope]
  rw [Fin.sum_univ_one, ref_ms, ref_inv]

/-- The gradient of the norm's argument plus what passes it. -/
theorem ref_dx : (val_main_v37 (F := Ideal) a x g d w (ix2 r j) : EReal)
    = Rms.grad (fun k => x (ix2 r k)) (fun k => val_main_v17 (F := Ideal) a w (ix2 r k) * g (ix2 0 k)) j + d (ix2 r j) := by
  rw [Rms.grad_eq]
  pointwise [val_main_v37, val_main_v36, val_main_v35, val_main_v34, val_main_v33, val_main_v27, val_main_v26, val_main_v22, val_main_v21, ref_slope, ref_inv]

/-- The gradient of the norm's weight. -/
theorem ref_dg : (val_main_v20 (F := Ideal) a x w (ix2 0 j) : EReal)
    = ∑ r : Fin 8192, val_main_v17 (F := Ideal) a w (ix2 r j) * (x (ix2 r j) * Rms.inv fun k => x (ix2 r k)) := by
  pointwise [val_main_v20, val_main_v19, val_main_v18, val_main_v12, val_main_v11, val_main_cst_3, ref_inv]
  exact Finset.sum_congr rfl fun r _ => mul_comm _ _

end reference

variable (m : (ℓ : Loc nD τ sig) → Buf (Elt Ideal) ℓ)

/-- The gradient of the MLP's hidden layer. -/
abbrev Ka (c : Dev nD) : FVec Ideal S8192x4096 .bf16 := m ((c.tc : Thread nD τ).loc main_arg0)
/-- The MLP's first weight. -/
abbrev Kw (c : Dev nD) : FVec Ideal S1024x4096 .f32 := m ((c.tc : Thread nD τ).loc main_arg4)
/-- The incoming gradient. -/
abbrev Kh (c : Dev nD) : FVec Ideal S8192x1024 .f32 := val_main_v17 (F := Ideal) (Ka m c) (Kw m c)
/-- The norm's argument. -/
abbrev Kx (c : Dev nD) : FVec Ideal S8192x1024 .f32 := m ((c.tc : Thread nD τ).loc main_arg1)
/-- The norm's weight. -/
abbrev Kg (c : Dev nD) : FVec Ideal S1x1024 .f32 := m ((c.tc : Thread nD τ).loc main_arg2)
/-- What passes the norm. -/
abbrev Kd (c : Dev nD) : FVec Ideal S8192x1024 .f32 := m ((c.tc : Thread nD τ).loc main_arg3)

/-- The global row of row `r` of the block at grid point `t`. -/
abbrev row (t : Fin cfg0.N) (r : Fin 512) : Fin 8192 := ⟨t.val * 512 + r.val, by have := lt_of_lt_of_eq t.isLt N_0; omega⟩

/-- Every window's block index at every grid point. -/
theorem idx : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, 0] :=
  (by decide +kernel : ∀ t : Fin grid0.N, _)

/-- Window 0 brings a block of rows of the hidden layer's gradient. -/
theorem blk0 (c : Dev nD) (t : Fin cfg0.N) (r : Fin 512) (l : Fin 4096) :
    (iblk m c 0 t : FVec Ideal S512x4096 .bf16) (ix2 r l) = Ka m c (ix2 (row t r) l) := by
  blk_ext [iblk, V, idx t]

/-- The weight's columns, gathered by device. -/
theorem pack (c : Dev nD) (d : Fin 8) (j : Fin 1024) (k : Fin 512) :
    (V m c main_v3 (ix3 d j k) : EReal) = Kw m c (ix2 j ⟨d.val * 512 + k.val, by omega⟩) := by
  entry_read
  pointwise

/-- Window 1 brings all of them. -/
theorem blk1 (c : Dev nD) (t : Fin cfg0.N) (d : Fin 8) (j : Fin 1024) (k : Fin 512) :
    ((iblk m c 1 t : FVec Ideal S8x1024x512 .bf16) (ix3 d j k) : EReal) = Kw m c (ix2 j ⟨d.val * 512 + k.val, by omega⟩) := by
  refine Eq.trans ?_ (pack m c d j k)
  blk_ext [iblk, V, idx t]

/-- Window 2 brings the same rows of the norm's argument. -/
theorem blk2 (c : Dev nD) (t : Fin cfg0.N) (r : Fin 512) (j : Fin 1024) :
    (iblk m c 2 t : FVec Ideal S512x1024 .f32) (ix2 r j) = Kx m c (ix2 (row t r) j) := by
  blk_ext [iblk, V, idx t]

/-- Window 3 brings the norm's weight. -/
theorem blk3 (c : Dev nD) (t : Fin cfg0.N) (j : Fin 1024) :
    (iblk m c 3 t : FVec Ideal S1x1024 .f32) (ix2 0 j) = Kg m c (ix2 0 j) := by
  blk_ext [iblk, V, idx t]

/-- Window 4 brings the same rows of what passes the norm. -/
theorem blk4 (c : Dev nD) (t : Fin cfg0.N) (r : Fin 512) (j : Fin 1024) :
    (iblk m c 4 t : FVec Ideal S512x1024 .f32) (ix2 r j) = Kd m c (ix2 (row t r) j) := by
  blk_ext [iblk, V, idx t]

/-- Device 0's part of the gathered weight. -/
abbrev w0 (c : Dev nD) (t : Fin cfg0.N) : FVec Ideal S1x1024x512 .bf16 := View.ld (iblk m c 1 t) (Rect.unit ![0, 0, 0] ![1, 1024, 512] inb_S8x1024x512_S1x1024x512_0_0_0)
/-- Device 1's part of the gathered weight. -/
abbrev w1 (c : Dev nD) (t : Fin cfg0.N) : FVec Ideal S1x1024x512 .bf16 := View.ld (iblk m c 1 t) (Rect.unit ![1, 0, 0] ![1, 1024, 512] inb_S8x1024x512_S1x1024x512_1_0_0)
/-- Device 2's part of the gathered weight. -/
abbrev w2 (c : Dev nD) (t : Fin cfg0.N) : FVec Ideal S1x1024x512 .bf16 := View.ld (iblk m c 1 t) (Rect.unit ![2, 0, 0] ![1, 1024, 512] inb_S8x1024x512_S1x1024x512_2_0_0)
/-- Device 3's part of the gathered weight. -/
abbrev w3 (c : Dev nD) (t : Fin cfg0.N) : FVec Ideal S1x1024x512 .bf16 := View.ld (iblk m c 1 t) (Rect.unit ![3, 0, 0] ![1, 1024, 512] inb_S8x1024x512_S1x1024x512_3_0_0)
/-- Device 4's part of the gathered weight. -/
abbrev w4 (c : Dev nD) (t : Fin cfg0.N) : FVec Ideal S1x1024x512 .bf16 := View.ld (iblk m c 1 t) (Rect.unit ![4, 0, 0] ![1, 1024, 512] inb_S8x1024x512_S1x1024x512_4_0_0)
/-- Device 5's part of the gathered weight. -/
abbrev w5 (c : Dev nD) (t : Fin cfg0.N) : FVec Ideal S1x1024x512 .bf16 := View.ld (iblk m c 1 t) (Rect.unit ![5, 0, 0] ![1, 1024, 512] inb_S8x1024x512_S1x1024x512_5_0_0)
/-- Device 6's part of the gathered weight. -/
abbrev w6 (c : Dev nD) (t : Fin cfg0.N) : FVec Ideal S1x1024x512 .bf16 := View.ld (iblk m c 1 t) (Rect.unit ![6, 0, 0] ![1, 1024, 512] inb_S8x1024x512_S1x1024x512_6_0_0)
/-- Device 7's part of the gathered weight. -/
abbrev w7 (c : Dev nD) (t : Fin cfg0.N) : FVec Ideal S1x1024x512 .bf16 := View.ld (iblk m c 1 t) (Rect.unit ![7, 0, 0] ![1, 1024, 512] inb_S8x1024x512_S1x1024x512_7_0_0)

/-- The first six parts' products. -/
abbrev part (c : Dev nD) (t : Fin cfg0.N) : FVec Ideal S512x1024 .f32 :=
  k0_pay4 (F := Ideal) (iblk m c 0 t) (w0 m c t) (w1 m c t) (w2 m c t) (w3 m c t) (w4 m c t) (w5 m c t)

/-- An entry of a device's part. -/
theorem slab (x : FVec Ideal S8x1024x512 .bf16) (n : ℕ) (hn : n < 8) (h) (j : Fin 1024) (k : Fin 512) :
    (View.ld (Val := Elt Ideal) (e' := .bf16) x (Rect.unit (s := S8x1024x512) ![n, 0, 0] ![1, 1024, 512] h) : FVec Ideal S1x1024x512 .bf16) (ix3 0 j k) = x (ix3 ⟨n, hn⟩ j k) := by
  refine congrArg x (funext fun a => Fin.ext ?_)
  fin_cases a
  · show n + 1 * 0 = n; omega
  · show 0 + 1 * j.val = j.val; omega
  · show 0 + 1 * k.val = k.val; omega

/-- Every device's part, entry by entry. -/
theorem slabs (c : Dev nD) (t : Fin cfg0.N) (j : Fin 1024) (k : Fin 512) : ∀ d : Fin 8,
    ((![w0 m c t, w1 m c t, w2 m c t, w3 m c t, w4 m c t, w5 m c t, w6 m c t, w7 m c t] d) (ix3 0 j k) : EReal)
      = Kw m c (ix2 j ⟨d.val * 512 + k.val, by omega⟩)
  | 0 => (slab _ 0 _ _ j k).trans (blk1 m c t 0 j k)
  | 1 => (slab _ 1 _ _ j k).trans (blk1 m c t 1 j k)
  | 2 => (slab _ 2 _ _ j k).trans (blk1 m c t 2 j k)
  | 3 => (slab _ 3 _ _ j k).trans (blk1 m c t 3 j k)
  | 4 => (slab _ 4 _ _ j k).trans (blk1 m c t 4 j k)
  | 5 => (slab _ 5 _ _ j k).trans (blk1 m c t 5 j k)
  | 6 => (slab _ 6 _ _ j k).trans (blk1 m c t 6 j k)
  | 7 => (slab _ 7 _ _ j k).trans (blk1 m c t 7 j k)

/-- An entry of the incoming gradient. -/
theorem Kh_at (c : Dev nD) (r : Fin 8192) (j : Fin 1024) :
    (Kh m c (ix2 r j) : EReal) = ∑ l : Fin 4096, Ka m c (ix2 r l) * Kw m c (ix2 j l) := by
  pointwise [val_main_v17, val_main_v16]

/-- A grid point's block of the incoming gradient. -/
theorem h_at (c : Dev nD) (t : Fin cfg0.N) (r : Fin 512) (j : Fin 1024) :
    (k0_pay6 (F := Ideal) (iblk m c 0 t) (part m c t) (k0_pay5 (iblk m c 0 t)) (w6 m c t) (w7 m c t) (ix2 r j) : EReal) = Kh m c (ix2 (row t r) j) := by
  refine (prod_at _ _ _ _ _ _ _ _ _ _ _).trans ((Fin.sum_mul_add_congr (f := fun l => Ka m c (ix2 (row t r) l) * Kw m c (ix2 j l)) fun d k hl => ?_).trans (Kh_at m c _ _).symm)
  rw [slabs, blk0]

/-- A grid point's block of the result. -/
abbrev outAt (c : Dev nD) (t : Fin cfg0.N) : FVec Ideal S512x1024 .f32 :=
  out (iblk m c 0 t) (part m c t) (k0_pay5 (iblk m c 0 t)) (w6 m c t) (w7 m c t) (iblk m c 2 t) (iblk m c 3 t) (iblk m c 4 t)

/-- A grid point's part of the gradient of the norm's weight. -/
abbrev sumAt (c : Dev nD) (t : Fin cfg0.N) : FVec Ideal S8x1024 .f32 :=
  k0_pay9 (F := Ideal) (iblk m c 0 t) (part m c t) (k0_pay5 (iblk m c 0 t)) (w6 m c t) (w7 m c t) (iblk m c 2 t)

/-- A grid point's block of the gradient of the norm's argument. -/
theorem dx_at (c : Dev nD) (t : Fin cfg0.N) (r : Fin 512) (j : Fin 1024) :
    (outAt m c t (ix2 r j) : EReal)
      = val_main_v37 (F := Ideal) (Ka m c) (Kx m c) (Kg m c) (Kd m c) (Kw m c) (ix2 (row t r) j) := by
  refine (out_at _ _ _ _ _ _ _ _ _ _).trans ?_
  rw [ref_dx]
  simp only [h_at, blk2, blk3, blk4]

/-- A grid point's part of the gradient of the norm's weight, entry by entry. -/
theorem dg_at (c : Dev nD) (t : Fin cfg0.N) (i : Fin 8) (j : Fin 1024) :
    (sumAt m c t (ix2 i j) : EReal)
      = ∑ n : Fin 64, Kh m c (ix2 (row t ⟨n.val * 8 + i.val, by omega⟩) j) * (Kx m c (ix2 (row t ⟨n.val * 8 + i.val, by omega⟩) j) * Rms.inv fun k => Kx m c (ix2 (row t ⟨n.val * 8 + i.val, by omega⟩) k)) := by
  refine (pay9_at _ _ _ _ _ _ _ _).trans ?_
  simp only [h_at, blk2]

/-- At every grid point the first window written is that point's block of the gradient. -/
theorem out5 (c : Dev nD) (t : Fin cfg0.N) : (outsAt0 m c t.val t.isLt).1 = outAt m c t := by
  have ht := lt_of_lt_of_eq t.isLt N_0
  by_cases h0 : t.val % 16 = 0
  · rw [outsAt0_A m c t h0 (by omega) (by omega)]
    frame_out
    rfl
  · by_cases h2 : t.val % 16 = 15
    · rw [outsAt0_C m c t h0 (by omega) h2]
      frame_out
      rfl
    · rw [outsAt0_B m c t h0 (by omega) h2]
      frame_out
      rfl

/-- At every grid point the second window written is the same block, cast. -/
theorem out6 (c : Dev nD) (t : Fin cfg0.N) : (outsAt0 m c t.val t.isLt).2.1 = truncf (F := Ideal) .bf16 (outAt m c t) bitsLt_bf16_f32 := by
  have ht := lt_of_lt_of_eq t.isLt N_0
  by_cases h0 : t.val % 16 = 0
  · rw [outsAt0_A m c t h0 (by omega) (by omega)]
    frame_out
    rfl
  · by_cases h2 : t.val % 16 = 15
    · rw [outsAt0_C m c t h0 (by omega) h2]
      frame_out
      rfl
    · rw [outsAt0_B m c t h0 (by omega) h2]
      frame_out
      rfl

/-- After the last grid point the gradient's array is what the reference computes. -/
theorem fin5 (c : Dev nD) : (dats m 0 c).arrAt 5 (cfgs 0).N = val_main_v37 (F := Ideal) (Ka m c) (Kx m c) (Kg m c) (Kd m c) (Kw m c) := by
  refine (dats m 0 c).arrAt_eq_of_covers 5 _ (by decide +kernel) fun t hf y => ?_
  rw [after0_5, out5]
  idx_vars y
  refine (dx_at m c t y0 y1).trans ?_
  blk_point [idx t]

/-- After the last grid point the cast gradient's array is what the reference computes. -/
theorem fin6 (c : Dev nD) : (dats m 0 c).arrAt 6 (cfgs 0).N = val_main_v38 (F := Ideal) (Ka m c) (Kx m c) (Kg m c) (Kd m c) (Kw m c) := by
  refine (dats m 0 c).arrAt_eq_of_covers 6 _ (by decide +kernel) fun t hf y => ?_
  rw [after0_6, out6]
  idx_vars y
  pointwise [val_main_v38]
  refine (dx_at m c t y0 y1).trans ?_
  blk_point [idx t]

/-- At the first grid point the running sum is that point's part. -/
theorem first (c : Dev nD) (t : Fin cfg0.N) (h0 : t.val % 16 = 0) (i : Fin 8) (j : Fin 1024) :
    ((outsAt0 m c t.val t.isLt).2.2.2 (ix2 i j) : EReal) = sumAt m c t (ix2 i j) := by
  have ht := lt_of_lt_of_eq t.isLt N_0
  rw [outsAt0_A m c t h0 (by omega) (by omega)]
  frame_out
  exact pay10_at _ _ _ _ _ _ _ _

/-- At a later grid point the running sum grows by that point's part. -/
theorem next (c : Dev nD) (t : Fin cfg0.N) (h0 : ¬ t.val % 16 = 0) (i : Fin 8) (j : Fin 1024) :
    ((outsAt0 m c t.val t.isLt).2.2.2 (ix2 i j) : EReal)
      = (outsAt0 m c (t.val - 1) (Nat.lt_of_le_of_lt (Nat.sub_le _ _) t.isLt)).2.2.2 (ix2 i j) + sumAt m c t (ix2 i j) := by
  have ht := lt_of_lt_of_eq t.isLt N_0
  have key : (outsAt0 m c t.val t.isLt).2.2.2
      = k0_pay11 (F := Ideal) (iblk m c 0 t) (part m c t) (k0_pay5 (iblk m c 0 t)) (w6 m c t) (w7 m c t) (iblk m c 2 t) (outsAt0 m c (t.val - 1) (Nat.lt_of_le_of_lt (Nat.sub_le _ _) t.isLt)).2.2.2 := by
    by_cases h1 : t.val % 16 = 15
    · rw [outsAt0_C m c t h0 (by omega) h1]
      frame_out
      exact congrArg _ (Memref.IsWhole.read_unread (m := Memref.whole cc0_scratch0) _ _)
    · rw [outsAt0_B m c t h0 (by omega) h1]
      frame_out
      exact congrArg _ (Memref.IsWhole.read_unread (m := Memref.whole cc0_scratch0) _ _)
  rw [key]
  exact pay11_at _ _ _ _ _ _ _ _ _

/-- After the last grid point the running sum holds the parts of all points. -/
theorem all (c : Dev nD) (t : Fin cfg0.N) (ht : t.val + 1 = cfg0.N) (i : Fin 8) (j : Fin 1024) :
    ((outsAt0 m c t.val t.isLt).2.2.2 (ix2 i j) : EReal) = ∑ t : Fin cfg0.N, sumAt m c t (ix2 i j) := by
  have e := Pipeline.eq_sum_fin_of_reset_step_apply_last (M := EReal)
    (fun n h (j : Fin 1024) => (outsAt0 m c n h).2.2.2 (ix2 i j)) 16 (fun _ => 0)
    (fun t j => sumAt m c t (ix2 i j))
    (fun t h j => by rw [zero_add]; exact first m c t h i j) (fun t h j => next m c t h i j)
    (le_of_eq N_0) t ht j
  rw [zero_add] at e
  exact e

/-- At the last grid point the weight's block is the sum over the eight places. -/
theorem out7 (c : Dev nD) (t : Fin cfg0.N) (h1 : t.val % 16 = 15) (j : Fin 1024) :
    ((outsAt0 m c t.val t.isLt).2.2.1 (ix2 0 j) : EReal)
      = ∑ i : Fin 8, (outsAt0 m c t.val t.isLt).2.2.2 (ix2 i j) := by
  have ht := lt_of_lt_of_eq t.isLt N_0
  rw [outsAt0_C m c t (by omega) (by omega) h1]
  frame_out
  exact pay3_at _ j

/-- After the last grid point the array of the weight's gradient is what the reference computes. -/
theorem fin7 (c : Dev nD) : (dats m 0 c).arrAt 7 (cfgs 0).N = val_main_v20 (F := Ideal) (Ka m c) (Kx m c) (Kw m c) := by
  refine (dats m 0 c).arrAt_eq_of_after_last 7 t0_15 (by decide +kernel) _ fun y => ?_
  idx_vars y
  rw [after0_7]
  obtain rfl : y0 = 0 := Subsingleton.elim _ _
  refine (out7 m c t0_15 rfl y1).trans ?_
  rw [Finset.sum_congr rfl fun i _ => (all m c t0_15 rfl i y1).trans (Finset.sum_congr rfl fun t _ => dg_at m c t i y1)]
  exact (Rms.sum_parts N_0 (fun r => Kh m c (ix2 r y1) * (Kx m c (ix2 r y1) * Rms.inv fun k => Kx m c (ix2 r k)))).trans (ref_dg _ _ _ _).symm

/-- The gradient of the second norm's argument and its reference compute the same arrays over the extended reals. -/
theorem algebraic : Cert.algebraic_Kernel22Ideal_Reference22Ideal := by
  intro m g m' g' _ hagree
  refine ⟨fun c => val_main_v37 (F := Ideal) (Ka m c) (Kx m c) (Kg m c) (Kd m c) (Kw m c),
    fun c => val_main_v38 (F := Ideal) (Ka m c) (Kx m c) (Kg m c) (Kd m c) (Kw m c),
    fun c => val_main_v20 (F := Ideal) (Ka m c) (Kx m c) (Kw m c),
    (θ_run _ _ _).mono (fun r h c => ?_) (Cert.Kernel22Ideal.Value.run_blocks m g),
    (θ_run _ _ _).mono (fun r h c => ?_) (Cert.Reference22Ideal.Value.run m' g')⟩
  · obtain ⟨h0, h1, h2, ha⟩ := h c
    exact ⟨h0.trans (fin5 m c), h1.trans (fin6 m c), h2.trans (fin7 m c), ha⟩
  · obtain ⟨h0, h1, h2, ha⟩ := h c
    obtain ⟨a0, a1, a2, a3, a4⟩ := hagree c
    refine ⟨h0.trans ?_, h1.trans ?_, h2.trans ?_, ha⟩
    · rw [val_main_v37_eq (F := Ideal)]; simp only [a0, a1, a2, a3, a4]
    · rw [val_main_v38_eq (F := Ideal)]; simp only [a0, a1, a2, a3, a4]
    · rw [val_main_v20_eq (F := Ideal)]; simp only [a0, a1, a2, a3, a4]

/-- The reference ends without a fault, with its arguments unchanged and its counters at zero. -/
theorem frame_reference : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run m ρ)

end Cert.DUp
-- ==== Proof.DwDown.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwDown

open Cert.Kernel23Ideal Cert.Kernel23Ideal.Gen

variable (m : (ℓ : Loc nD τ sig) → Buf (Elt Ideal) ℓ) (ρ : Dev nD → PrngReg)

/-- Every window's block index at every grid point. -/
theorem idx : ∀ t : Fin cfg0.N, win0_0.index t = ![t.val % 2, t.val / 2]
    ∧ win0_1.index t = ![t.val % 2, 0]
    ∧ win0_2.index t = ![t.val / 2, 0, 0] :=
  (by decide +kernel : ∀ t : Fin grid0.N, _)

/-- The first point of a pair leaves its own product in the accumulator. -/
theorem acc_first (c : Dev nD) (t : Fin cfg0.N) (h0 : t.val % 2 = 0) (y : S512x1024.Idx) :
    ((outsAt0 m c t.val t.isLt).2 y : EReal) = 0 + k0_pay1 (F := Ideal) (iblk m c 0 t) (iblk m c 1 t) y := by
  rw [outsAt0_A m c t h0 (by omega) (by omega), zero_add]
  frame_out
  pointwise [k0_pay2]

/-- The second adds its product to what the first left. -/
theorem acc_next (c : Dev nD) (t : Fin cfg0.N) (h0 : ¬t.val % 2 = 0) (y : S512x1024.Idx) :
    ((outsAt0 m c t.val t.isLt).2 y : EReal)
      = (outsAt0 m c (t.val - 1) (Nat.lt_of_le_of_lt (Nat.sub_le _ _) t.isLt)).2 y + k0_pay1 (F := Ideal) (iblk m c 0 t) (iblk m c 1 t) y := by
  rw [outsAt0_B m c t h0 (by omega) (by omega)]
  frame_out
  pointwise [k0_pay3]
  exact congrArg (fun z : EReal => z + _) (congrFun (Memref.IsWhole.read_unread (m := Memref.whole cc0_scratch0) _ _) y)

/-- The second point of a pair writes the accumulator out. -/
theorem out_last (c : Dev nD) (t : Fin cfg0.N) (h2 : t.val % 2 = 1) (i : Fin 1) (j : Fin 512) (k : Fin 1024) :
    ((outsAt0 m c t.val t.isLt).1 (ix3 i j k) : EReal) = (outsAt0 m c t.val t.isLt).2 (ix2 j k) := by
  rw [outsAt0_B m c t (by omega) (by omega) (by omega)]
  frame_out
  pointwise [k0_pay4, k0_pay3]

/-- After the last grid point the result array is what the reference computes. -/
theorem fin2 (c : Dev nD) : (dats m 0 c).arrAt 2 (cfgs 0).N
    = Cert.Reference23Ideal.Read.val_main_v9 (F := Ideal) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2]
  idx_vars y
  rw [out_last m c t h3,
    Pipeline.eq_sum_fin_of_reset_step_apply_of_flush (fun n h => ((outsAt0 m c n h).2 : S512x1024.Idx → EReal)) 2 (fun _ => 0) _
      (acc_first m c) (acc_next m c) t h3 _, zero_add]
  pointwise [k0_pay1, Cert.Reference23Ideal.Read.val_main_v9, Cert.Reference23Ideal.Read.val_main_v8, Cert.Reference23Ideal.Read.val_main_v7, Cert.Reference23Ideal.Read.val_main_v6, Cert.Reference23Ideal.Read.val_main_v5, Cert.Reference23Ideal.Read.val_main_v3, Cert.Reference23Ideal.Read.val_main_v2, Cert.Reference23Ideal.Read.val_main_call0_v0, Cert.Reference23Ideal.Read.val_main_call0_cst, Cert.Reference23Ideal.Read.val_main_v1]
  refine Fin.sum_mul_add_congr fun s k hl => ?_
  rw [mul_comm (G := EReal)]
  blk_point [iblk, V, idx t, idx ⟨_, Pipeline.run_point_lt_of_flush t h3 s⟩]

/-- The call for the gradient of the MLP's second weight and its reference compute the same array over the extended reals. -/
theorem algebraic : Cert.algebraic_Kernel23Ideal_Reference23Ideal := by
  intro m g m' g' _ hagree
  refine ⟨fun c => Cert.Reference23Ideal.Read.val_main_v9 (F := Ideal) (m ((c.tc : Thread nD τ).loc main_arg0)) (m ((c.tc : Thread nD τ).loc main_arg1)),
    (θ_run _ _ _).mono (fun r h c => ⟨(h c).1.trans (fin2 m c), (h c).2⟩) (Cert.Kernel23Ideal.Value.run_blocks m g),
    (θ_run _ _ _).mono (fun r h c => ⟨(h c).1.trans ?_, (h c).2⟩) (Cert.Reference23Ideal.Value.run m' g')⟩
  obtain ⟨a0, a1⟩ := hagree c
  rw [Cert.Reference23Ideal.Read.val_main_v9_eq (F := Ideal)]
  simp only [a0, a1]

/-- The reference ends without a fault, with its arguments unchanged and its counters at zero. -/
theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run m ρ)

end Cert.DwDown
-- ==== Proof.DwPool.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwPool

open Cert.Kernel24Ideal Cert.Kernel24Ideal.Gen Cert.Reference24Ideal.Read

variable (m : (ℓ : Loc nD τ sig) → Buf (Elt Ideal) ℓ) (ρ : Dev nD → PrngReg)

/-- Every window's block index at every grid point. -/
theorem idx : ∀ t : Fin cfg0.N, win0_0.index t = ![t.val, 0]
    ∧ win0_1.index t = ![t.val, 0]
    ∧ win0_2.index t = ![0, 0, 0, 0] :=
  (by decide +kernel : ∀ t : Fin grid0.N, _)

/-- What one grid point's rows add to the gradient, at a head group, a row and a column. -/
def part (a b : FVec Ideal S2048x1024 .bf16) (n : Fin 4) (i j : Fin 256) : EReal :=
  ∑ k : Fin 2048, a (ix2 k ⟨n.val * 256 + i.val, by omega⟩) * b (ix2 k ⟨n.val * 256 + j.val, by omega⟩)

/-- A sum of products of two columns of one head group, however the columns are named, is the part of that group. -/
theorem part_of (a b : FVec Ideal S2048x1024 .bf16) (n : Fin 4) (i j : Fin 256) (p q : Fin 1024) (hp : p.val = n.val * 256 + i.val)
    (hq : q.val = n.val * 256 + j.val) : (∑ k : Fin 2048, (a (ix2 k p) : EReal) * b (ix2 k q)) = part a b n i j := by
  unfold part
  rw [← (Fin.ext hp : p = ⟨n.val * 256 + i.val, by omega⟩), ← (Fin.ext hq : q = ⟨n.val * 256 + j.val, by omega⟩)]

/-- An element of the accumulator, however its place is named. -/
theorem at_of (A : FVec Ideal S4x256x256 .f32) (o n : Fin 4) (i' j' i j : Fin 256) (ho : o.val = n.val) (hi : i'.val = i.val) (hj : j'.val = j.val) :
    (A (ix3 o i' j') : EReal) = A (ix3 n i j) := by
  rw [Fin.ext ho, Fin.ext hi, Fin.ext hj]

/-- The first point leaves its own part in the accumulator. -/
theorem acc_first (c : Dev nD) (t : Fin cfg0.N) (h0 : t.val % 4 = 0) (n : Fin 4) (i j : Fin 256) :
    ((outsAt0 m c t.val t.isLt).2 (ix3 n i j) : EReal) = 0 + part (iblk m c 0 t) (iblk m c 1 t) n i j := by
  have ht := lt_of_lt_of_eq t.isLt N_0
  rw [outsAt0_A m c t h0 (by omega) (by omega) (by omega) (by omega) (by omega) (by omega) (by omega) (by omega), zero_add]
  frame_out
  clear h0 ht
  canon_tiles x h
  all_goals idx_vars x
  all_goals pointwise [k0_pay3, k0_pay2, k0_pay16, k0_pay15, k0_pay13, k0_pay12, k0_pay10, k0_pay9]
  all_goals exact part_of _ _ n i j _ _ (by dsimp only; omega) (by dsimp only; omega)

/-- Every other point adds its part to what the point before left. -/
theorem acc_next (c : Dev nD) (t : Fin cfg0.N) (h0 : ¬t.val % 4 = 0) (n : Fin 4) (i j : Fin 256) :
    ((outsAt0 m c t.val t.isLt).2 (ix3 n i j) : EReal)
      = (outsAt0 m c (t.val - 1) (Nat.lt_of_le_of_lt (Nat.sub_le _ _) t.isLt)).2 (ix3 n i j) + part (iblk m c 0 t) (iblk m c 1 t) n i j := by
  have ht := lt_of_lt_of_eq t.isLt N_0
  by_cases h1 : t.val % 4 = 3
  · rw [outsAt0_C m c t h0 (by omega) (by omega) (by omega) (by omega) (by omega) (by omega) (by omega) (by omega)]
    frame_out
    clear h0 h1 ht
    generalize (outsAt0 m c (t.val - 1) (Nat.lt_of_le_of_lt (Nat.sub_le _ _) t.isLt)).2 = A
    rw [Memref.IsWhole.read_unread (m := Memref.whole cc0_scratch0)]
    canon_tiles x h
    all_goals idx_vars x
    all_goals pointwise [k0_pay4, k0_pay2, k0_pay1, k0_pay15, k0_pay14, k0_pay12, k0_pay11, k0_pay9]
    all_goals exact congrArg₂ (· + ·) (at_of A _ n _ _ i j (by simp; omega) (by omega) (by omega)) (part_of _ _ n i j _ _ (by dsimp only; omega) (by dsimp only; omega))
  · rw [outsAt0_B m c t h0 (by omega) (by omega) (by omega) (by omega) (by omega) (by omega) (by omega) (by omega)]
    frame_out
    clear h0 h1 ht
    generalize (outsAt0 m c (t.val - 1) (Nat.lt_of_le_of_lt (Nat.sub_le _ _) t.isLt)).2 = A
    rw [Memref.IsWhole.read_unread (m := Memref.whole cc0_scratch0)]
    canon_tiles x h
    all_goals idx_vars x
    all_goals pointwise [k0_pay4, k0_pay2, k0_pay1, k0_pay15, k0_pay14, k0_pay12, k0_pay11, k0_pay9]
    all_goals exact congrArg₂ (· + ·) (at_of A _ n _ _ i j (by simp; omega) (by omega) (by omega)) (part_of _ _ n i j _ _ (by dsimp only; omega) (by dsimp only; omega))

/-- One head group's square of an accumulator. -/
abbrev slab (A : FVec Ideal S4x256x256 .f32) (off : Fin 3 → ℕ) (inb : ∀ a, off a + (![1, 256, 256] : Fin 3 → ℕ) a ≤ S4x256x256.size a) : FVec Ideal S1x256x256 .f32 :=
  View.ld (Val := Elt Ideal) (e' := .f32) A (Rect.unit off ![1, 256, 256] inb)

/-- What the four stores of the last point leave, whatever the accumulator holds. -/
theorem gathered (A : FVec Ideal S4x256x256 .f32) (d : Fin 8) (n : Fin 4) (r : Fin 32) (k : Fin 256) :
    (View.canon (Val := Elt Ideal) (s := S8x4x32x256) (e := .bf16)
      [⟨Rect.unit ![0, 3, 0, 0] ![8, 1, 32, 256] inb_S8x4x32x256_S8x1x32x256_0_3_0_0, k0_pay8 (F := Ideal) (slab A ![3, 0, 0] inb_S4x256x256_S1x256x256_3_0_0)⟩,
        ⟨Rect.unit ![0, 2, 0, 0] ![8, 1, 32, 256] inb_S8x4x32x256_S8x1x32x256_0_2_0_0, k0_pay7 (F := Ideal) (slab A ![2, 0, 0] inb_S4x256x256_S1x256x256_2_0_0)⟩,
        ⟨Rect.unit ![0, 1, 0, 0] ![8, 1, 32, 256] inb_S8x4x32x256_S8x1x32x256_0_1_0_0, k0_pay6 (F := Ideal) (slab A ![1, 0, 0] inb_S4x256x256_S1x256x256_1_0_0)⟩,
        ⟨Rect.unit ![0, 0, 0, 0] ![8, 1, 32, 256] inb_S8x4x32x256_S8x1x32x256_0_0_0_0, k0_pay5 (F := Ideal) (slab A ![0, 0, 0] inb_S4x256x256_S1x256x256_0_0_0)⟩]
      (ix4 d n r k) : EReal) = A (ix3 n ⟨d.val * 32 + r.val, by omega⟩ k) := by
  canon_tiles x h
  all_goals idx_vars x
  all_goals pointwise [slab, k0_pay5, k0_pay6, k0_pay7, k0_pay8]
  all_goals exact at_of A _ n _ _ _ k (by simp; omega) (by dsimp only; omega) (by omega)

/-- The last point writes the accumulator out, its rows gathered by device. -/
theorem out_last (c : Dev nD) (t : Fin cfg0.N) (h1 : t.val % 4 = 3) (d : Fin 8) (n : Fin 4) (r : Fin 32) (k : Fin 256) :
    ((outsAt0 m c t.val t.isLt).1 (ix4 d n r k) : EReal) = (outsAt0 m c t.val t.isLt).2 (ix3 n ⟨d.val * 32 + r.val, by omega⟩ k) := by
  have ht := lt_of_lt_of_eq t.isLt N_0
  rw [outsAt0_C m c t (by omega) (by omega) (by omega) (by omega) (by omega) (by omega) (by omega) (by omega) (by omega)]
  frame_out
  clear h1 ht
  simp only [View.readCov_eq_canon']
  exact gathered _ d n r k

/-- The gradient in the reference. -/
theorem ref (x y : FVec Ideal S8192x1024 .bf16) (d : Fin 8) (n : Fin 4) (r : Fin 32) (k : Fin 256) :
    (val_main_v13 (F := Ideal) x y (ix4 d n r k) : EReal)
      = ∑ l : Fin 8192, x (ix2 l ⟨n.val * 256 + (d.val * 32 + r.val), by omega⟩) * y (ix2 l ⟨n.val * 256 + k.val, by omega⟩) := by
  pointwise [val_main_v13, val_main_v12, val_main_v11, val_main_v10, val_main_v9, val_main_v8, val_main_v7, val_main_v6, val_main_v2, val_main_v1]
  exact Finset.sum_congr rfl fun l _ => mul_comm (G := EReal) _ _

/-- The first factor, whole. -/
abbrev Kp (c : Dev nD) : FVec Ideal S8192x1024 .bf16 := m ((c.tc : Thread nD τ).loc main_arg0)
/-- The second factor, whole. -/
abbrev Kd (c : Dev nD) : FVec Ideal S8192x1024 .bf16 := m ((c.tc : Thread nD τ).loc main_arg1)

/-- The sum over all rows, from the parts of the grid points. -/
theorem whole (c : Dev nD) (t : Fin cfg0.N) (h3 : t.val % 4 = 3) (n : Fin 4) (i j : Fin 256) :
    ((outsAt0 m c t.val t.isLt).2 (ix3 n i j) : EReal)
      = ∑ l : Fin 8192, Kp m c (ix2 l ⟨n.val * 256 + i.val, by omega⟩) * Kd m c (ix2 l ⟨n.val * 256 + j.val, by omega⟩) := by
  rw [Pipeline.eq_sum_fin_of_reset_step_apply_of_flush (fun q h => ((outsAt0 m c q h).2 : S4x256x256.Idx → EReal)) 4 (fun _ => 0)
      (fun t y => part (iblk m c 0 t) (iblk m c 1 t) (y 0) (y 1) (y 2))
      (fun t h y => by idx_vars y; exact acc_first m c t h y0 y1 y2) (fun t h y => by idx_vars y; exact acc_next m c t h y0 y1 y2) t h3 _, zero_add]
  refine Fin.sum_mul_add_congr fun s k hl => ?_
  have ht := lt_of_lt_of_eq t.isLt N_0
  blk_point [iblk, V, idx t, idx ⟨_, Pipeline.run_point_lt_of_flush t h3 s⟩]

/-- After the last grid point the result array is what the reference computes. -/
theorem fin2 (c : Dev nD) : (dats m 0 c).arrAt 2 (cfgs 0).N
    = val_main_v13 (F := Ideal) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  rw [after0_2]
  idx_vars y
  refine ((out_last m c t h3 y0 y1 y2 y3).trans ((whole m c t h3 _ _ _).trans (ref _ _ y0 y1 y2 y3).symm)).trans ?_
  blk_point [idx t]

/-- The call for the gradient of the pooled map's weight and its reference compute the same array over the extended reals. -/
theorem algebraic : Cert.algebraic_Kernel24Ideal_Reference24Ideal := by
  intro m g m' g' _ hagree
  refine ⟨fun c => val_main_v13 (F := Ideal) (m ((c.tc : Thread nD τ).loc main_arg0)) (m ((c.tc : Thread nD τ).loc main_arg1)),
    (θ_run _ _ _).mono (fun r h c => ⟨(h c).1.trans (fin2 m c), (h c).2⟩) (Cert.Kernel24Ideal.Value.run_blocks m g),
    (θ_run _ _ _).mono (fun r h c => ⟨(h c).1.trans ?_, (h c).2⟩) (Cert.Reference24Ideal.Value.run m' g')⟩
  obtain ⟨a0, a1⟩ := hagree c
  rw [val_main_v13_eq (F := Ideal)]
  simp only [a0, a1]

/-- The reference ends without a fault, with its arguments unchanged and its counters at zero. -/
theorem frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run m ρ)

end Cert.DwPool
-- ==== Proof.DwO.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwO

open Cert.Kernel25Ideal Cert.Kernel25Ideal.Gen Cert.Reference25Ideal.Read

variable (m : (ℓ : Loc nD τ sig) → Buf (Elt Ideal) ℓ) (ρ : Dev nD → PrngReg)

/-- Every window's block index at every grid point. -/
theorem idx : ∀ t : Fin cfg0.N, win0_0.index t = ![t.val, 0]
    ∧ win0_1.index t = ![t.val, 0]
    ∧ win0_2.index t = ![0, 6, 0] :=
  (by decide +kernel : ∀ t : Fin grid0.N, _)

/-- The first point leaves its own product in the accumulator. -/
theorem acc_first (c : Dev nD) (t : Fin cfg0.N) (h0 : t.val % 4 = 0) (y : S1024x1024.Idx) :
    ((outsAt0 m c t.val t.isLt).2 y : EReal) = 0 + k0_pay1 (F := Ideal) (iblk m c 0 t) (iblk m c 1 t) y := by
  have ht := lt_of_lt_of_eq t.isLt N_0
  rw [outsAt0_A m c t h0 (by omega) (by omega), zero_add]
  frame_out
  pointwise [k0_pay2]

/-- Every other point adds its product to what the point before left. -/
theorem acc_next (c : Dev nD) (t : Fin cfg0.N) (h0 : ¬t.val % 4 = 0) (y : S1024x1024.Idx) :
    ((outsAt0 m c t.val t.isLt).2 y : EReal)
      = (outsAt0 m c (t.val - 1) (Nat.lt_of_le_of_lt (Nat.sub_le _ _) t.isLt)).2 y + k0_pay1 (F := Ideal) (iblk m c 0 t) (iblk m c 1 t) y := by
  have key : (outsAt0 m c t.val t.isLt).2
      = k0_pay3 (F := Ideal) (iblk m c 0 t) (iblk m c 1 t) (outsAt0 m c (t.val - 1) (Nat.lt_of_le_of_lt (Nat.sub_le _ _) t.isLt)).2 := by
    by_cases h2 : t.val % 4 = 3
    · rw [outsAt0_C m c t h0 (by omega) h2]
      frame_out
      exact congrArg _ (Memref.IsWhole.read_unread (m := Memref.whole cc0_scratch0) _ _)
    · rw [outsAt0_B m c t h0 (by omega) h2]
      frame_out
      exact congrArg _ (Memref.IsWhole.read_unread (m := Memref.whole cc0_scratch0) _ _)
  rw [key]
  pointwise [k0_pay3]

/-- The last point writes the accumulator out, its rows gathered by device. -/
theorem out_last (c : Dev nD) (t : Fin cfg0.N) (h2 : t.val % 4 = 3) (d : Fin 8) (r : Fin 128) (k : Fin 1024) :
    ((outsAt0 m c t.val t.isLt).1 (ix3 d r k) : EReal) = (outsAt0 m c t.val t.isLt).2 (ix2 ⟨d.val * 128 + r.val, by omega⟩ k) := by
  rw [outsAt0_C m c t (by omega) (by omega) h2]
  frame_out
  pointwise [k0_pay4, k0_pay3]

/-- A row of the gradient in the reference. -/
theorem ref_new (x y : FVec Ideal S8192x1024 .bf16) (z : FVec Ideal S8x896x1024 .bf16) (d : Fin 8) (r : Fin 128) (k : Fin 1024) :
    (val_main_v9 (F := Ideal) x y z (ix3 d ⟨768 + r.val, by omega⟩ k) : EReal) = ∑ l : Fin 8192, x (ix2 l ⟨d.val * 128 + r.val, by omega⟩) * y (ix2 l k) := by
  pointwise [val_main_v9, val_main_v8, val_main_v7, val_main_v5, val_main_v4, val_main_v3, val_main_v1]
  exact Finset.sum_congr rfl fun l _ => mul_comm (G := EReal) _ _

/-- Any other row. -/
theorem ref_old (x y : FVec Ideal S8192x1024 .bf16) (z : FVec Ideal S8x896x1024 .bf16) (d : Fin 8) (r : Fin 896) (k : Fin 1024) (h : r.val < 768) :
    (val_main_v9 (F := Ideal) x y z (ix3 d r k) : EReal) = z (ix3 d r k) := by
  pointwise [val_main_v9, val_main_v6]
  rw [dif_pos h]

/-- Before the first grid point the result array holds the third argument. -/
theorem before (c : Dev nD) (d : Fin 8) (r : Fin 896) (k : Fin 1024) :
    (V m c main_v0 (ix3 d r k) : EReal) = m ((c.tc : Thread nD τ).loc main_arg2) (ix3 d r k) := by
  entry_read
  rfl

/-- The left factor's transpose. -/
abbrev Ka (c : Dev nD) : FVec Ideal S8192x1024 .bf16 := m ((c.tc : Thread nD τ).loc main_arg0)
/-- The right factor. -/
abbrev Kb (c : Dev nD) : FVec Ideal S8192x1024 .bf16 := m ((c.tc : Thread nD τ).loc main_arg1)

/-- The product of the whole rows, from the products of the grid points. -/
theorem prod (c : Dev nD) (t : Fin cfg0.N) (h3 : t.val % 4 = 3) (i k : Fin 1024) :
    ((outsAt0 m c t.val t.isLt).2 (ix2 i k) : EReal)
      = ∑ l : Fin 8192, Ka m c (ix2 l i) * Kb m c (ix2 l k) := by
  rw [Pipeline.eq_sum_fin_of_reset_step_apply_of_flush (fun n h => ((outsAt0 m c n h).2 : S1024x1024.Idx → EReal)) 4 (fun _ => 0) _
      (acc_first m c) (acc_next m c) t h3 _, zero_add]
  pointwise [k0_pay1]
  refine Fin.sum_mul_add_congr fun s k hl => ?_
  have ht := lt_of_lt_of_eq t.isLt N_0
  blk_point [iblk, V, idx t, idx ⟨_, Pipeline.run_point_lt_of_flush t h3 s⟩]

/-- After the last grid point the result array is what the reference computes: the rows written hold the gradient, the others what they held. -/
theorem fin2 (c : Dev nD) : (dats m 0 c).arrAt 2 (cfgs 0).N
    = val_main_v9 (F := Ideal) (m ((c.tc : Thread nD τ).loc main_arg0)) (m ((c.tc : Thread nD τ).loc main_arg1)) (m ((c.tc : Thread nD τ).loc main_arg2)) := by
  refine (dats m 0 c).arrAt_eq_of_coversWhere_of_agree 2 _ (fun β => β (1 : Fin 3) = 6) (by decide +kernel) (fun t hf y => ?_) (fun j hj => ?_)
  · have h3 := (flush0_2 t).mp hf
    rw [after0_2]
    idx_vars y
    refine ((out_last m c t h3 y0 y1 y2).trans ((prod m c t h3 _ _).trans (ref_new _ _ (m ((c.tc : Thread nD τ).loc main_arg2)) y0 y1 y2).symm)).trans ?_
    blk_point [idx t]
  · blk_simp [Pipeline.Window.cell_apply] at hj
    rw [A_eq]
    idx_vars j
    have h : j1.val < 768 := by have := j1.isLt; change ¬j1.val / 128 = 6 at hj; omega
    exact (before m c j0 j1 j2).trans (ref_old _ _ _ _ _ _ h).symm

/-- The call for the gradient of the output projection's weight and its reference compute the same array over the extended reals. -/
theorem algebraic : Cert.algebraic_Kernel25Ideal_Reference25Ideal := by
  intro m g m' g' _ hagree
  refine ⟨fun c => val_main_v9 (F := Ideal) (m ((c.tc : Thread nD τ).loc main_arg0)) (m ((c.tc : Thread nD τ).loc main_arg1)) (m ((c.tc : Thread nD τ).loc main_arg2)),
    (θ_run _ _ _).mono (fun r h c => ⟨(h c).1.trans (fin2 m c), (h c).2⟩) (Cert.Kernel25Ideal.Value.run_blocks m g),
    (θ_run _ _ _).mono (fun r h c => ⟨(h c).1.trans ?_, (h c).2⟩) (Cert.Reference25Ideal.Value.run m' g')⟩
  obtain ⟨a0, a1, a2⟩ := hagree c
  rw [val_main_v9_eq (F := Ideal)]
  simp only [a0, a1, a2]

/-- The reference ends without a fault, with its arguments unchanged and its counters at zero. -/
theorem frame_reference : Cert.quiescent_Reference25Ideal := fun m ρ _ =>
  (θ_run Cert.Reference25Ideal.defs _ _).mono (fun r h => ⟨fun c => (h c).2, sem_eq_zero_of_no_sems (by decide) r.2⟩)
    (Cert.Reference25Ideal.Value.run m ρ)

end Cert.DwO
-- ==== Proof.DwOutA.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutA

open Cert.Kernel26Ideal Cert.Kernel26Ideal.Gen Cert.Reference26Ideal.Read

variable (m : (ℓ : Loc nD τ sig) → Buf (Elt Ideal) ℓ) (ρ : Dev nD → PrngReg)

/-- Every window's block index at every grid point. -/
theorem idx : ∀ t : Fin cfg0.N, win0_0.index t = ![t.val, 0]
    ∧ win0_1.index t = ![t.val, 0]
    ∧ win0_2.index t = ![0, 4, 0] :=
  (by decide +kernel : ∀ t : Fin grid0.N, _)

/-- The first point leaves its own product in the accumulator. -/
theorem acc_first (c : Dev nD) (t : Fin cfg0.N) (h0 : t.val % 4 = 0) (y : S1024x1024.Idx) :
    ((outsAt0 m c t.val t.isLt).2 y : EReal) = 0 + k0_pay1 (F := Ideal) (iblk m c 0 t) (iblk m c 1 t) y := by
  have ht := lt_of_lt_of_eq t.isLt N_0
  rw [outsAt0_A m c t h0 (by omega) (by omega), zero_add]
  frame_out
  pointwise [k0_pay2]

/-- Every other point adds its product to what the point before left. -/
theorem acc_next (c : Dev nD) (t : Fin cfg0.N) (h0 : ¬t.val % 4 = 0) (y : S1024x1024.Idx) :
    ((outsAt0 m c t.val t.isLt).2 y : EReal)
      = (outsAt0 m c (t.val - 1) (Nat.lt_of_le_of_lt (Nat.sub_le _ _) t.isLt)).2 y + k0_pay1 (F := Ideal) (iblk m c 0 t) (iblk m c 1 t) y := by
  have key : (outsAt0 m c t.val t.isLt).2
      = k0_pay3 (F := Ideal) (iblk m c 0 t) (iblk m c 1 t) (outsAt0 m c (t.val - 1) (Nat.lt_of_le_of_lt (Nat.sub_le _ _) t.isLt)).2 := by
    by_cases h2 : t.val % 4 = 3
    · rw [outsAt0_C m c t h0 (by omega) h2]
      frame_out
      exact congrArg _ (Memref.IsWhole.read_unread (m := Memref.whole cc0_scratch0) _ _)
    · rw [outsAt0_B m c t h0 (by omega) h2]
      frame_out
      exact congrArg _ (Memref.IsWhole.read_unread (m := Memref.whole cc0_scratch0) _ _)
  rw [key]
  pointwise [k0_pay3]

/-- The last point writes the accumulator out, its rows gathered by device. -/
theorem out_last (c : Dev nD) (t : Fin cfg0.N) (h2 : t.val % 4 = 3) (d : Fin 8) (r : Fin 128) (k : Fin 1024) :
    ((outsAt0 m c t.val t.isLt).1 (ix3 d r k) : EReal) = (outsAt0 m c t.val t.isLt).2 (ix2 ⟨d.val * 128 + r.val, by omega⟩ k) := by
  rw [outsAt0_C m c t (by omega) (by omega) h2]
  frame_out
  pointwise [k0_pay4, k0_pay3]

/-- A row of the gradient in the reference. -/
theorem ref_new (x y : FVec Ideal S8192x1024 .bf16) (z : FVec Ideal S8x896x1024 .bf16) (d : Fin 8) (r : Fin 128) (k : Fin 1024) :
    (val_main_v11 (F := Ideal) x y z (ix3 d ⟨512 + r.val, by omega⟩ k) : EReal) = ∑ l : Fin 8192, x (ix2 l ⟨d.val * 128 + r.val, by omega⟩) * y (ix2 l k) := by
  pointwise [val_main_v11, val_main_v9, val_main_v8, val_main_v7, val_main_v5, val_main_v4, val_main_v3, val_main_v1]
  rw [dif_pos (by omega : 512 + r.val < 640)]
  exact Finset.sum_congr rfl fun l _ => mul_comm (G := EReal) _ _

/-- Any other row. -/
theorem ref_old (x y : FVec Ideal S8192x1024 .bf16) (z : FVec Ideal S8x896x1024 .bf16) (d : Fin 8) (r : Fin 896) (k : Fin 1024) (h : ¬r.val / 128 = 4) :
    (val_main_v11 (F := Ideal) x y z (ix3 d r k) : EReal) = z (ix3 d r k) := by
  pointwise [val_main_v11, val_main_v10, val_main_v9, val_main_v6]
  by_cases h1 : r.val < 640
  · have h2 : r.val < 512 := by omega
    rw [dif_pos h1, dif_pos h2]
  · rw [dif_neg h1, (Fin.ext (by dsimp only; omega) : (⟨640 + (r.val - 640), by omega⟩ : Fin 896) = r)]

/-- Before the first grid point the result array holds the third argument. -/
theorem before (c : Dev nD) (d : Fin 8) (r : Fin 896) (k : Fin 1024) :
    (V m c main_v0 (ix3 d r k) : EReal) = m ((c.tc : Thread nD τ).loc main_arg2) (ix3 d r k) := by
  entry_read
  rfl

/-- The left factor's transpose. -/
abbrev Ka (c : Dev nD) : FVec Ideal S8192x1024 .bf16 := m ((c.tc : Thread nD τ).loc main_arg0)
/-- The right factor. -/
abbrev Kb (c : Dev nD) : FVec Ideal S8192x1024 .bf16 := m ((c.tc : Thread nD τ).loc main_arg1)

/-- The product of the whole rows, from the products of the grid points. -/
theorem prod (c : Dev nD) (t : Fin cfg0.N) (h3 : t.val % 4 = 3) (i k : Fin 1024) :
    ((outsAt0 m c t.val t.isLt).2 (ix2 i k) : EReal)
      = ∑ l : Fin 8192, Ka m c (ix2 l i) * Kb m c (ix2 l k) := by
  rw [Pipeline.eq_sum_fin_of_reset_step_apply_of_flush (fun n h => ((outsAt0 m c n h).2 : S1024x1024.Idx → EReal)) 4 (fun _ => 0) _
      (acc_first m c) (acc_next m c) t h3 _, zero_add]
  pointwise [k0_pay1]
  refine Fin.sum_mul_add_congr fun s k hl => ?_
  have ht := lt_of_lt_of_eq t.isLt N_0
  blk_point [iblk, V, idx t, idx ⟨_, Pipeline.run_point_lt_of_flush t h3 s⟩]

/-- After the last grid point the result array is what the reference computes: the rows written hold the gradient, the others what they held. -/
theorem fin2 (c : Dev nD) : (dats m 0 c).arrAt 2 (cfgs 0).N
    = val_main_v11 (F := Ideal) (m ((c.tc : Thread nD τ).loc main_arg0)) (m ((c.tc : Thread nD τ).loc main_arg1)) (m ((c.tc : Thread nD τ).loc main_arg2)) := by
  refine (dats m 0 c).arrAt_eq_of_coversWhere_of_agree 2 _ (fun β => β (1 : Fin 3) = 4) (by decide +kernel) (fun t hf y => ?_) (fun j hj => ?_)
  · have h3 := (flush0_2 t).mp hf
    rw [after0_2]
    idx_vars y
    refine ((out_last m c t h3 y0 y1 y2).trans ((prod m c t h3 _ _).trans (ref_new _ _ (m ((c.tc : Thread nD τ).loc main_arg2)) y0 y1 y2).symm)).trans ?_
    blk_point [idx t]
  · blk_simp [Pipeline.Window.cell_apply] at hj
    rw [A_eq]
    idx_vars j
    exact (before m c j0 j1 j2).trans (ref_old _ _ _ _ _ _ hj).symm

/-- The call for the gradient of the first branch's output weight and its reference compute the same array over the extended reals. -/
theorem algebraic : Cert.algebraic_Kernel26Ideal_Reference26Ideal := by
  intro m g m' g' _ hagree
  refine ⟨fun c => val_main_v11 (F := Ideal) (m ((c.tc : Thread nD τ).loc main_arg0)) (m ((c.tc : Thread nD τ).loc main_arg1)) (m ((c.tc : Thread nD τ).loc main_arg2)),
    (θ_run _ _ _).mono (fun r h c => ⟨(h c).1.trans (fin2 m c), (h c).2⟩) (Cert.Kernel26Ideal.Value.run_blocks m g),
    (θ_run _ _ _).mono (fun r h c => ⟨(h c).1.trans ?_, (h c).2⟩) (Cert.Reference26Ideal.Value.run m' g')⟩
  obtain ⟨a0, a1, a2⟩ := hagree c
  rw [val_main_v11_eq (F := Ideal)]
  simp only [a0, a1, a2]

/-- The reference ends without a fault, with its arguments unchanged and its counters at zero. -/
theorem frame_reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run m ρ)

end Cert.DwOutA
-- ==== Proof.DwOutB.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutB

open Cert.Kernel27Ideal Cert.Kernel27Ideal.Gen Cert.Reference27Ideal.Read

variable (m : (ℓ : Loc nD τ sig) → Buf (Elt Ideal) ℓ) (ρ : Dev nD → PrngReg)

/-- Every window's block index at every grid point. -/
theorem idx : ∀ t : Fin cfg0.N, win0_0.index t = ![t.val, 0]
    ∧ win0_1.index t = ![t.val, 0]
    ∧ win0_2.index t = ![0, 5, 0] :=
  (by decide +kernel : ∀ t : Fin grid0.N, _)

/-- The first point leaves its own product in the accumulator. -/
theorem acc_first (c : Dev nD) (t : Fin cfg0.N) (h0 : t.val % 4 = 0) (y : S1024x1024.Idx) :
    ((outsAt0 m c t.val t.isLt).2 y : EReal) = 0 + k0_pay1 (F := Ideal) (iblk m c 0 t) (iblk m c 1 t) y := by
  have ht := lt_of_lt_of_eq t.isLt N_0
  rw [outsAt0_A m c t h0 (by omega) (by omega), zero_add]
  frame_out
  pointwise [k0_pay2]

/-- Every other point adds its product to what the point before left. -/
theorem acc_next (c : Dev nD) (t : Fin cfg0.N) (h0 : ¬t.val % 4 = 0) (y : S1024x1024.Idx) :
    ((outsAt0 m c t.val t.isLt).2 y : EReal)
      = (outsAt0 m c (t.val - 1) (Nat.lt_of_le_of_lt (Nat.sub_le _ _) t.isLt)).2 y + k0_pay1 (F := Ideal) (iblk m c 0 t) (iblk m c 1 t) y := by
  have key : (outsAt0 m c t.val t.isLt).2
      = k0_pay3 (F := Ideal) (iblk m c 0 t) (iblk m c 1 t) (outsAt0 m c (t.val - 1) (Nat.lt_of_le_of_lt (Nat.sub_le _ _) t.isLt)).2 := by
    by_cases h2 : t.val % 4 = 3
    · rw [outsAt0_C m c t h0 (by omega) h2]
      frame_out
      exact congrArg _ (Memref.IsWhole.read_unread (m := Memref.whole cc0_scratch0) _ _)
    · rw [outsAt0_B m c t h0 (by omega) h2]
      frame_out
      exact congrArg _ (Memref.IsWhole.read_unread (m := Memref.whole cc0_scratch0) _ _)
  rw [key]
  pointwise [k0_pay3]

/-- The last point writes the accumulator out, its rows gathered by device. -/
theorem out_last (c : Dev nD) (t : Fin cfg0.N) (h2 : t.val % 4 = 3) (d : Fin 8) (r : Fin 128) (k : Fin 1024) :
    ((outsAt0 m c t.val t.isLt).1 (ix3 d r k) : EReal) = (outsAt0 m c t.val t.isLt).2 (ix2 ⟨d.val * 128 + r.val, by omega⟩ k) := by
  rw [outsAt0_C m c t (by omega) (by omega) h2]
  frame_out
  pointwise [k0_pay4, k0_pay3]

/-- A row of the gradient in the reference. -/
theorem ref_new (x y : FVec Ideal S8192x1024 .bf16) (z : FVec Ideal S8x896x1024 .bf16) (d : Fin 8) (r : Fin 128) (k : Fin 1024) :
    (val_main_v11 (F := Ideal) x y z (ix3 d ⟨640 + r.val, by omega⟩ k) : EReal) = ∑ l : Fin 8192, x (ix2 l ⟨d.val * 128 + r.val, by omega⟩) * y (ix2 l k) := by
  pointwise [val_main_v11, val_main_v9, val_main_v8, val_main_v7, val_main_v5, val_main_v4, val_main_v3, val_main_v1]
  rw [dif_pos (by omega : 640 + r.val < 768)]
  exact Finset.sum_congr rfl fun l _ => mul_comm (G := EReal) _ _

/-- Any other row. -/
theorem ref_old (x y : FVec Ideal S8192x1024 .bf16) (z : FVec Ideal S8x896x1024 .bf16) (d : Fin 8) (r : Fin 896) (k : Fin 1024) (h : ¬r.val / 128 = 5) :
    (val_main_v11 (F := Ideal) x y z (ix3 d r k) : EReal) = z (ix3 d r k) := by
  pointwise [val_main_v11, val_main_v10, val_main_v9, val_main_v6]
  by_cases h1 : r.val < 768
  · have h2 : r.val < 640 := by omega
    rw [dif_pos h1, dif_pos h2]
  · rw [dif_neg h1, (Fin.ext (by dsimp only; omega) : (⟨768 + (r.val - 768), by omega⟩ : Fin 896) = r)]

/-- Before the first grid point the result array holds the third argument. -/
theorem before (c : Dev nD) (d : Fin 8) (r : Fin 896) (k : Fin 1024) :
    (V m c main_v0 (ix3 d r k) : EReal) = m ((c.tc : Thread nD τ).loc main_arg2) (ix3 d r k) := by
  entry_read
  rfl

/-- The left factor's transpose. -/
abbrev Ka (c : Dev nD) : FVec Ideal S8192x1024 .bf16 := m ((c.tc : Thread nD τ).loc main_arg0)
/-- The right factor. -/
abbrev Kb (c : Dev nD) : FVec Ideal S8192x1024 .bf16 := m ((c.tc : Thread nD τ).loc main_arg1)

/-- The product of the whole rows, from the products of the grid points. -/
theorem prod (c : Dev nD) (t : Fin cfg0.N) (h3 : t.val % 4 = 3) (i k : Fin 1024) :
    ((outsAt0 m c t.val t.isLt).2 (ix2 i k) : EReal)
      = ∑ l : Fin 8192, Ka m c (ix2 l i) * Kb m c (ix2 l k) := by
  rw [Pipeline.eq_sum_fin_of_reset_step_apply_of_flush (fun n h => ((outsAt0 m c n h).2 : S1024x1024.Idx → EReal)) 4 (fun _ => 0) _
      (acc_first m c) (acc_next m c) t h3 _, zero_add]
  pointwise [k0_pay1]
  refine Fin.sum_mul_add_congr fun s k hl => ?_
  have ht := lt_of_lt_of_eq t.isLt N_0
  blk_point [iblk, V, idx t, idx ⟨_, Pipeline.run_point_lt_of_flush t h3 s⟩]

/-- After the last grid point the result array is what the reference computes: the rows written hold the gradient, the others what they held. -/
theorem fin2 (c : Dev nD) : (dats m 0 c).arrAt 2 (cfgs 0).N
    = val_main_v11 (F := Ideal) (m ((c.tc : Thread nD τ).loc main_arg0)) (m ((c.tc : Thread nD τ).loc main_arg1)) (m ((c.tc : Thread nD τ).loc main_arg2)) := by
  refine (dats m 0 c).arrAt_eq_of_coversWhere_of_agree 2 _ (fun β => β (1 : Fin 3) = 5) (by decide +kernel) (fun t hf y => ?_) (fun j hj => ?_)
  · have h3 := (flush0_2 t).mp hf
    rw [after0_2]
    idx_vars y
    refine ((out_last m c t h3 y0 y1 y2).trans ((prod m c t h3 _ _).trans (ref_new _ _ (m ((c.tc : Thread nD τ).loc main_arg2)) y0 y1 y2).symm)).trans ?_
    blk_point [idx t]
  · blk_simp [Pipeline.Window.cell_apply] at hj
    rw [A_eq]
    idx_vars j
    exact (before m c j0 j1 j2).trans (ref_old _ _ _ _ _ _ hj).symm

/-- The call for the gradient of the second branch's output weight and its reference compute the same array over the extended reals. -/
theorem algebraic : Cert.algebraic_Kernel27Ideal_Reference27Ideal := by
  intro m g m' g' _ hagree
  refine ⟨fun c => val_main_v11 (F := Ideal) (m ((c.tc : Thread nD τ).loc main_arg0)) (m ((c.tc : Thread nD τ).loc main_arg1)) (m ((c.tc : Thread nD τ).loc main_arg2)),
    (θ_run _ _ _).mono (fun r h c => ⟨(h c).1.trans (fin2 m c), (h c).2⟩) (Cert.Kernel27Ideal.Value.run_blocks m g),
    (θ_run _ _ _).mono (fun r h c => ⟨(h c).1.trans ?_, (h c).2⟩) (Cert.Reference27Ideal.Value.run m' g')⟩
  obtain ⟨a0, a1, a2⟩ := hagree c
  rw [val_main_v11_eq (F := Ideal)]
  simp only [a0, a1, a2]

/-- The reference ends without a fault, with its arguments unchanged and its counters at zero. -/
theorem frame_reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run m ρ)

end Cert.DwOutB
-- ==== Proof.MixA.lean ====
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixA

open Cert.Kernel28Ideal Cert.Kernel28Ideal.Gen Cert.Reference28Ideal.Read

variable (m : (ℓ : Loc nD τ sig) → Buf (Elt Ideal) ℓ) (ρ : Dev nD → PrngReg)

/-- Thirty-two rows of the products with the rows before them. -/
abbrev win (E : FVec Ideal S288x1024 .f32) (off : Fin 2 → ℕ) (inb : ∀ a, off a + (![32, 1024] : Fin 2 → ℕ) a ≤ S288x1024.size a) : FVec Ideal S32x1024 .f32 :=
  View.ld (Val := Elt Ideal) (e' := .f32) E (Rect.unit off ![32, 1024] inb)

/-- One tap, spread over eight rows. -/
abbrev tap (T : FVec Ideal S3x8x1024 .f32) (off : Fin 3 → ℕ) (inb : ∀ a, off a + (![1, 8, 1024] : Fin 3 → ℕ) a ≤ S3x8x1024.size a) : FVec Ideal S1x8x1024 .f32 :=
  View.ld (Val := Elt Ideal) (e' := .f32) T (Rect.unit off ![1, 8, 1024] inb)

/-- The eight stores of one block's gated convolution, from the block of projections, the products with the rows before
    them, and the spread taps. -/
abbrev stores (P : FVec Ideal S256x9216 .bf16) (E : FVec Ideal S288x1024 .f32) (T : FVec Ideal S3x8x1024 .f32) : FVec Ideal S256x1024 .bf16 :=
  View.canon (Val := Elt Ideal) (s := S256x1024) (e := .bf16)
   [⟨Rect.unit ![224, 0] ![32, 1024] inb_S256x1024_S32x1024_224_0, k0_pay193 (k0_pay192 (win E ![254, 0] inb_S288x1024_S32x1024_254_0) (tap T ![0, 0, 0] inb_S3x8x1024_S1x8x1024_0_0_0) (win E ![255, 0] inb_S288x1024_S32x1024_255_0) (tap T ![1, 0, 0] inb_S3x8x1024_S1x8x1024_1_0_0)) (win E ![256, 0] inb_S288x1024_S32x1024_256_0) (tap T ![2, 0, 0] inb_S3x8x1024_S1x8x1024_2_0_0) (View.ld (Val := Elt Ideal) (e' := .bf16) P (Rect.unit ![224, 0] ![32, 1024] inb_S256x9216_S32x1024_224_0))⟩,
    ⟨Rect.unit ![192, 0] ![32, 1024] inb_S256x1024_S32x1024_192_0, k0_pay174 (k0_pay173 (win E ![222, 0] inb_S288x1024_S32x1024_222_0) (tap T ![0, 0, 0] inb_S3x8x1024_S1x8x1024_0_0_0) (win E ![223, 0] inb_S288x1024_S32x1024_223_0) (tap T ![1, 0, 0] inb_S3x8x1024_S1x8x1024_1_0_0) (win E ![224, 0] inb_S288x1024_S32x1024_224_0) (tap T ![2, 0, 0] inb_S3x8x1024_S1x8x1024_2_0_0)) (View.ld (Val := Elt Ideal) (e' := .bf16) P (Rect.unit ![192, 0] ![32, 1024] inb_S256x9216_S32x1024_192_0))⟩,
    ⟨Rect.unit ![160, 0] ![32, 1024] inb_S256x1024_S32x1024_160_0, k0_pay154 (FloatOps.ofBits FTy.f32 0#32) (win E ![190, 0] inb_S288x1024_S32x1024_190_0) (tap T ![0, 0, 0] inb_S3x8x1024_S1x8x1024_0_0_0) (win E ![191, 0] inb_S288x1024_S32x1024_191_0) (tap T ![1, 0, 0] inb_S3x8x1024_S1x8x1024_1_0_0) (win E ![192, 0] inb_S288x1024_S32x1024_192_0) (tap T ![2, 0, 0] inb_S3x8x1024_S1x8x1024_2_0_0) (View.ld (Val := Elt Ideal) (e' := .bf16) P (Rect.unit ![160, 0] ![32, 1024] inb_S256x9216_S32x1024_160_0))⟩,
    ⟨Rect.unit ![128, 0] ![32, 1024] inb_S256x1024_S32x1024_128_0, k0_pay136 k0_pay134 (k0_pay135 (win E ![158, 0] inb_S288x1024_S32x1024_158_0) (tap T ![0, 0, 0] inb_S3x8x1024_S1x8x1024_0_0_0)) (win E ![159, 0] inb_S288x1024_S32x1024_159_0) (tap T ![1, 0, 0] inb_S3x8x1024_S1x8x1024_1_0_0) (win E ![160, 0] inb_S288x1024_S32x1024_160_0) (tap T ![2, 0, 0] inb_S3x8x1024_S1x8x1024_2_0_0) (View.ld (Val := Elt Ideal) (e' := .bf16) P (Rect.unit ![128, 0] ![32, 1024] inb_S256x9216_S32x1024_128_0))⟩,
    ⟨Rect.unit ![96, 0] ![32, 1024] inb_S256x1024_S32x1024_96_0, k0_pay115 (k0_pay113 (win E ![126, 0] inb_S288x1024_S32x1024_126_0) (tap T ![0, 0, 0] inb_S3x8x1024_S1x8x1024_0_0_0)) (k0_pay114 (win E ![127, 0] inb_S288x1024_S32x1024_127_0) (tap T ![1, 0, 0] inb_S3x8x1024_S1x8x1024_1_0_0)) (win E ![128, 0] inb_S288x1024_S32x1024_128_0) (tap T ![2, 0, 0] inb_S3x8x1024_S1x8x1024_2_0_0) (View.ld (Val := Elt Ideal) (e' := .bf16) P (Rect.unit ![96, 0] ![32, 1024] inb_S256x9216_S32x1024_96_0))⟩,
    ⟨Rect.unit ![64, 0] ![32, 1024] inb_S256x1024_S32x1024_64_0, k0_pay97 (k0_pay95 (win E ![94, 0] inb_S288x1024_S32x1024_94_0) (tap T ![0, 0, 0] inb_S3x8x1024_S1x8x1024_0_0_0) (win E ![95, 0] inb_S288x1024_S32x1024_95_0) (tap T ![1, 0, 0] inb_S3x8x1024_S1x8x1024_1_0_0)) (k0_pay96 (win E ![96, 0] inb_S288x1024_S32x1024_96_0) (tap T ![2, 0, 0] inb_S3x8x1024_S1x8x1024_2_0_0)) (View.ld (Val := Elt Ideal) (e' := .bf16) P (Rect.unit ![64, 0] ![32, 1024] inb_S256x9216_S32x1024_64_0))⟩,
    ⟨Rect.unit ![32, 0] ![32, 1024] inb_S256x1024_S32x1024_32_0, k0_pay78 (win E ![62, 0] inb_S288x1024_S32x1024_62_0) (tap T ![0, 0, 0] inb_S3x8x1024_S1x8x1024_0_0_0) (win E ![63, 0] inb_S288x1024_S32x1024_63_0) (tap T ![1, 0, 0] inb_S3x8x1024_S1x8x1024_1_0_0) (win E ![64, 0] inb_S288x1024_S32x1024_64_0) (tap T ![2, 0, 0] inb_S3x8x1024_S1x8x1024_2_0_0) (View.ld (Val := Elt Ideal) (e' := .bf16) P (Rect.unit ![32, 0] ![32, 1024] inb_S256x9216_S32x1024_32_0))⟩,
    ⟨Rect.unit ![0, 0] ![32, 1024] inb_S256x1024_S32x1024_0_0, k0_pay61 k0_pay58 (k0_pay59 (tap T ![0, 0, 0] inb_S3x8x1024_S1x8x1024_0_0_0)) (k0_pay60 (win E ![30, 0] inb_S288x1024_S32x1024_30_0)) (win E ![31, 0] inb_S288x1024_S32x1024_31_0) (tap T ![1, 0, 0] inb_S3x8x1024_S1x8x1024_1_0_0) (win E ![32, 0] inb_S288x1024_S32x1024_32_0) (tap T ![2, 0, 0] inb_S3x8x1024_S1x8x1024_2_0_0) (View.ld (Val := Elt Ideal) (e' := .bf16) P (Rect.unit ![0, 0] ![32, 1024] inb_S256x9216_S32x1024_0_0))⟩]

/-- An element of the block of projections, however its row is named. -/
theorem at_row (P : FVec Ideal S256x9216 .bf16) (i j : Fin 256) (k : Fin 9216) (h : i.val = j.val) : (P (ix2 i k) : EReal) = P (ix2 j k) := by
  rw [Fin.ext h]

/-- A term, however its row is named. -/
theorem row_of (E : FVec Ideal S288x1024 .f32) (i j : Fin 288) (w : EReal) (k : Fin 1024) (h : i.val = j.val) : (E (ix2 i k) : EReal) * w = E (ix2 j k) * w := by
  rw [Fin.ext h]

/-- What the stores hold at a row and a column: the three taps' terms, times the gate. -/
theorem stores_at (P : FVec Ideal S256x9216 .bf16) (E : FVec Ideal S288x1024 .f32) (T : FVec Ideal S3x8x1024 .f32) (w : Fin 3 → Fin 1024 → EReal)
    (hT : ∀ q s k, (T (ix3 q s k) : EReal) = w q k) (r : Fin 256) (k : Fin 1024) :
    (stores P E T (ix2 r k) : EReal) = P (ix2 r ⟨k.val, by omega⟩)
      * (E (ix2 ⟨30 + r.val, by omega⟩ k) * w 0 k + E (ix2 ⟨31 + r.val, by omega⟩ k) * w 1 k + E (ix2 ⟨32 + r.val, by omega⟩ k) * w 2 k) := by
  unfold stores
  canon_tiles x h
  all_goals idx_vars x
  all_goals pointwise [win, tap, k0_pay61, k0_pay58, k0_pay59, k0_pay60, k0_pay78, k0_pay97, k0_pay95, k0_pay96, k0_pay115, k0_pay113, k0_pay114, k0_pay136, k0_pay134, k0_pay135, k0_pay154, k0_pay174, k0_pay173, k0_pay193, k0_pay192]
  all_goals obtain rfl : k = x1 := Fin.ext h1
  all_goals simp only [hT]
  all_goals exact congrArg₂ (· * ·) (at_row P _ _ _ (by dsimp only; omega)) (congrArg₂ (· + ·) (congrArg₂ (· + ·) (row_of E _ _ _ k (by dsimp only; omega)) (row_of E _ _ _ k (by dsimp only; omega))) (row_of E _ _ _ k (by dsimp only; omega)))

/-- The spread taps, from the three stores. -/
abbrev taps (W : FVec Ideal S3x1024 .f32) : FVec Ideal S3x8x1024 .f32 :=
  View.canon (Val := Elt Ideal) (s := S3x8x1024) (e := .f32)
    [⟨Rect.unit ![2, 0, 0] ![1, 8, 1024] inb_S3x8x1024_S1x8x1024_2_0_0, k0_pay5 (F := Ideal) (View.ld (Val := Elt Ideal) (e' := .f32) W (Rect.unit ![2, 0] ![1, 1024] inb_S3x1024_S1x1024_2_0))⟩,
      ⟨Rect.unit ![1, 0, 0] ![1, 8, 1024] inb_S3x8x1024_S1x8x1024_1_0_0, k0_pay4 (F := Ideal) (View.ld (Val := Elt Ideal) (e' := .f32) W (Rect.unit ![1, 0] ![1, 1024] inb_S3x1024_S1x1024_1_0))⟩,
      ⟨Rect.unit ![0, 0, 0] ![1, 8, 1024] inb_S3x8x1024_S1x8x1024_0_0_0, k0_pay3 (F := Ideal) (View.ld (Val := Elt Ideal) (e' := .f32) W (Rect.unit ![0, 0] ![1, 1024] inb_S3x1024_S1x1024_0_0))⟩]

/-- Each of the eight rows of a spread tap is the tap. -/
theorem taps_at (W : FVec Ideal S3x1024 .f32) (q : Fin 3) (s : Fin 8) (k : Fin 1024) : (taps W (ix3 q s k) : EReal) = W (ix2 q k) := by
  unfold taps
  canon_tiles x h
  all_goals idx_vars x
  all_goals pointwise [k0_pay3, k0_pay4, k0_pay5]
  all_goals obtain rfl : k = x2 := Fin.ext h2
  all_goals exact congrArg (fun n => W (ix2 n k)) (Fin.ext (by simp; omega))

/-- The two stores of the products with the rows before them. -/
abbrev prodPieces (i : grid0.Coords) (P : FVec Ideal S256x9216 .bf16) (H : FVec Ideal S32x6144 .bf16) : List (View.Piece (Elt Ideal) S288x1024 .f32) :=
    [⟨Rect.unit ![32, 0] ![256, 1024] inb_S288x1024_S256x1024_32_0,
        k0_pay48 (F := Ideal) (k0_pay47 (View.ld (Val := Elt Ideal) (e' := .bf16) P (Rect.unit ![0, 1024] ![256, 1024] inb_S256x9216_S256x1024_0_1024))
          (View.ld (Val := Elt Ideal) (e' := .bf16) P (Rect.unit ![0, 2048] ![256, 1024] inb_S256x9216_S256x1024_0_2048)))⟩,
      ⟨Rect.unit ![0, 0] ![32, 1024] inb_S288x1024_S32x1024_0_0,
        k0_pay44 (F := Ideal) (k0_pay2 i) (k0_pay43 (View.ld (Val := Elt Ideal) (e' := .bf16) H (Rect.unit ![0, 1024] ![32, 1024] inb_S32x6144_S32x1024_0_1024)))
          (View.ld (Val := Elt Ideal) (e' := .bf16) H (Rect.unit ![0, 2048] ![32, 1024] inb_S32x6144_S32x1024_0_2048))⟩]

/-- The products with the rows before them, from the two stores. -/
abbrev prods (i : grid0.Coords) (P : FVec Ideal S256x9216 .bf16) (H : FVec Ideal S32x6144 .bf16) : FVec Ideal S288x1024 .f32 :=
  View.canon (Val := Elt Ideal) (s := S288x1024) (e := .f32) (prodPieces i P H)

/-- The two stores cover the buffer. -/
theorem prods_cover (i : grid0.Coords) (P : FVec Ideal S256x9216 .bf16) (H : FVec Ideal S32x6144 .bf16) (j : Fin 288) (k : Fin 1024) :
    ∃ p ∈ prodPieces i P H, ix2 j k ∈ p.1.set := by
  have hj := j.isLt
  have hk := k.isLt
  unfold prodPieces
  by_cases h : 32 ≤ j.val
  · refine ⟨_, List.mem_cons_self, ?_⟩
    rw [Rect.mem_set_unit]
    intro a
    fin_cases a <;> simp <;> omega
  · refine ⟨_, List.mem_cons_of_mem _ List.mem_cons_self, ?_⟩
    rw [Rect.mem_set_unit]
    intro a
    fin_cases a <;> simp <;> omega

/-- A row of the block itself. -/
theorem prods_new (i : grid0.Coords) (P : FVec Ideal S256x9216 .bf16) (H : FVec Ideal S32x6144 .bf16) (j : Fin 288) (r : Fin 256) (k : Fin 1024) (hj : j.val = 32 + r.val) :
    (prods i P H (ix2 j k) : EReal) = P (ix2 r ⟨1024 + k.val, by omega⟩) * P (ix2 r ⟨2048 + k.val, by omega⟩) := by
  unfold prods
  have cover := prods_cover i P H j k
  canon_tiles x h using cover
  all_goals idx_vars x
  · pointwise [k0_pay48, k0_pay47]
    obtain rfl : k = x1 := Fin.ext h1
    obtain rfl : r = x0 := Fin.ext (by omega)
    rfl
  · omega

/-- A row before the block, which the first block has as zero. -/
theorem prods_old (i : grid0.Coords) (P : FVec Ideal S256x9216 .bf16) (H : FVec Ideal S32x6144 .bf16) (j : Fin 288) (r : Fin 32) (k : Fin 1024) (hj : j.val = r.val) :
    (prods i P H (ix2 j k) : EReal) = H (ix2 r ⟨1024 + k.val, by omega⟩) * H (ix2 r ⟨2048 + k.val, by omega⟩) * (k0_pay2 (F := Ideal) i : EReal) := by
  unfold prods
  have cover := prods_cover i P H j k
  canon_tiles x h using cover
  all_goals idx_vars x
  · omega
  · pointwise [k0_pay44, k0_pay43]
    obtain rfl : k = x1 := Fin.ext h1
    obtain rfl : r = x0 := Fin.ext (by omega)
    rfl

/-- Whether there are rows before a block, as an integer. -/
theorem inner : ∀ t : Fin cfg0.N, (Scalar.extui (Scalar.cmpi .sgt (BitVec.ofNat 32 (grid0.coords t 0).val) 0#32) : BitVec 32).toInt = if t.val = 0 then 0 else 1 :=
  (by decide +kernel : ∀ t : Fin grid0.N, _)

/-- What the rows before the block are multiplied by. -/
theorem keep (t : Fin cfg0.N) : (k0_pay2 (F := Ideal) (grid0.coords t) : EReal) = if t.val = 0 then 0 else 1 := by
  unfold k0_pay2
  dsimp only
  rw [Ideal.scalar_sitofp_def, inner t]
  split <;> simp

/-- Every window's block index at every grid point. -/
theorem idx : ∀ t : Fin cfg0.N, win0_0.index t = ![t.val, 0]
    ∧ win0_1.index t = ![t.val * 8 - 1, 0]
    ∧ win0_3.index t = ![0, 0]
    ∧ win0_11.index t = ![0, 4, 0]
    ∧ win0_15.index t = ![t.val, 0]
    ∧ win0_19.index t = ![t.val, 0] :=
  (by decide +kernel : ∀ t : Fin grid0.N, _)

/-- The projections, whole. -/
abbrev X (c : Dev nD) : FVec Ideal S8192x9216 .bf16 := m ((c.tc : Thread nD τ).loc main_arg0)
/-- The three taps. -/
abbrev W (c : Dev nD) : FVec Ideal S3x1024 .f32 := m ((c.tc : Thread nD τ).loc main_arg2)
/-- The branch's output weight. -/
abbrev O (c : Dev nD) : FVec Ideal S1024x1024 .f32 := m ((c.tc : Thread nD τ).loc main_arg11)

/-- Window 0 brings 256 rows of the projections. -/
theorem blk0 (c : Dev nD) (t : Fin cfg0.N) (r : Fin 256) (q : Fin 9216) (R : Fin 8192) (hR : R.val = t.val * 256 + r.val) :
    (iblk m c 0 t (ix2 r q) : EReal) = X m c (ix2 R q) := by
  blk_ext [iblk, V, idx t]

/-- Window 1 brings the 32 rows before them, of the first six sections. -/
theorem blk1 (c : Dev nD) (t : Fin cfg0.N) (r : Fin 32) (q : Fin 6144) (R : Fin 8192) (hR : R.val = (t.val * 8 - 1) * 32 + r.val) :
    (X0_1 m c t (ix2 r q) : EReal) = X m c (ix2 R ⟨q.val, by omega⟩) := by
  unfold X0_1 Pipeline.Window.fill
  rw [dif_pos (moved0_1 t _)]
  blk_ext [iblk, V, idx t]

/-- Window 3 brings the taps. -/
theorem blk3 (c : Dev nD) (t : Fin cfg0.N) (q : Fin 3) (k : Fin 1024) : (iblk m c 3 t (ix2 q k) : EReal) = W m c (ix2 q k) := by
  blk_ext [iblk, V, idx t]

/-- The gathered row weights: rows 512 to 639 of device `d`'s part are its rows of the branch's output weight. -/
theorem pack (c : Dev nD) (d : Fin 8) (r : Fin 128) (j : Fin 1024) :
    (V m c main_v10 (ix3 d ⟨512 + r.val, by omega⟩ j) : EReal) = O m c (ix2 ⟨d.val * 128 + r.val, by omega⟩ j) := by
  entry_read
  pointwise
  rw [dif_pos (by omega)]

/-- Window 11 brings those rows of every device. -/
theorem blk11 (c : Dev nD) (t : Fin cfg0.N) (d : Fin 8) (r : Fin 128) (j : Fin 1024) :
    (iblk m c 11 t (ix3 d r j) : EReal) = O m c (ix2 ⟨d.val * 128 + r.val, by omega⟩ j) := by
  refine Eq.trans ?_ (pack m c d r j)
  blk_ext [iblk, idx t]

/-- The reference's products with two rows of zeros before them: a row of products. -/
theorem before_new (x : FVec Ideal S8192x9216 .bf16) (n : Fin 8194) (R : Fin 8192) (k : Fin 1024) (hn : n.val = 2 + R.val) :
    (val_main_v8 (F := Ideal) x (ix2 n k) : EReal) = x (ix2 R ⟨1024 + k.val, by omega⟩) * x (ix2 R ⟨2048 + k.val, by omega⟩) := by
  pointwise [val_main_v8, val_main_v7, val_main_v6, val_main_v5, val_main_v4, val_main_v3, val_main_v2, val_main_cst]
  rw [dif_neg (by omega)]
  exact congrArg (fun R : Fin 8192 => x (ix2 R ⟨1024 + k.val, by omega⟩) * x (ix2 R ⟨2048 + k.val, by omega⟩)) (Fin.ext (by dsimp only; omega))

/-- One of the rows of zeros. -/
theorem before_old (x : FVec Ideal S8192x9216 .bf16) (n : Fin 8194) (k : Fin 1024) (hn : n.val < 2) : (val_main_v8 (F := Ideal) x (ix2 n k) : EReal) = 0 := by
  pointwise [val_main_v8, val_main_v7, val_main_v6, val_main_v5, val_main_v4, val_main_v3, val_main_v2, val_main_cst]
  rw [dif_pos (by omega)]

/-- The block's products with the rows before them are rows of the reference's. -/
theorem prods_eq (c : Dev nD) (t : Fin cfg0.N) (j : Fin 288) (k : Fin 1024) (n : Fin 8194) (hj : 30 ≤ j.val) (hn : n.val + 30 = t.val * 256 + j.val) :
    (prods (grid0.coords t) (iblk m c 0 t) (X0_1 m c t) (ix2 j k) : EReal) = val_main_v8 (F := Ideal) (X m c) (ix2 n k) := by
  have ht : t.val < 32 := lt_of_lt_of_eq t.isLt N_0
  by_cases h : 32 ≤ j.val
  · rw [prods_new _ _ _ j ⟨j.val - 32, by omega⟩ k (by dsimp only; omega), before_new _ n ⟨n.val - 2, by omega⟩ k (by dsimp only; omega)]
    exact congrArg₂ (· * ·) (blk0 m c t _ _ _ (by dsimp only; omega)) (blk0 m c t _ _ _ (by dsimp only; omega))
  · rw [prods_old _ _ _ j ⟨j.val, by omega⟩ k rfl, keep t]
    by_cases h0 : t.val = 0
    · rw [if_pos h0, before_old _ n k (by omega)]
      exact mul_zero _
    · rw [if_neg h0, before_new _ n ⟨n.val - 2, by omega⟩ k (by dsimp only; omega)]
      refine (mul_one _).trans ?_
      exact congrArg₂ (· * ·) (blk1 m c t _ _ _ (by dsimp only; omega)) (blk1 m c t _ _ _ (by dsimp only; omega))

/-- The reference's gated convolution at a row and a column. -/
theorem ref_a (x : FVec Ideal S8192x9216 .bf16) (w : FVec Ideal S3x1024 .f32) (R : Fin 8192) (k : Fin 1024) :
    (val_main_v31 (F := Ideal) x w (ix2 R k) : EReal) = x (ix2 R ⟨k.val, by omega⟩)
      * (val_main_v8 (F := Ideal) x (ix2 ⟨R.val, by omega⟩ k) * w (ix2 0 k) + val_main_v8 (F := Ideal) x (ix2 ⟨1 + R.val, by omega⟩ k) * w (ix2 1 k)
        + val_main_v8 (F := Ideal) x (ix2 ⟨2 + R.val, by omega⟩ k) * w (ix2 2 k)) := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v1, val_main_v0, val_main_cst_0]

/-- The block's gated convolution is the reference's. -/
theorem conv (c : Dev nD) (t : Fin cfg0.N) (r : Fin 256) (k : Fin 1024) (R : Fin 8192) (hR : R.val = t.val * 256 + r.val) :
    (stores (iblk m c 0 t) (prods (grid0.coords t) (iblk m c 0 t) (X0_1 m c t)) (taps (iblk m c 3 t)) (ix2 r k) : EReal)
      = val_main_v31 (F := Ideal) (X m c) (W m c) (ix2 R k) := by
  have ht : t.val < 32 := lt_of_lt_of_eq t.isLt N_0
  rw [stores_at _ _ _ (fun q k => W m c (ix2 q k)) (fun q s k => (taps_at _ q s k).trans (blk3 m c t q k)), ref_a, blk0 m c t r _ R hR,
    prods_eq m c t _ k ⟨R.val, by omega⟩ (by dsimp only; omega) (by dsimp only; omega), prods_eq m c t _ k ⟨1 + R.val, by omega⟩ (by dsimp only; omega) (by dsimp only; omega),
    prods_eq m c t _ k ⟨2 + R.val, by omega⟩ (by dsimp only; omega) (by dsimp only; omega)]

/-- The block of the first result after a grid point. -/
theorem out_a (c : Dev nD) (t : Fin cfg0.N) (r : Fin 256) (k : Fin 1024) :
    (outsAt0 m c t).1 (ix2 r k) = stores (iblk m c 0 t) (prods (grid0.coords t) (iblk m c 0 t) (X0_1 m c t)) (taps (iblk m c 3 t)) (ix2 r k) := by
  unfold outsAt0
  frame_out
  simp only [View.readCov_eq_canon']
  rfl

/-- The whole of an array, loaded, is the array. -/
theorem ld_whole (A : FVec Ideal S256x1024 .bf16) :
    View.ld (Val := Elt Ideal) (e' := .bf16) A (Rect.unit (s := S256x1024) ![0, 0] ![256, 1024] inb_S256x1024_S256x1024_0_0) = A :=
  View.ld_unit_lit (Val := Elt Ideal) (S := S256x1024) (e := .bf16) inb_S256x1024_S256x1024_0_0 A (by decide)

/-- The block of the second result after a grid point. -/
theorem out_y (c : Dev nD) (t : Fin cfg0.N) (r : Fin 256) (k : Fin 1024) :
    (outsAt0 m c t).2.2.2.2.1 (ix2 r k)
      = k0_pay225 (F := Ideal) (stores (iblk m c 0 t) (prods (grid0.coords t) (iblk m c 0 t) (X0_1 m c t)) (taps (iblk m c 3 t))) (iblk m c 11 t) (ix2 r k) := by
  unfold outsAt0
  frame_out
  simp only [View.readCov_eq_canon']
  exact congrArg (fun A => k0_pay225 (F := Ideal) A (iblk m c 11 t) (ix2 r k)) (ld_whole (stores (iblk m c 0 t) (prods (grid0.coords t) (iblk m c 0 t) (X0_1 m c t)) (taps (iblk m c 3 t))))

/-- The block of the second result is the reference's product. -/
theorem prod (c : Dev nD) (t : Fin cfg0.N) (r : Fin 256) (j : Fin 1024) (R : Fin 8192) (hR : R.val = t.val * 256 + r.val) :
    (k0_pay225 (F := Ideal) (stores (iblk m c 0 t) (prods (grid0.coords t) (iblk m c 0 t) (X0_1 m c t)) (taps (iblk m c 3 t))) (iblk m c 11 t) (ix2 r j) : EReal)
      = val_main_v34 (F := Ideal) (X m c) (W m c) (O m c) (ix2 R j) := by
  have hs := fun k => conv m c t r k R hR
  generalize stores (iblk m c 0 t) (prods (grid0.coords t) (iblk m c 0 t) (X0_1 m c t)) (taps (iblk m c 3 t)) = A at hs
  pointwise [k0_pay225, val_main_v34, val_main_v33, blk11, Nat.div_add_mod', hs]

/-- After the last grid point the first result array is what the reference computes. -/
theorem fin15 (c : Dev nD) : (dats m 0 c).arrAt 15 (cfgs 0).N = val_main_v32 (F := Ideal) (X m c) (W m c) := by
  refine (dats m 0 c).arrAt_eq_of_covers 15 _ (by decide +kernel) fun t hf y => ?_
  have ht : t.val < 32 := lt_of_lt_of_eq t.isLt N_0
  rw [after0_15]
  idx_vars y
  refine ((out_a m c t y0 y1).trans (conv m c t y0 y1 ⟨t.val * 256 + y0.val, by omega⟩ rfl)).trans ?_
  blk_point [idx t]

/-- After the last grid point the second result array is what the reference computes. -/
theorem fin19 (c : Dev nD) : (dats m 0 c).arrAt 19 (cfgs 0).N = val_main_v34 (F := Ideal) (X m c) (W m c) (O m c) := by
  refine (dats m 0 c).arrAt_eq_of_covers 19 _ (by decide +kernel) fun t hf y => ?_
  have ht : t.val < 32 := lt_of_lt_of_eq t.isLt N_0
  rw [after0_19]
  idx_vars y
  refine ((out_y m c t y0 y1).trans (prod m c t y0 y1 ⟨t.val * 256 + y0.val, by omega⟩ rfl)).trans ?_
  blk_point [idx t]

/-- The forward mixers' call and its reference compute the same two arrays over the extended reals. -/
theorem algebraic : Cert.algebraic_Kernel28Ideal_Reference28Ideal := by
  intro m g m' g' _ hagree
  refine ⟨fun c => val_main_v32 (F := Ideal) (X m c) (W m c), fun c => val_main_v34 (F := Ideal) (X m c) (W m c) (O m c),
    (θ_run _ _ _).mono (fun r h c => ?_) (Cert.Kernel28Ideal.Value.run_blocks m g),
    (θ_run _ _ _).mono (fun r h c => ?_) (Cert.Reference28Ideal.Value.run m' g')⟩
  · obtain ⟨h0, -, -, -, h4, -, -, -, -, -, hr⟩ := h c
    exact ⟨h0.trans (fin15 m c), h4.trans (fin19 m c), hr⟩
  · obtain ⟨a0, a1, a2, a3, a4, a5, a6, a7, a8, a9, a10, a11, a12, a13, a14⟩ := hagree c
    obtain ⟨h0, h1, hr⟩ := h c
    refine ⟨h0.trans ?_, h1.trans ?_, hr⟩
    · rw [val_main_v32_eq (F := Ideal)]
      simp only [a0, a2]
    · rw [val_main_v34_eq (F := Ideal)]
      simp only [a0, a2, a11]

/-- The reference ends without a fault, with its arguments unchanged and its counters at zero. -/
theorem frame_reference : Cert.quiescent_Reference28Ideal := fun m ρ _ =>
  (θ_run Cert.Reference28Ideal.defs _ _).mono (fun r h => ⟨fun c => (h c).2.2, sem_eq_zero_of_no_sems (by decide) r.2⟩)
    (Cert.Reference28Ideal.Value.run m ρ)

end Cert.MixA
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.MergeRun
public import proofs.«01_k».proof.Proof.Gen.Kernel2.Frame
public import proofs.«01_k».proof.Proof.Gen.Kernel2Ideal.Frame
public import proofs.«01_k».proof.Proof.Gen.Reference2Ideal
public import proofs.«01_k».proof.Proof.DwIn
public import proofs.«01_k».proof.Proof.Gen.Kernel3.Frame
public import proofs.«01_k».proof.Proof.Gen.Kernel3Ideal.Frame
public import proofs.«01_k».proof.Proof.Gen.Reference3Ideal
public import proofs.«01_k».proof.Proof.DHidden
public import proofs.«01_k».proof.Proof.Gen.Kernel4.Frame
public import proofs.«01_k».proof.Proof.Gen.Kernel4Ideal.Frame
public import proofs.«01_k».proof.Proof.Gen.Reference4Ideal
public import proofs.«01_k».proof.Proof.DAct
public import proofs.«01_k».proof.Proof.Gen.Kernel5.Frame
public import proofs.«01_k».proof.Proof.Gen.Kernel5Ideal.Frame
public import proofs.«01_k».proof.Proof.Gen.Reference5Ideal
public import proofs.«01_k».proof.Proof.DwUp
public import proofs.«01_k».proof.Proof.Gen.Kernel6.Frame
public import proofs.«01_k».proof.Proof.Gen.Kernel6Ideal.Frame
public import proofs.«01_k».proof.Proof.Gen.Reference6Ideal
public import proofs.«01_k».proof.Proof.InProj
public import proofs.«01_k».proof.Proof.Gen.Kernel7.Frame
public import proofs.«01_k».proof.Proof.Gen.Kernel7Ideal.Frame
public import proofs.«01_k».proof.Proof.Gen.Reference7Ideal
public import proofs.«01_k».proof.Proof.MlpUp
public import proofs.«01_k».proof.Proof.Gen.Kernel8.Frame
public import proofs.«01_k».proof.Proof.Gen.Kernel8Ideal.Frame
public import proofs.«01_k».proof.Proof.Gen.Reference8Ideal
public import proofs.«01_k».proof.Proof.MlpDown
public import proofs.«01_k».proof.Proof.Gen.Kernel9.Frame
public import proofs.«01_k».proof.Proof.Gen.Kernel9Ideal.Frame
public import proofs.«01_k».proof.Proof.Gen.Reference9Ideal
public import proofs.«01_k».proof.Proof.GradX
public import proofs.«01_k».proof.Proof.Gen.Kernel10.Frame
public import proofs.«01_k».proof.Proof.Gen.Kernel10Ideal.Frame
public import proofs.«01_k».proof.Proof.Gen.Reference10Ideal
public import proofs.«01_k».proof.Proof.Loss
public import proofs.«01_k».proof.Proof.Gen.Kernel11.Frame
public import proofs.«01_k».proof.Proof.Gen.Kernel11Ideal.Frame
public import proofs.«01_k».proof.Proof.Gen.Reference11Ideal
public import proofs.«01_k».proof.Proof.AdamIn
public import proofs.«01_k».proof.Proof.Gen.Kernel12.Frame
public import proofs.«01_k».proof.Proof.Gen.Kernel12Ideal.Frame
public import proofs.«01_k».proof.Proof.Gen.Reference12Ideal
public import proofs.«01_k».proof.Proof.AdamUp
public import proofs.«01_k».proof.Proof.Gen.Kernel13.Frame
public import proofs.«01_k».proof.Proof.Gen.Kernel13Ideal.Frame
public import proofs.«01_k».proof.Proof.Gen.Reference13Ideal
public import proofs.«01_k».proof.Proof.AdamDown
public import proofs.«01_k».proof.Proof.Gen.Kernel14.Frame
public import proofs.«01_k».proof.Proof.Gen.Kernel14Ideal.Frame
public import proofs.«01_k».proof.Proof.Gen.Reference14Ideal
public import proofs.«01_k».proof.Proof.AdamOutA
public import proofs.«01_k».proof.Proof.Gen.Kernel15.Frame
public import proofs.«01_k».proof.Proof.Gen.Kernel15Ideal.Frame
public import proofs.«01_k».proof.Proof.Gen.Reference15Ideal
public import proofs.«01_k».proof.Proof.AdamOutB
public import proofs.«01_k».proof.Proof.Gen.Kernel16.Frame
public import proofs.«01_k».proof.Proof.Gen.Kernel16Ideal.Frame
public import proofs.«01_k».proof.Proof.Gen.Reference16Ideal
public import proofs.«01_k».proof.Proof.AdamO
public import proofs.«01_k».proof.Proof.Gen.Kernel17.Frame
public import proofs.«01_k».proof.Proof.Gen.Kernel17Ideal.Frame
public import proofs.«01_k».proof.Proof.Gen.Reference17Ideal
public import proofs.«01_k».proof.Proof.AdamPool
public import proofs.«01_k».proof.Proof.Gen.Kernel18.Frame
public import proofs.«01_k».proof.Proof.Gen.Kernel18Ideal.Frame
public import proofs.«01_k».proof.Proof.Gen.Reference18Ideal
public import proofs.«01_k».proof.Proof.AdamConvA
public import proofs.«01_k».proof.Proof.Gen.Kernel19.Frame
public import proofs.«01_k».proof.Proof.Gen.Kernel19Ideal.Frame
public import proofs.«01_k».proof.Proof.Gen.Reference19Ideal
public import proofs.«01_k».proof.Proof.AdamConvB
public import proofs.«01_k».proof.Proof.Gen.Kernel20
public import proofs.«01_k».proof.Proof.Gen.Kernel20Ideal
public import proofs.«01_k».proof.Proof.Gen.Reference20Ideal
public import proofs.«01_k».proof.Proof.LossAll
public import proofs.«01_k».proof.Proof.Gen.Kernel21.Frame
public import proofs.«01_k».proof.Proof.Gen.Kernel21Ideal.Frame
public import proofs.«01_k».proof.Proof.Norm
public import proofs.«01_k».proof.Proof.Gen.Kernel22.Frame
public import proofs.«01_k».proof.Proof.Gen.Kernel22Ideal.Frame
public import proofs.«01_k».proof.Proof.DUp
public import proofs.«01_k».proof.Proof.Gen.Kernel23.Frame
public import proofs.«01_k».proof.Proof.Gen.Kernel23Ideal.Frame
public import proofs.«01_k».proof.Proof.DwDown
public import proofs.«01_k».proof.Proof.Gen.Kernel24.Frame
public import proofs.«01_k».proof.Proof.Gen.Kernel24Ideal.Frame
public import proofs.«01_k».proof.Proof.DwPool
public import proofs.«01_k».proof.Proof.Gen.Kernel25.Frame
public import proofs.«01_k».proof.Proof.Gen.Kernel25Ideal.Frame
public import proofs.«01_k».proof.Proof.DwO
public import proofs.«01_k».proof.Proof.Gen.Kernel26.Frame
public import proofs.«01_k».proof.Proof.Gen.Kernel26Ideal.Frame
public import proofs.«01_k».proof.Proof.DwOutA
public import proofs.«01_k».proof.Proof.Gen.Kernel27.Frame
public import proofs.«01_k».proof.Proof.Gen.Kernel27Ideal.Frame
public import proofs.«01_k».proof.Proof.DwOutB
public import proofs.«01_k».proof.Proof.MixA
public import proofs.«01_k».proof.Proof.Gen.Kernel28.Frame
public import proofs.«01_k».proof.Proof.Gen.Kernel28Ideal.Frame
public import Idealize.ShloMosaic.Lib.Claim
public import Idealize.ShloMosaic.Adequacy
public import Idealize.ShloMosaic.Init

@[expose] public section

noncomputable section

namespace Cert.Proof

open Idealize.ShloMosaic Idealize.SL.Sem

/-- All claims: the frames of all the calls, then for each call that the ideal kernel keeps the kernel's text and that it
    agrees with the reference. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    fun m ρ _ => Cert.Kernel.Gen.frame m ρ, fun m ρ _ => Cert.KernelIdeal.Gen.frame m ρ, Cert.Merge.frame_reference,
    fun m ρ _ => Cert.Kernel2.Gen.frame m ρ, fun m ρ _ => Cert.Kernel2Ideal.Gen.frame m ρ, Cert.DwIn.frame_reference,
    fun m ρ _ => Cert.Kernel3.Gen.frame m ρ, fun m ρ _ => Cert.Kernel3Ideal.Gen.frame m ρ, Cert.DHidden.frame_reference,
    fun m ρ _ => Cert.Kernel4.Gen.frame m ρ, fun m ρ _ => Cert.Kernel4Ideal.Gen.frame m ρ, Cert.DAct.frame_reference,
    fun m ρ _ => Cert.Kernel5.Gen.frame m ρ, fun m ρ _ => Cert.Kernel5Ideal.Gen.frame m ρ, Cert.DwUp.frame_reference,
    fun m ρ _ => Cert.Kernel6.Gen.frame m ρ, fun m ρ _ => Cert.Kernel6Ideal.Gen.frame m ρ, Cert.InProj.frame_reference,
    fun m ρ _ => Cert.Kernel7.Gen.frame m ρ, fun m ρ _ => Cert.Kernel7Ideal.Gen.frame m ρ, Cert.MlpUp.frame_reference,
    fun m ρ _ => Cert.Kernel8.Gen.frame m ρ, fun m ρ _ => Cert.Kernel8Ideal.Gen.frame m ρ, Cert.MlpDown.frame_reference,
    fun m ρ _ => Cert.Kernel9.Gen.frame m ρ, fun m ρ _ => Cert.Kernel9Ideal.Gen.frame m ρ, Cert.GradX.frame_reference,
    fun m ρ _ => Cert.Kernel10.Gen.frame m ρ, fun m ρ _ => Cert.Kernel10Ideal.Gen.frame m ρ, Cert.Loss.frame_reference,
    fun m ρ _ => Cert.Kernel11.Gen.frame m ρ, fun m ρ _ => Cert.Kernel11Ideal.Gen.frame m ρ, Cert.AdamIn.frame_reference,
    fun m ρ _ => Cert.Kernel12.Gen.frame m ρ, fun m ρ _ => Cert.Kernel12Ideal.Gen.frame m ρ, Cert.AdamUp.frame_reference,
    fun m ρ _ => Cert.Kernel13.Gen.frame m ρ, fun m ρ _ => Cert.Kernel13Ideal.Gen.frame m ρ, Cert.AdamDown.frame_reference,
    fun m ρ _ => Cert.Kernel14.Gen.frame m ρ, fun m ρ _ => Cert.Kernel14Ideal.Gen.frame m ρ, Cert.AdamOutA.frame_reference,
    fun m ρ _ => Cert.Kernel15.Gen.frame m ρ, fun m ρ _ => Cert.Kernel15Ideal.Gen.frame m ρ, Cert.AdamOutB.frame_reference,
    fun m ρ _ => Cert.Kernel16.Gen.frame m ρ, fun m ρ _ => Cert.Kernel16Ideal.Gen.frame m ρ, Cert.AdamO.frame_reference,
    fun m ρ _ => Cert.Kernel17.Gen.frame m ρ, fun m ρ _ => Cert.Kernel17Ideal.Gen.frame m ρ, Cert.AdamPool.frame_reference,
    fun m ρ _ => Cert.Kernel18.Gen.frame m ρ, fun m ρ _ => Cert.Kernel18Ideal.Gen.frame m ρ, Cert.AdamConvA.frame_reference,
    fun m ρ _ => Cert.Kernel19.Gen.frame m ρ, fun m ρ _ => Cert.Kernel19Ideal.Gen.frame m ρ, Cert.AdamConvB.frame_reference,
    Cert.LossAll.frame_kernel, Cert.LossAll.frame_ideal, Cert.LossAll.frame_reference,
    fun m ρ _ => Cert.Kernel21.Gen.frame m ρ, fun m ρ _ => Cert.Kernel21Ideal.Gen.frame m ρ, Cert.Norm.frame_reference,
    fun m ρ _ => Cert.Kernel22.Gen.frame m ρ, fun m ρ _ => Cert.Kernel22Ideal.Gen.frame m ρ, Cert.DUp.frame_reference,
    fun m ρ _ => Cert.Kernel23.Gen.frame m ρ, fun m ρ _ => Cert.Kernel23Ideal.Gen.frame m ρ, Cert.DwDown.frame_reference,
    fun m ρ _ => Cert.Kernel24.Gen.frame m ρ, fun m ρ _ => Cert.Kernel24Ideal.Gen.frame m ρ, Cert.DwPool.frame_reference,
    fun m ρ _ => Cert.Kernel25.Gen.frame m ρ, fun m ρ _ => Cert.Kernel25Ideal.Gen.frame m ρ, Cert.DwO.frame_reference,
    fun m ρ _ => Cert.Kernel26.Gen.frame m ρ, fun m ρ _ => Cert.Kernel26Ideal.Gen.frame m ρ, Cert.DwOutA.frame_reference,
    fun m ρ _ => Cert.Kernel27.Gen.frame m ρ, fun m ρ _ => Cert.Kernel27Ideal.Gen.frame m ρ, Cert.DwOutB.frame_reference,
    fun m ρ _ => Cert.Kernel28.Gen.frame m ρ, fun m ρ _ => Cert.Kernel28Ideal.Gen.frame m ρ, Cert.MixA.frame_reference,
    trivial, Cert.Merge.algebraic,
    trivial, Cert.DwIn.algebraic,
    trivial, Cert.DHidden.algebraic,
    trivial, Cert.DAct.algebraic,
    trivial, Cert.DwUp.algebraic,
    trivial, Cert.InProj.algebraic,
    trivial, Cert.MlpUp.algebraic,
    trivial, Cert.MlpDown.algebraic,
    trivial, Cert.GradX.algebraic,
    trivial, Cert.Loss.algebraic,
    trivial, Cert.AdamIn.algebraic,
    trivial, Cert.AdamUp.algebraic,
    trivial, Cert.AdamDown.algebraic,
    trivial, Cert.AdamOutA.algebraic,
    trivial, Cert.AdamOutB.algebraic,
    trivial, Cert.AdamO.algebraic,
    trivial, Cert.AdamPool.algebraic,
    trivial, Cert.AdamConvA.algebraic,
    trivial, Cert.AdamConvB.algebraic,
    trivial, Cert.LossAll.algebraic,
    trivial, Cert.Norm.algebraic,
    trivial, Cert.DUp.algebraic,
    trivial, Cert.DwDown.algebraic,
    trivial, Cert.DwPool.algebraic,
    trivial, Cert.DwO.algebraic,
    trivial, Cert.DwOutA.algebraic,
    trivial, Cert.DwOutB.algebraic,
    trivial, Cert.MixA.algebraic⟩

end Cert.Proof

end
